-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "big" .f32 0x501502F9#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x128x128 : Shape := ⟨3, ![8, 128, 128]⟩
abbrev S_ : Shape := ⟨0, ![]⟩

class Facts : Prop where
  bcast_S_S8x128x128 : S_.BroadcastsInDim S8x128x128 (![] : Fin 0 → Fin S8x128x128.rank)

variable [Facts]

def fn {F : FTy → Type} [FloatOps F] (main_arg0 : FVec F S8x128x128 .f32) : IVec S8x128x128 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  main_v2
-- ==== Kernel.lean ====
abbrev S8x128x128 : Shape := ⟨3, ![8, 128, 128]⟩
abbrev S128x8x128 : Shape := ⟨3, ![128, 8, 128]⟩
abbrev S128x128 : Shape := ⟨2, ![128, 128]⟩
abbrev S256x8x128 : Shape := ⟨3, ![256, 8, 128]⟩
abbrev S1x8x128 : Shape := ⟨3, ![1, 8, 128]⟩
abbrev S127x8x128 : Shape := ⟨3, ![127, 8, 128]⟩
abbrev S2x8x128 : Shape := ⟨3, ![2, 8, 128]⟩
abbrev S126x8x128 : Shape := ⟨3, ![126, 8, 128]⟩
abbrev S4x8x128 : Shape := ⟨3, ![4, 8, 128]⟩
abbrev S124x8x128 : Shape := ⟨3, ![124, 8, 128]⟩
abbrev S8x8x128 : Shape := ⟨3, ![8, 8, 128]⟩
abbrev S120x8x128 : Shape := ⟨3, ![120, 8, 128]⟩
abbrev S16x8x128 : Shape := ⟨3, ![16, 8, 128]⟩
abbrev S112x8x128 : Shape := ⟨3, ![112, 8, 128]⟩
abbrev S32x8x128 : Shape := ⟨3, ![32, 8, 128]⟩
abbrev S96x8x128 : Shape := ⟨3, ![96, 8, 128]⟩
abbrev S64x8x128 : Shape := ⟨3, ![64, 8, 128]⟩
abbrev S128x8x1 : Shape := ⟨3, ![128, 8, 1]⟩
abbrev S128x8x127 : Shape := ⟨3, ![128, 8, 127]⟩
abbrev S128x8x2 : Shape := ⟨3, ![128, 8, 2]⟩
abbrev S128x8x126 : Shape := ⟨3, ![128, 8, 126]⟩
abbrev S128x8x3 : Shape := ⟨3, ![128, 8, 3]⟩
abbrev S128x8x125 : Shape := ⟨3, ![128, 8, 125]⟩
abbrev S8x128 : Shape := ⟨2, ![8, 128]⟩
abbrev S8x1 : Shape := ⟨2, ![8, 1]⟩
abbrev S8x4 : Shape := ⟨2, ![8, 4]⟩
abbrev S8x124 : Shape := ⟨2, ![8, 124]⟩
abbrev S8x127 : Shape := ⟨2, ![8, 127]⟩
abbrev S8x126 : Shape := ⟨2, ![8, 126]⟩
abbrev S8x2 : Shape := ⟨2, ![8, 2]⟩
abbrev S8x125 : Shape := ⟨2, ![8, 125]⟩
abbrev S8x3 : Shape := ⟨2, ![8, 3]⟩
abbrev S256x128 : Shape := ⟨2, ![256, 128]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S248x128 : Shape := ⟨2, ![248, 128]⟩
abbrev S240x128 : Shape := ⟨2, ![240, 128]⟩
abbrev S16x128 : Shape := ⟨2, ![16, 128]⟩
abbrev S224x128 : Shape := ⟨2, ![224, 128]⟩
abbrev S32x128 : Shape := ⟨2, ![32, 128]⟩
abbrev S192x128 : Shape := ⟨2, ![192, 128]⟩
abbrev S64x128 : Shape := ⟨2, ![64, 128]⟩

abbrev nBuf : Space → Nat
  | .hbm => 3
  | .vmem => 19
  | .smem => 0
  | _ => 0

abbrev bufTy : (tb : Table) → Fin (tcTables nBuf tb) → BufTy
  | .hbm, ⟨0, _⟩ => ⟨S8x128x128, .f32⟩
  | .hbm, ⟨1, _⟩ => ⟨S128x8x128, .f32⟩
  | .hbm, ⟨2, _⟩ => ⟨S128x128, .f32⟩
  | .local _ .vmem, ⟨0, _⟩ => ⟨S128x8x128, .f32⟩
  | .local _ .vmem, ⟨1, _⟩ => ⟨S128x128, .f32⟩
  | .local _ .vmem, ⟨2, _⟩ => ⟨S128x8x128, .f32⟩
  | .local _ .vmem, ⟨3, _⟩ => ⟨S128x8x128, .f32⟩
  | .local _ .vmem, ⟨4, _⟩ => ⟨S128x8x128, .f32⟩
  | .local _ .vmem, ⟨5, _⟩ => ⟨S128x8x128, .f32⟩
  | .local _ .vmem, ⟨6, _⟩ => ⟨S256x8x128, .f32⟩
  | .local _ .vmem, ⟨7, _⟩ => ⟨S256x8x128, .f32⟩
  | .local _ .vmem, ⟨8, _⟩ => ⟨S256x8x128, .f32⟩
  | .local _ .vmem, ⟨9, _⟩ => ⟨S256x8x128, .f32⟩
  | .local _ .vmem, ⟨10, _⟩ => ⟨S256x8x128, .f32⟩
  | .local _ .vmem, ⟨11, _⟩ => ⟨S256x8x128, .f32⟩
  | .local _ .vmem, ⟨12, _⟩ => ⟨S256x8x128, .f32⟩
  | .local _ .vmem, ⟨13, _⟩ => ⟨S256x8x128, .f32⟩
  | .local _ .vmem, ⟨14, _⟩ => ⟨S256x8x128, .f32⟩
  | .local _ .vmem, ⟨15, _⟩ => ⟨S256x8x128, .f32⟩
  | .local _ .vmem, ⟨16, _⟩ => ⟨S256x8x128, .f32⟩
  | .local _ .vmem, ⟨17, _⟩ => ⟨S256x8x128, .f32⟩
  | .local _ .vmem, ⟨18, _⟩ => ⟨S256x8x128, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c1_i32_46 : BitVec 32 := 1#32
  let c254_i32 : BitVec 32 := 254#32
  let v128 : BitVec 32 := Scalar.addi c1_i32_46 c254_i32
  let c1_i32_47 : BitVec 32 := 1#32
  ⟨c1_i32_46, v128, c1_i32_47⟩
def k0_off1 (k0_t1 : Fin k0_t1_loop.trips) : Fin 3 → Nat :=
  let c1_i32_46 : BitVec 32 := 1#32
  let c1_i32_47 : BitVec 32 := 1#32
  let arg19 : BitVec 32 := Scf.iv c1_i32_46 c1_i32_47 k0_t1
  let c128_i32 : BitVec 32 := 128#32
  let v260 : BitVec 1 := Scalar.cmpi .slt arg19 c128_i32
  let c128_i32_112 : BitVec 32 := 128#32
  let v261 : BitVec 32 := Scalar.subi arg19 c128_i32_112
  let v262 : BitVec 32 := Scalar.select v260 arg19 v261
  let v263 : Index := Scalar.indexCast v262
  let c0_113 : Index := 0#32
  let c0_114 : Index := 0#32
  ![v263.toNat, 0, 0]
def k0_off2 (k0_t1 : Fin k0_t1_loop.trips) : Fin 3 → Nat :=
  let c1_i32_46 : BitVec 32 := 1#32
  let c1_i32_47 : BitVec 32 := 1#32
  let arg19 : BitVec 32 := Scf.iv c1_i32_46 c1_i32_47 k0_t1
  let v362 : Index := Scalar.indexCast arg19
  let c0_133 : Index := 0#32
  let c0_134 : Index := 0#32
  ![v362.toNat, 0, 0]
@[reducible] def k0_t2_loop : Scf.Loop 32 :=
  let c0_i32_80 : BitVec 32 := 0#32
  let c254_i32_81 : BitVec 32 := 254#32
  let v181 : BitVec 32 := Scalar.addi c0_i32_80 c254_i32_81
  let c1_i32_82 : BitVec 32 := 1#32
  ⟨c0_i32_80, v181, c1_i32_82⟩
def k0_off3 (k0_t2 : Fin k0_t2_loop.trips) (c1_i32_112 : BitVec 32) : Fin 3 → Nat :=
  let c253_i32 : BitVec 32 := 253#32
  let c0_i32_80 : BitVec 32 := 0#32
  let c1_i32_82 : BitVec 32 := 1#32
  let arg19 : BitVec 32 := Scf.iv c0_i32_80 c1_i32_82 k0_t2
  let v260 : BitVec 32 := Scalar.subi c253_i32 arg19
  let v261 : BitVec 32 := Scalar.addi v260 c1_i32_112
  let v262 : Index := Scalar.indexCast v261
  let c0_113 : Index := 0#32
  let c0_114 : Index := 0#32
  ![v262.toNat, 0, 0]
def k0_off4 (k0_t2 : Fin k0_t2_loop.trips) : Fin 3 → Nat :=
  let c253_i32 : BitVec 32 := 253#32
  let c0_i32_80 : BitVec 32 := 0#32
  let c1_i32_82 : BitVec 32 := 1#32
  let arg19 : BitVec 32 := Scf.iv c0_i32_80 c1_i32_82 k0_t2
  let v260 : BitVec 32 := Scalar.subi c253_i32 arg19
  let v337 : Index := Scalar.indexCast v260
  let c0_150 : Index := 0#32
  let c0_151 : Index := 0#32
  ![v337.toNat, 0, 0]
abbrev stage0_0 : Fin 1 → Memref sig .tc .vmem S128x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "big" => some ⊤
  | "log2e" => some (((Real.log 2)⁻¹ : ℝ) : EReal)
  | _ => none
-- ==== ReferenceIdeal.lean ====
abbrev S8x128x128 : Shape := ⟨3, ![8, 128, 128]⟩
abbrev S_ : Shape := ⟨0, ![]⟩
abbrev S8x129x129 : Shape := ⟨3, ![8, 129, 129]⟩
abbrev S8x1x1 : Shape := ⟨3, ![8, 1, 1]⟩
abbrev S8x130x130 : Shape := ⟨3, ![8, 130, 130]⟩
abbrev S128x128 : Shape := ⟨2, ![128, 128]⟩

abbrev nBuf : Space → Nat
  | .hbm => 180
  | .vmem => 0
  | .smem => 0
  | _ => 0

abbrev hbmTy0_0 (i : Nat) : BufTy := match i % 128 with
  | 0 => ⟨S8x128x128, .f32⟩
  | 1 => ⟨S_, .f32⟩
  | 2 => ⟨S8x129x129, .f32⟩
  | 3 => ⟨S_, .f32⟩
  | 4 => ⟨S8x1x1, .f32⟩
  | 5 => ⟨S_, .i32⟩
  | 6 => ⟨S_, .i32⟩
  | 7 => ⟨S_, .i32⟩
  | 8 => ⟨S8x129x129, .f32⟩
  | 9 => ⟨S_, .f32⟩
  | 10 => ⟨S8x130x130, .f32⟩
  | 11 => ⟨S_, .i32⟩
  | 12 => ⟨S_, .i32⟩
  | 13 => ⟨S8x128x128, .f32⟩
  | 14 => ⟨S_, .i32⟩
  | 15 => ⟨S_, .i32⟩
  | 16 => ⟨S8x129x129, .f32⟩
  | 17 => ⟨S8x130x130, .f32⟩
  | 18 => ⟨S8x130x130, .f32⟩
  | 19 => ⟨S8x130x130, .f32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S8x1x1, .f32⟩
  | 32 => ⟨S_, .i32⟩
  | 33 => ⟨S8x1x1, .f32⟩
  | 34 => ⟨S_, .i32⟩
  | 35 => ⟨S_, .i32⟩
  | 36 => ⟨S_, .i32⟩
  | 37 => ⟨S8x1x1, .f32⟩
  | 38 => ⟨S8x1x1, .f32⟩
  | 39 => ⟨S_, .f32⟩
  | 40 => ⟨S8x1x1, .f32⟩
  | 41 => ⟨S8x1x1, .f32⟩
  | 42 => ⟨S8x1x1, .f32⟩
  | 43 => ⟨S_, .f32⟩
  | 44 => ⟨S8x1x1, .f32⟩
  | 45 => ⟨S8x1x1, .f32⟩
  | 46 => ⟨S8x1x1, .f32⟩
  | 47 => ⟨S_, .f32⟩
  | 48 => ⟨S8x1x1, .f32⟩
  | 49 => ⟨S8x1x1, .f32⟩
  | 50 => ⟨S8x1x1, .f32⟩
  | 51 => ⟨S8x1x1, .f32⟩
  | 52 => ⟨S8x1x1, .f32⟩
  | 53 => ⟨S8x1x1, .f32⟩
  | 54 => ⟨S8x1x1, .f32⟩
  | 55 => ⟨S8x1x1, .f32⟩
  | 56 => ⟨S8x1x1, .f32⟩
  | 57 => ⟨S8x1x1, .f32⟩
  | 58 => ⟨S8x1x1, .f32⟩
  | 59 => ⟨S8x1x1, .f32⟩
  | 60 => ⟨S8x1x1, .f32⟩
  | 61 => ⟨S8x1x1, .f32⟩
  | 62 => ⟨S_, .f32⟩
  | 63 => ⟨S8x1x1, .f32⟩
  | 64 => ⟨S8x1x1, .f32⟩
  | 65 => ⟨S8x1x1, .f32⟩
  | 66 => ⟨S8x1x1, .f32⟩
  | 67 => ⟨S8x1x1, .f32⟩
  | 68 => ⟨S_, .i32⟩
  | 69 => ⟨S8x1x1, .f32⟩
  | 70 => ⟨S8x1x1, .f32⟩
  | 71 => ⟨S_, .i32⟩
  | 72 => ⟨S_, .i32⟩
  | 73 => ⟨S_, .i32⟩
  | 74 => ⟨S_, .i32⟩
  | 75 => ⟨S_, .i32⟩
  | 76 => ⟨S8x129x129, .f32⟩
  | 77 => ⟨S_, .i32⟩
  | 78 => ⟨S_, .i32⟩
  | 79 => ⟨S_, .i32⟩
  | 80 => ⟨S_, .i32⟩
  | 81 => ⟨S_, .i32⟩
  | 82 => ⟨S8x130x130, .f32⟩
  | 83 => ⟨S_, .i32⟩
  | 84 => ⟨S_, .i32⟩
  | 85 => ⟨S_, .i32⟩
  | 86 => ⟨S_, .i32⟩
  | 87 => ⟨S_, .i32⟩
  | 88 => ⟨S8x130x130, .f32⟩
  | 89 => ⟨S_, .i32⟩
  | 90 => ⟨S_, .i32⟩
  | 91 => ⟨S_, .i32⟩
  | 92 => ⟨S_, .i32⟩
  | 93 => ⟨S_, .i32⟩
  | 94 => ⟨S8x130x130, .f32⟩
  | 95 => ⟨S_, .i32⟩
  | 96 => ⟨S_, .i32⟩
  | 97 => ⟨S_, .f32⟩
  | 98 => ⟨S8x1x1, .f32⟩
  | 99 => ⟨S_, .i32⟩
  | 100 => ⟨S_, .i32⟩
  | 101 => ⟨S_, .i32⟩
  | 102 => ⟨S8x130x130, .f32⟩
  | 103 => ⟨S_, .i32⟩
  | 104 => ⟨S_, .i32⟩
  | 105 => ⟨S_, .i32⟩
  | 106 => ⟨S8x130x130, .f32⟩
  | 107 => ⟨S_, .i32⟩
  | 108 => ⟨S_, .i32⟩
  | 109 => ⟨S_, .i32⟩
  | 110 => ⟨S8x130x130, .f32⟩
  | 111 => ⟨S_, .f32⟩
  | 112 => ⟨S8x130x130, .f32⟩
  | 113 => ⟨S_, .i32⟩
  | 114 => ⟨S_, .i32⟩
  | 115 => ⟨S_, .i32⟩
  | 116 => ⟨S8x130x130, .f32⟩
  | 117 => ⟨S_, .i32⟩
  | 118 => ⟨S_, .i32⟩
  | 119 => ⟨S8x130x130, .f32⟩
  | 120 => ⟨S8x130x130, .f32⟩
  | 121 => ⟨S8x130x130, .f32⟩
  | 122 => ⟨S_, .i32⟩
  | 123 => ⟨S_, .i32⟩
  | 124 => ⟨S8x130x130, .f32⟩
  | 125 => ⟨S_, .i32⟩
  | 126 => ⟨S_, .i1⟩
  | 127 => ⟨S_, .i32⟩
  | _ => ⟨S8x128x128, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S8x1x1, .f32⟩
  | 13 => ⟨S_, .i32⟩
  | 14 => ⟨S_, .i32⟩
  | 15 => ⟨S_, .i32⟩
  | 16 => ⟨S8x1x1, .f32⟩
  | 17 => ⟨S8x1x1, .f32⟩
  | 18 => ⟨S_, .i32⟩
  | 19 => ⟨S_, .i32⟩
  | 20 => ⟨S_, .i32⟩
  | 21 => ⟨S_, .i32⟩
  | 22 => ⟨S_, .i32⟩
  | 23 => ⟨S8x1x1, .f32⟩
  | 24 => ⟨S_, .i32⟩
  | 25 => ⟨S_, .i32⟩
  | 26 => ⟨S_, .i32⟩
  | 27 => ⟨S_, .i32⟩
  | 28 => ⟨S_, .i32⟩
  | 29 => ⟨S8x1x1, .f32⟩
  | 30 => ⟨S8x1x1, .f32⟩
  | 31 => ⟨S8x1x1, .f32⟩
  | 32 => ⟨S_, .i32⟩
  | 33 => ⟨S_, .i32⟩
  | 34 => ⟨S_, .i32⟩
  | 35 => ⟨S8x1x1, .f32⟩
  | 36 => ⟨S_, .i32⟩
  | 37 => ⟨S_, .i32⟩
  | 38 => ⟨S_, .i32⟩
  | 39 => ⟨S8x1x1, .f32⟩
  | 40 => ⟨S8x1x1, .f32⟩
  | 41 => ⟨S8x1x1, .f32⟩
  | 42 => ⟨S_, .i32⟩
  | 43 => ⟨S8x130x130, .f32⟩
  | 44 => ⟨S_, .i32⟩
  | 45 => ⟨S_, .i32⟩
  | 46 => ⟨S8x128x128, .f32⟩
  | 47 => ⟨S_, .f32⟩
  | 48 => ⟨S128x128, .f32⟩
  | 49 => ⟨S_, .f32⟩
  | 50 => ⟨S128x128, .f32⟩
  | 51 => ⟨S128x128, .f32⟩
  | _ => ⟨S8x128x128, .f32⟩

abbrev hbmTy (i : Nat) : BufTy := match i / 128 with
  | 0 => hbmTy0_0 i
  | 1 => hbmTy0_1 i
  | _ => ⟨S8x128x128, .f32⟩

abbrev bufTy : (tb : Table) → Fin (tcTables nBuf tb) → BufTy
  | .hbm, ⟨i, _⟩ => hbmTy i
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_c_1 : Ref sig .tc := ⟨.hbm, 6, rfl⟩
abbrev main_c_2 : Ref sig .tc := ⟨.hbm, 7, rfl⟩
abbrev main_v2 : Ref sig .tc := ⟨.hbm, 8, rfl⟩
abbrev main_cst_3 : Ref sig .tc := ⟨.hbm, 9, rfl⟩
abbrev main_v3 : Ref sig .tc := ⟨.hbm, 10, rfl⟩
abbrev main_c_4 : Ref sig .tc := ⟨.hbm, 11, rfl⟩
abbrev main_c_5 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_while0c_c_30 : Ref sig .tc := ⟨.hbm, 20, rfl⟩
abbrev main_while0c_v16 : Ref sig .tc := ⟨.hbm, 21, rfl⟩
abbrev main_while0b_c_30 : Ref sig .tc := ⟨.hbm, 22, rfl⟩
abbrev main_while0b_v16 : Ref sig .tc := ⟨.hbm, 23, rfl⟩
abbrev main_while0b_c_31 : Ref sig .tc := ⟨.hbm, 24, rfl⟩
abbrev main_while0b_v17 : Ref sig .tc := ⟨.hbm, 25, rfl⟩
abbrev main_while0b_c_32 : Ref sig .tc := ⟨.hbm, 26, rfl⟩
abbrev main_while0b_v18 : Ref sig .tc := ⟨.hbm, 27, rfl⟩
abbrev main_while0b_c_33 : Ref sig .tc := ⟨.hbm, 28, rfl⟩
abbrev main_while0b_v19 : Ref sig .tc := ⟨.hbm, 29, rfl⟩
abbrev main_while0b_c_34 : Ref sig .tc := ⟨.hbm, 30, rfl⟩
abbrev main_while0b_v20 : Ref sig .tc := ⟨.hbm, 31, rfl⟩
abbrev main_while0b_c_35 : Ref sig .tc := ⟨.hbm, 32, rfl⟩
abbrev main_while0b_v21 : Ref sig .tc := ⟨.hbm, 33, rfl⟩
abbrev main_while0b_c_36 : Ref sig .tc := ⟨.hbm, 34, rfl⟩
abbrev main_while0b_v22 : Ref sig .tc := ⟨.hbm, 35, rfl⟩
abbrev main_while0b_c_37 : Ref sig .tc := ⟨.hbm, 36, rfl⟩
abbrev main_while0b_v23 : Ref sig .tc := ⟨.hbm, 37, rfl⟩
abbrev main_while0b_v24 : Ref sig .tc := ⟨.hbm, 38, rfl⟩
abbrev main_while0b_cst_38 : Ref sig .tc := ⟨.hbm, 39, rfl⟩
abbrev main_while0b_v25 : Ref sig .tc := ⟨.hbm, 40, rfl⟩
abbrev main_while0b_v26 : Ref sig .tc := ⟨.hbm, 41, rfl⟩
abbrev main_while0b_v27 : Ref sig .tc := ⟨.hbm, 42, rfl⟩
abbrev main_while0b_cst_39 : Ref sig .tc := ⟨.hbm, 43, rfl⟩
abbrev main_while0b_v28 : Ref sig .tc := ⟨.hbm, 44, rfl⟩
abbrev main_while0b_v29 : Ref sig .tc := ⟨.hbm, 45, rfl⟩
abbrev main_while0b_v30 : Ref sig .tc := ⟨.hbm, 46, rfl⟩
abbrev main_while0b_cst_40 : Ref sig .tc := ⟨.hbm, 47, rfl⟩
abbrev main_while0b_v31 : Ref sig .tc := ⟨.hbm, 48, rfl⟩
abbrev main_while0b_v32 : Ref sig .tc := ⟨.hbm, 49, rfl⟩
abbrev main_while0b_v33 : Ref sig .tc := ⟨.hbm, 50, rfl⟩
abbrev main_while0b_v34 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_cst_41 : Ref sig .tc := ⟨.hbm, 62, rfl⟩
abbrev main_while0b_v45 : Ref sig .tc := ⟨.hbm, 63, rfl⟩
abbrev main_while0b_v46 : Ref sig .tc := ⟨.hbm, 64, rfl⟩
abbrev main_while0b_v47 : Ref sig .tc := ⟨.hbm, 65, rfl⟩
abbrev main_while0b_v48 : Ref sig .tc := ⟨.hbm, 66, rfl⟩
abbrev main_while0b_v49 : Ref sig .tc := ⟨.hbm, 67, rfl⟩
abbrev main_while0b_c_42 : Ref sig .tc := ⟨.hbm, 68, rfl⟩
abbrev main_while0b_v50 : Ref sig .tc := ⟨.hbm, 69, rfl⟩
abbrev main_while0b_v51 : Ref sig .tc := ⟨.hbm, 70, rfl⟩
abbrev main_while0b_c_43 : Ref sig .tc := ⟨.hbm, 71, rfl⟩
abbrev main_while0b_v52 : Ref sig .tc := ⟨.hbm, 72, rfl⟩
abbrev main_while0b_c_44 : Ref sig .tc := ⟨.hbm, 73, rfl⟩
abbrev main_while0b_v53 : Ref sig .tc := ⟨.hbm, 74, rfl⟩
abbrev main_while0b_c_45 : Ref sig .tc := ⟨.hbm, 75, rfl⟩
abbrev main_while0b_v54 : Ref sig .tc := ⟨.hbm, 76, rfl⟩
abbrev main_while0b_c_46 : Ref sig .tc := ⟨.hbm, 77, rfl⟩
abbrev main_while0b_v55 : Ref sig .tc := ⟨.hbm, 78, rfl⟩
abbrev main_while0b_c_47 : Ref sig .tc := ⟨.hbm, 79, rfl⟩
abbrev main_while0b_v56 : Ref sig .tc := ⟨.hbm, 80, rfl⟩
abbrev main_while0b_c_48 : Ref sig .tc := ⟨.hbm, 81, rfl⟩
abbrev main_while0b_v57 : Ref sig .tc := ⟨.hbm, 82, rfl⟩
abbrev main_while0b_c_49 : Ref sig .tc := ⟨.hbm, 83, rfl⟩
abbrev main_while0b_v58 : Ref sig .tc := ⟨.hbm, 84, rfl⟩
abbrev main_while0b_c_50 : Ref sig .tc := ⟨.hbm, 85, rfl⟩
abbrev main_while0b_v59 : Ref sig .tc := ⟨.hbm, 86, rfl⟩
abbrev main_while0b_c_51 : Ref sig .tc := ⟨.hbm, 87, rfl⟩
abbrev main_while0b_v60 : Ref sig .tc := ⟨.hbm, 88, rfl⟩
abbrev main_while0b_c_52 : Ref sig .tc := ⟨.hbm, 89, rfl⟩
abbrev main_while0b_v61 : Ref sig .tc := ⟨.hbm, 90, rfl⟩
abbrev main_while0b_c_53 : Ref sig .tc := ⟨.hbm, 91, rfl⟩
abbrev main_while0b_v62 : Ref sig .tc := ⟨.hbm, 92, rfl⟩
abbrev main_while0b_c_54 : Ref sig .tc := ⟨.hbm, 93, rfl⟩
abbrev main_while0b_v63 : Ref sig .tc := ⟨.hbm, 94, rfl⟩
abbrev main_while0b_c_55 : Ref sig .tc := ⟨.hbm, 95, rfl⟩
abbrev main_while0b_v64 : Ref sig .tc := ⟨.hbm, 96, rfl⟩
abbrev main_cst_6 : Ref sig .tc := ⟨.hbm, 97, rfl⟩
abbrev main_v5 : Ref sig .tc := ⟨.hbm, 98, rfl⟩
abbrev main_c_7 : Ref sig .tc := ⟨.hbm, 99, rfl⟩
abbrev main_c_8 : Ref sig .tc := ⟨.hbm, 100, rfl⟩
abbrev main_c_9 : Ref sig .tc := ⟨.hbm, 101, rfl⟩
abbrev main_v6 : Ref sig .tc := ⟨.hbm, 102, rfl⟩
abbrev main_c_10 : Ref sig .tc := ⟨.hbm, 103, rfl⟩
abbrev main_c_11 : Ref sig .tc := ⟨.hbm, 104, rfl⟩
abbrev main_c_12 : Ref sig .tc := ⟨.hbm, 105, rfl⟩
abbrev main_v7 : Ref sig .tc := ⟨.hbm, 106, rfl⟩
abbrev main_c_13 : Ref sig .tc := ⟨.hbm, 107, rfl⟩
abbrev main_c_14 : Ref sig .tc := ⟨.hbm, 108, rfl⟩
abbrev main_c_15 : Ref sig .tc := ⟨.hbm, 109, rfl⟩
abbrev main_v8 : Ref sig .tc := ⟨.hbm, 110, rfl⟩
abbrev main_cst_16 : Ref sig .tc := ⟨.hbm, 111, rfl⟩
abbrev main_v9 : Ref sig .tc := ⟨.hbm, 112, rfl⟩
abbrev main_c_17 : Ref sig .tc := ⟨.hbm, 113, rfl⟩
abbrev main_c_18 : Ref sig .tc := ⟨.hbm, 114, rfl⟩
abbrev main_c_19 : Ref sig .tc := ⟨.hbm, 115, rfl⟩
abbrev main_v10 : Ref sig .tc := ⟨.hbm, 116, rfl⟩
abbrev main_c_20 : Ref sig .tc := ⟨.hbm, 117, rfl⟩
abbrev main_c_21 : Ref sig .tc := ⟨.hbm, 118, rfl⟩
abbrev main_v11_0 : Ref sig .tc := ⟨.hbm, 119, rfl⟩
abbrev main_v11_1 : Ref sig .tc := ⟨.hbm, 120, rfl⟩
abbrev main_v11_2 : Ref sig .tc := ⟨.hbm, 121, rfl⟩
abbrev main_v11_3 : Ref sig .tc := ⟨.hbm, 122, rfl⟩
abbrev main_v11_4 : Ref sig .tc := ⟨.hbm, 123, rfl⟩
abbrev main_v11_5 : Ref sig .tc := ⟨.hbm, 124, rfl⟩
abbrev main_while1c_c_29 : Ref sig .tc := ⟨.hbm, 125, rfl⟩
abbrev main_while1c_v16 : Ref sig .tc := ⟨.hbm, 126, rfl⟩
abbrev main_while1b_c_29 : Ref sig .tc := ⟨.hbm, 127, rfl⟩
abbrev main_while1b_v16 : Ref sig .tc := ⟨.hbm, 128, rfl⟩
abbrev main_while1b_c_30 : Ref sig .tc := ⟨.hbm, 129, rfl⟩
abbrev main_while1b_v17 : Ref sig .tc := ⟨.hbm, 130, rfl⟩
abbrev main_while1b_c_31 : Ref sig .tc := ⟨.hbm, 131, rfl⟩
abbrev main_while1b_v18 : Ref sig .tc := ⟨.hbm, 132, rfl⟩
abbrev main_while1b_c_32 : Ref sig .tc := ⟨.hbm, 133, rfl⟩
abbrev main_while1b_v19 : Ref sig .tc := ⟨.hbm, 134, rfl⟩
abbrev main_while1b_c_33 : Ref sig .tc := ⟨.hbm, 135, rfl⟩
abbrev main_while1b_v20 : Ref sig .tc := ⟨.hbm, 136, rfl⟩
abbrev main_while1b_c_34 : Ref sig .tc := ⟨.hbm, 137, rfl⟩
abbrev main_while1b_v21 : Ref sig .tc := ⟨.hbm, 138, rfl⟩
abbrev main_while1b_c_35 : Ref sig .tc := ⟨.hbm, 139, rfl⟩
abbrev main_while1b_v22 : Ref sig .tc := ⟨.hbm, 140, rfl⟩
abbrev main_while1b_c_36 : Ref sig .tc := ⟨.hbm, 141, rfl⟩
abbrev main_while1b_v23 : Ref sig .tc := ⟨.hbm, 142, rfl⟩
abbrev main_while1b_c_37 : Ref sig .tc := ⟨.hbm, 143, rfl⟩
abbrev main_while1b_v24 : Ref sig .tc := ⟨.hbm, 144, rfl⟩
abbrev main_while1b_v25 : Ref sig .tc := ⟨.hbm, 145, rfl⟩
abbrev main_while1b_c_38 : Ref sig .tc := ⟨.hbm, 146, rfl⟩
abbrev main_while1b_v26 : Ref sig .tc := ⟨.hbm, 147, rfl⟩
abbrev main_while1b_c_39 : Ref sig .tc := ⟨.hbm, 148, rfl⟩
abbrev main_while1b_v27 : Ref sig .tc := ⟨.hbm, 149, rfl⟩
abbrev main_while1b_c_40 : Ref sig .tc := ⟨.hbm, 150, rfl⟩
abbrev main_while1b_v28 : Ref sig .tc := ⟨.hbm, 151, rfl⟩
abbrev main_while1b_c_41 : Ref sig .tc := ⟨.hbm, 152, rfl⟩
abbrev main_while1b_v29 : Ref sig .tc := ⟨.hbm, 153, rfl⟩
abbrev main_while1b_c_42 : Ref sig .tc := ⟨.hbm, 154, rfl⟩
abbrev main_while1b_v30 : Ref sig .tc := ⟨.hbm, 155, rfl⟩
abbrev main_while1b_c_43 : Ref sig .tc := ⟨.hbm, 156, rfl⟩
abbrev main_while1b_v31 : Ref sig .tc := ⟨.hbm, 157, rfl⟩
abbrev main_while1b_v32 : Ref sig .tc := ⟨.hbm, 158, rfl⟩
abbrev main_while1b_v33 : Ref sig .tc := ⟨.hbm, 159, rfl⟩
abbrev main_while1b_c_44 : Ref sig .tc := ⟨.hbm, 160, rfl⟩
abbrev main_while1b_v34 : Ref sig .tc := ⟨.hbm, 161, rfl⟩
abbrev main_while1b_c_45 : Ref sig .tc := ⟨.hbm, 162, rfl⟩
abbrev main_while1b_v35 : Ref sig .tc := ⟨.hbm, 163, rfl⟩
abbrev main_while1b_c_46 : Ref sig .tc := ⟨.hbm, 164, rfl⟩
abbrev main_while1b_v36 : Ref sig .tc := ⟨.hbm, 165, rfl⟩
abbrev main_while1b_c_47 : Ref sig .tc := ⟨.hbm, 166, rfl⟩
abbrev main_while1b_v37 : Ref sig .tc := ⟨.hbm, 167, rfl⟩
abbrev main_while1b_v38 : Ref sig .tc := ⟨.hbm, 168, rfl⟩
abbrev main_while1b_v39 : Ref sig .tc := ⟨.hbm, 169, rfl⟩
abbrev main_while1b_c_48 : Ref sig .tc := ⟨.hbm, 170, rfl⟩
abbrev main_while1b_v40 : Ref sig .tc := ⟨.hbm, 171, rfl⟩
abbrev main_while1b_c_49 : Ref sig .tc := ⟨.hbm, 172, rfl⟩
abbrev main_while1b_v41 : Ref sig .tc := ⟨.hbm, 173, rfl⟩
abbrev main_v12 : Ref sig .tc := ⟨.hbm, 174, rfl⟩
abbrev main_cst_22 : Ref sig .tc := ⟨.hbm, 175, rfl⟩
abbrev main_v13 : Ref sig .tc := ⟨.hbm, 176, rfl⟩
abbrev main_cst_23 : Ref sig .tc := ⟨.hbm, 177, rfl⟩
abbrev main_v14 : Ref sig .tc := ⟨.hbm, 178, rfl⟩
abbrev main_v15 : Ref sig .tc := ⟨.hbm, 179, rfl⟩

abbrev nD : Nat := 1
abbrev τ : Topo := Topo.v7x

variable {F : FTy → Type} [FloatOps F]

abbrev main_while0_count : Scf.Loop 32 := ⟨0#32, 16384#32, 1#32⟩

abbrev main_while1_count : Scf.Loop 32 := ⟨0#32, 16384#32, 1#32⟩
-- ==== Proof.KIParts.lean ====
/- The parts of the kernel body that hold no named constant, each equal to its skeleton over any reading of the formats. -/
module

public import proofs.«01_k».proof.Proof.Gen.KernelIdeal.Skeleton

@[expose] public section

noncomputable section

namespace Cert.KernelIdeal
open Cert.KernelIdeal.Gen Idealize.ShloMosaic

variable {F : FTy → Type} [FloatOps F]

set_option maxRecDepth 65536 in
/-- Part 3 of the body is its skeleton. -/
theorem k0_part3_eq_skeleton : k0_part3 (F := F) = k0_part3_skel (F := F) := rfl

set_option maxRecDepth 65536 in
/-- Part 4 of the body is its skeleton. -/
theorem k0_part4_eq_skeleton : k0_part4 (F := F) = k0_part4_skel (F := F) := rfl

set_option maxRecDepth 65536 in
/-- Part 5 of the body is its skeleton. -/
theorem k0_part5_eq_skeleton : k0_part5 (F := F) = k0_part5_skel (F := F) := rfl

set_option maxRecDepth 65536 in
/-- Part 6 of the body is its skeleton. -/
theorem k0_part6_eq_skeleton : k0_part6 (F := F) = k0_part6_skel (F := F) := rfl

set_option maxRecDepth 65536 in
/-- Part 7 of the body is its skeleton. -/
theorem k0_part7_eq_skeleton : k0_part7 (F := F) = k0_part7_skel (F := F) := rfl

set_option maxRecDepth 65536 in
/-- Part 9 of the body is its skeleton. -/
theorem k0_part9_eq_skeleton : k0_part9 (F := F) = k0_part9_skel (F := F) := rfl

set_option maxRecDepth 65536 in
/-- Part 12 of the body is its skeleton. -/
theorem k0_part12_eq_skeleton : k0_part12 (F := F) = k0_part12_skel (F := F) := rfl

set_option maxRecDepth 65536 in
/-- Part 13 of the body is its skeleton. -/
theorem k0_part13_eq_skeleton : k0_part13 (F := F) = k0_part13_skel (F := F) := rfl

end Cert.KernelIdeal

end
-- ==== Proof.KILoops.lean ====
/- The two counted loops of the kernel body, each gone through once over a symbolic trip: what a trip reads and what it
   writes is held at some contents before it and after it. -/
module

public import proofs.«01_k».proof.Proof.Gen.KernelIdeal.Frame
public import proofs.«01_k».proof.Proof.Gen.KernelIdeal.Skeleton
public import proofs.«01_k».proof.Proof.KIParts
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the pipeline's frame runs. -/
local notation "𝕄" => MT nD τ sig Unit (Elt F) ℕ (UR sig nD τ) ℕ

set_option warn.classDefReducibility false in
/-- Loop 1: one trip leaves every buffer it touches held at some contents. -/
@[sl_loop] def someLoop1 (𝒱 : Variants) (c : Dev nD) (bd : Option 𝒱.V) (E : Set ℕ) (arg0 : Memref sig .tc .vmem S128x8x128 .f32) (harg0 : arg0.IsWhole) (arg1 : Memref sig .tc .vmem S128x128 .f32) (harg1 : arg1.IsWhole) (arg2 : Memref sig .tc .vmem S128x8x128 .f32) (harg2 : arg2.IsWhole) (arg3 : Memref sig .tc .vmem S128x8x128 .f32) (harg3 : arg3.IsWhole) (arg4 : Memref sig .tc .vmem S128x8x128 .f32) (harg4 : arg4.IsWhole) (arg5 : Memref sig .tc .vmem S128x8x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S256x8x128 .f32) (harg8 : arg8.IsWhole) (arg9 : Memref sig .tc .vmem S256x8x128 .f32) (harg9 : arg9.IsWhole) (arg10 : Memref sig .tc .vmem S256x8x128 .f32) (harg10 : arg10.IsWhole) (arg11 : Memref sig .tc .vmem S256x8x128 .f32) (harg11 : arg11.IsWhole) (arg12 : Memref sig .tc .vmem S256x8x128 .f32) (harg12 : arg12.IsWhole) (arg13 : Memref sig .tc .vmem S256x8x128 .f32) (harg13 : arg13.IsWhole) (arg14 : Memref sig .tc .vmem S256x8x128 .f32) (harg14 : arg14.IsWhole) (arg15 : Memref sig .tc .vmem S256x8x128 .f32) (harg15 : arg15.IsWhole) (arg16 : Memref sig .tc .vmem S256x8x128 .f32) (harg16 : arg16.IsWhole) (arg17 : Memref sig .tc .vmem S256x8x128 .f32) (harg17 : arg17.IsWhole) (arg18 : Memref sig .tc .vmem S256x8x128 .f32) (harg18 : arg18.IsWhole) (v96 : IVec S8x128 32) (v105 : FVec F S8x128 .f32) (v109 : FVec F S8x128 .f32) (v113 : FVec F S8x128 .f32) (v117 : FVec F S8x128 .f32) (v121 : FVec F S8x128 .f32) (v122 : FVec F S8x128 .f32) (v123 : FVec F S8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × IVec S8x128 32) :
    LoopInv (M := 𝕄) Idealize.ShloMosaic.frame (wpE (defs₀ (F := F)) 𝒱 (c : Thread nD τ) bd) E
      k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v96 v105 v109 v113 v117 v121 v122 v123) where
  inv _ _ := iprop((∃ f : Buf (Elt F) (arg2.view.loc (c : Thread nD τ)), (arg2.view.loc (c : Thread nD τ) ↦{fullShare} f)) ∗ (∃ f : Buf (Elt F) (arg3.view.loc (c : Thread nD τ)), (arg3.view.loc (c : Thread nD τ) ↦{fullShare} f)) ∗ (∃ f : Buf (Elt F) (arg4.view.loc (c : Thread nD τ)), (arg4.view.loc (c : Thread nD τ) ↦{fullShare} f)) ∗ (∃ f : Buf (Elt F) (arg5.view.loc (c : Thread nD τ)), (arg5.view.loc (c : Thread nD τ) ↦{fullShare} f)) ∗ (∃ f : Buf (Elt F) (arg6.view.loc (c : Thread nD τ)), (arg6.view.loc (c : Thread nD τ) ↦{fullShare} f)) ∗ (∃ f : Buf (Elt F) (arg7.view.loc (c : Thread nD τ)), (arg7.view.loc (c : Thread nD τ) ↦{fullShare} f)) ∗ (∃ f : Buf (Elt F) (arg8.view.loc (c : Thread nD τ)), (arg8.view.loc (c : Thread nD τ) ↦{fullShare} f)) ∗ (∃ f : Buf (Elt F) (arg9.view.loc (c : Thread nD τ)), (arg9.view.loc (c : Thread nD τ) ↦{fullShare} f)) ∗ (∃ f : Buf (Elt F) (arg10.view.loc (c : Thread nD τ)), (arg10.view.loc (c : Thread nD τ) ↦{fullShare} f)) ∗ (∃ f : Buf (Elt F) (arg11.view.loc (c : Thread nD τ)), (arg11.view.loc (c : Thread nD τ) ↦{fullShare} f)) ∗ (∃ f : Buf (Elt F) (arg12.view.loc (c : Thread nD τ)), (arg12.view.loc (c : Thread nD τ) ↦{fullShare} f)) ∗ (∃ f : Buf (Elt F) (arg13.view.loc (c : Thread nD τ)), (arg13.view.loc (c : Thread nD τ) ↦{fullShare} f)) ∗ (∃ f : Buf (Elt F) (arg14.view.loc (c : Thread nD τ)), (arg14.view.loc (c : Thread nD τ) ↦{fullShare} f)) ∗ (∃ f : Buf (Elt F) (arg15.view.loc (c : Thread nD τ)), (arg15.view.loc (c : Thread nD τ) ↦{fullShare} f)) ∗ (∃ f : Buf (Elt F) (arg16.view.loc (c : Thread nD τ)), (arg16.view.loc (c : Thread nD τ) ↦{fullShare} f)) ∗ (∃ f : Buf (Elt F) (arg17.view.loc (c : Thread nD τ)), (arg17.view.loc (c : Thread nD τ) ↦{fullShare} f)))
  step k acc := by
    have hk : k.val < 254 := Nat.lt_of_lt_of_le k.isLt k0_t1_abs.2.1
    iintro ⟨⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩⟩
    unfold k0_t1_body
    sl_exec
    sl_step
    sl_close

set_option warn.classDefReducibility false in
/-- Loop 2: one trip leaves every buffer it touches held at some contents. -/
@[sl_loop] def someLoop2 (𝒱 : Variants) (c : Dev nD) (bd : Option 𝒱.V) (E : Set ℕ) (arg0 : Memref sig .tc .vmem S128x8x128 .f32) (harg0 : arg0.IsWhole) (arg1 : Memref sig .tc .vmem S128x128 .f32) (harg1 : arg1.IsWhole) (arg2 : Memref sig .tc .vmem S128x8x128 .f32) (harg2 : arg2.IsWhole) (arg3 : Memref sig .tc .vmem S128x8x128 .f32) (harg3 : arg3.IsWhole) (arg4 : Memref sig .tc .vmem S128x8x128 .f32) (harg4 : arg4.IsWhole) (arg5 : Memref sig .tc .vmem S128x8x128 .f32) (harg5 : arg5.IsWhole) (arg6 : Memref sig .tc .vmem S256x8x128 .f32) (harg6 : arg6.IsWhole) (arg7 : Memref sig .tc .vmem S256x8x128 .f32) (harg7 : arg7.IsWhole) (arg8 : Memref sig .tc .vmem S256x8x128 .f32) (harg8 : arg8.IsWhole) (arg9 : Memref sig .tc .vmem S256x8x128 .f32) (harg9 : arg9.IsWhole) (arg10 : Memref sig .tc .vmem S256x8x128 .f32) (harg10 : arg10.IsWhole) (arg11 : Memref sig .tc .vmem S256x8x128 .f32) (harg11 : arg11.IsWhole) (arg12 : Memref sig .tc .vmem S256x8x128 .f32) (harg12 : arg12.IsWhole) (arg13 : Memref sig .tc .vmem S256x8x128 .f32) (harg13 : arg13.IsWhole) (arg14 : Memref sig .tc .vmem S256x8x128 .f32) (harg14 : arg14.IsWhole) (arg15 : Memref sig .tc .vmem S256x8x128 .f32) (harg15 : arg15.IsWhole) (arg16 : Memref sig .tc .vmem S256x8x128 .f32) (harg16 : arg16.IsWhole) (arg17 : Memref sig .tc .vmem S256x8x128 .f32) (harg17 : arg17.IsWhole) (arg18 : Memref sig .tc .vmem S256x8x128 .f32) (harg18 : arg18.IsWhole) (v96 : IVec S8x128 32) (c127_i32_65 : BitVec 32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    LoopInv (M := 𝕄) Idealize.ShloMosaic.frame (wpE (defs₀ (F := F)) 𝒱 (c : Thread nD τ) bd) E
      k0_t2_loop.lb k0_t2_loop.ub k0_t2_loop.st k0_t2_ok init (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v96 c127_i32_65) where
  inv _ _ := iprop((∃ f : Buf (Elt F) (arg6.view.loc (c : Thread nD τ)), (arg6.view.loc (c : Thread nD τ) ↦{fullShare} f)) ∗ (∃ f : Buf (Elt F) (arg7.view.loc (c : Thread nD τ)), (arg7.view.loc (c : Thread nD τ) ↦{fullShare} f)) ∗ (∃ f : Buf (Elt F) (arg8.view.loc (c : Thread nD τ)), (arg8.view.loc (c : Thread nD τ) ↦{fullShare} f)) ∗ (∃ f : Buf (Elt F) (arg9.view.loc (c : Thread nD τ)), (arg9.view.loc (c : Thread nD τ) ↦{fullShare} f)) ∗ (∃ f : Buf (Elt F) (arg10.view.loc (c : Thread nD τ)), (arg10.view.loc (c : Thread nD τ) ↦{fullShare} f)) ∗ (∃ f : Buf (Elt F) (arg11.view.loc (c : Thread nD τ)), (arg11.view.loc (c : Thread nD τ) ↦{fullShare} f)) ∗ (∃ f : Buf (Elt F) (arg12.view.loc (c : Thread nD τ)), (arg12.view.loc (c : Thread nD τ) ↦{fullShare} f)) ∗ (∃ f : Buf (Elt F) (arg13.view.loc (c : Thread nD τ)), (arg13.view.loc (c : Thread nD τ) ↦{fullShare} f)) ∗ (∃ f : Buf (Elt F) (arg14.view.loc (c : Thread nD τ)), (arg14.view.loc (c : Thread nD τ) ↦{fullShare} f)) ∗ (∃ f : Buf (Elt F) (arg15.view.loc (c : Thread nD τ)), (arg15.view.loc (c : Thread nD τ) ↦{fullShare} f)) ∗ (∃ f : Buf (Elt F) (arg16.view.loc (c : Thread nD τ)), (arg16.view.loc (c : Thread nD τ) ↦{fullShare} f)) ∗ (∃ f : Buf (Elt F) (arg17.view.loc (c : Thread nD τ)), (arg17.view.loc (c : Thread nD τ) ↦{fullShare} f)) ∗ (∃ f : Buf (Elt F) (arg18.view.loc (c : Thread nD τ)), (arg18.view.loc (c : Thread nD τ) ↦{fullShare} f)))
  step k acc := by
    have hk : k.val < 254 := Nat.lt_of_lt_of_le k.isLt k0_t2_abs.2.1
    iintro ⟨⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
    unfold k0_t2_body
    sl_exec
    sl_step
    sl_close

end Cert.KernelIdeal.Hand

end
-- ==== Proof.KIBody.lean ====
module

public import proofs.«01_k».proof.Proof.Gen.KernelIdeal.Frame
public import proofs.«01_k».proof.Proof.KILoops
public import Idealize.ShloMosaic.Lib.Tactic
public import Idealize.ShloMosaic.Lib.Pipeline.Kit

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra of the pipeline's frame runs. -/
local notation "𝕄" => MT nD τ sig Unit (Elt F) ℕ (UR sig nD τ) ℕ

/-- What core `c`'s buffer under the memref `M` may hold, and that buffer held whole at `f`. -/
abbrev Bf (c : Dev nD) {sp : Space} {S : Shape} {e : EltTy} (M : Memref sig .tc sp S e) : Type := Buf (Elt F) (M.view.loc (c : Thread nD τ))
/-- One cell of memory, held. -/
abbrev pt (c : Dev nD) {sp : Space} {S : Shape} {e : EltTy} (M : Memref sig .tc sp S e) (f : Bf (F := F) c M) : sProp 𝕄 :=
  M.view.loc (c : Thread nD τ) ↦{fullShare} f

/-- The kernel body, from its input block, its output block and its seventeen scratch buffers at any contents: it runs to
    its return, hands the input block back as it was and everything else at some contents. -/
theorem kernelRun (c : Dev nD) (M0 : Memref sig .tc .vmem S128x8x128 .f32) (h0 : M0.IsWhole) (M1 : Memref sig .tc .vmem S128x128 .f32) (h1 : M1.IsWhole)
    (f0 : Bf (F := F) c M0) (f1 : Bf (F := F) c M1) (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) (s13 : Bf (F := F) c (Memref.whole cc0_scratch13)) (s14 : Bf (F := F) c (Memref.whole cc0_scratch14)) (s15 : Bf (F := F) c (Memref.whole cc0_scratch15)) (s16 : Bf (F := F) c (Memref.whole cc0_scratch16)) (Q : PUnit → sProp 𝕄) :
    iprop(pt c M0 f0 ∗ pt c M1 f1 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ pt c (Memref.whole cc0_scratch14) s14 ∗ pt c (Memref.whole cc0_scratch15) s15 ∗ pt c (Memref.whole cc0_scratch16) s16
      ∗ (iprop(pt c M0 f0 ∗ (∃ f, pt c M1 f) ∗ (∃ s, pt c (Memref.whole cc0_scratch0) s) ∗ (∃ s, pt c (Memref.whole cc0_scratch1) s) ∗ (∃ s, pt c (Memref.whole cc0_scratch2) s) ∗ (∃ s, pt c (Memref.whole cc0_scratch3) s) ∗ (∃ s, pt c (Memref.whole cc0_scratch4) s) ∗ (∃ s, pt c (Memref.whole cc0_scratch5) s) ∗ (∃ s, pt c (Memref.whole cc0_scratch6) s) ∗ (∃ s, pt c (Memref.whole cc0_scratch7) s) ∗ (∃ s, pt c (Memref.whole cc0_scratch8) s) ∗ (∃ s, pt c (Memref.whole cc0_scratch9) s) ∗ (∃ s, pt c (Memref.whole cc0_scratch10) s) ∗ (∃ s, pt c (Memref.whole cc0_scratch11) s) ∗ (∃ s, pt c (Memref.whole cc0_scratch12) s) ∗ (∃ s, pt c (Memref.whole cc0_scratch13) s) ∗ (∃ s, pt c (Memref.whole cc0_scratch14) s) ∗ (∃ s, pt c (Memref.whole cc0_scratch15) s) ∗ (∃ s, pt c (Memref.whole cc0_scratch16) s)) -∗ Q ⟨⟩))
    ⊢ wp frame (wpE (defs₀ (F := F)) Variants.none c none) Set.univ
        (cc0__dtw_kernel M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _)) Q := by
  iintro ⟨H0, H1, K0, K1, K2, K3, K4, K5, K6, K7, K8, K9, K10, K11, K12, K13, K14, K15, K16, Hk⟩
  sl_exec!
  sl_step
  iapply Hk
  isplitl [H0]; · iexact H0
  isplitl [H1]; · iexists _; iexact H1
  isplitl [K0]; · iexists _; iexact K0
  isplitl [K1]; · iexists _; iexact K1
  isplitl [K2]; · iexists _; iexact K2
  isplitl [K3]; · iexists _; iexact K3
  isplitl [K4]; · iexists _; iexact K4
  isplitl [K5]; · iexists _; iexact K5
  isplitl [K6]; · iexists _; iexact K6
  isplitl [K7]; · iexists _; iexact K7
  isplitl [K8]; · iexists _; iexact K8
  isplitl [K9]; · iexists _; iexact K9
  isplitl [K10]; · iexists _; iexact K10
  isplitl [K11]; · iexists _; iexact K11
  isplitl [K12]; · iexists _; iexact K12
  isplitl [K13]; · iexists _; iexact K13
  isplitl [K14]; · iexists _; iexact K14
  isplitl [K15]; · iexists _; iexact K15
  iexists _; iexact K16

end Cert.KernelIdeal.Hand

end
-- ==== Proof.KIFrame.lean ====
/- The kernel's frame: the launch of the one call, its output forgotten. Every weakly fair execution of @main ends with the
   argument unchanged and every counter at zero. -/
module

public import proofs.«01_k».proof.Proof.KIBody
public import proofs.«01_k».proof.Proof.Gen.KernelIdeal.Frame

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F] [∀ e, Nonempty (Elt F e)]

/-- The resource algebra of the pipeline's frame runs. -/
local notation "𝕄" => MT nD τ sig Unit (Elt F) ℕ (UR sig nD τ) ℕ

variable (m : (ℓ : Loc nD τ sig) → Buf (Elt F) ℓ) (ρ : Dev nD → PrngReg)

/-- The proof data of the frame: the input's buffer keeps its block, the output's is forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => fun _ => Classical.choice inferInstance
  Φ _ := Pipeline.ΦA spec0 c
  q _ := fullShare
  owed _ := 0

/-- The output window is the forgotten one. -/
def fgt : Fin cfg0.W → Bool := fun w => match w with
  | ⟨0, _⟩ => false
  | ⟨1, _⟩ => true

/-- A window's array is what the launch holds. -/
theorem A_eq (c : Dev nD) (w : Fin cfg0.W) : (dats m 0 c).A w = V m c (Pipeline.arrRef spec0 w) := rfl
/-- The input block after the body. -/
theorem after0_0 (c : Dev nD) (t : Fin cfg0.N) : (dats m 0 c).after 0 t = iblk m c 0 t := by dsimp only [dats]

/-- The input's staging buffer holds its block when the body runs. -/
theorem before0_0 (c : Dev nD) (t : Fin cfg0.N) (d) : (dats m 0 c).before 0 t d = iblk m c 0 t :=
  before0_0_of m (dats m 0 c) (A_eq m c 0) (after0_0 m c) t d

/-- The body obligation: `kernelRun` at the staging memrefs and the scratch buffers. -/
theorem body_obligation (c : Dev nD) : BodyObligationLoose (dats (F := F) m 0 c) (defs₀ (F := F)) Variants.none () Set.univ fgt := fun t => by
  rw [bigSep_W0, bigSep_W0]
  rw [show (cfg0.win 0).stage (cfg0.slots t 0) = stage0_0 0 from congrArg (cfg0.win 0).stage (Subsingleton.elim (α := Fin 1) (cfg0.slots t 0) 0),
    show (cfg0.win 1).stage (cfg0.slots t 1) = stage0_1 0 from congrArg (cfg0.win 1).stage (Subsingleton.elim (α := Fin 1) (cfg0.slots t 1) 0)]
  sl_whnfR [defs₀, Defs.onTc]
  simp only [fgt, before0_0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0]
  unfold Pipeline.ΦA owns
  rw [scopedRest0_eq, (hstage0_0 0).set_eq_univ, (hstage0_1 0).set_eq_univ]
  iintro ⟨⟨⟨⟨%s0, K0⟩, ⟨%s1, K1⟩, ⟨%s2, K2⟩, ⟨%s3, K3⟩, ⟨%s4, K4⟩, ⟨%s5, K5⟩, ⟨%s6, K6⟩, ⟨%s7, K7⟩, ⟨%s8, K8⟩, ⟨%s9, K9⟩, ⟨%s10, K10⟩, ⟨%s11, K11⟩, ⟨%s12, K12⟩, ⟨%s13, K13⟩, ⟨%s14, K14⟩, ⟨%s15, K15⟩, ⟨%s16, K16⟩⟩, Hr⟩, Ho, ⟨%d0, %f0, %hf0, H0⟩, ⟨%d1, %f1, -, H1⟩⟩
  iapply (kernelRun c (stage0_0 0) (hstage0_0 0) (stage0_1 0) (hstage0_1 0) f0 f1 s0 s1 s2 s3 s4 s5 s6 s7 s8 s9 s10 s11 s12 s13 s14 s15 s16 _)
  isplitl [H0]; · iexact H0
  isplitl [H1]; · iexact H1
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  isplitl [K15]; · iexact K15
  isplitl [K16]; · iexact K16
  iintro ⟨H0, ⟨%g1, H1⟩, K0, K1, K2, K3, K4, K5, K6, K7, K8, K9, K10, K11, K12, K13, K14, K15, K16⟩
  isplitl [K0 K1 K2 K3 K4 K5 K6 K7 K8 K9 K10 K11 K12 K13 K14 K15 K16 Hr]
  · isplitr [Hr]; swap; · iexact Hr
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    isplitl [K15]; · iexact K15
    iexact K16
  isplitl [Ho]; · iexact Ho
  isplitl [H0]
  · iexists f0; isplitr; · ipureintro; exact hf0
    iexact H0
  iexists _, g1; isplitr; · ipureintro; rfl
  iexact H1

set_option backward.isDefEq.respectTransparency.types false in
/-- Every weakly fair execution of @main ends, its argument unchanged and every counter at zero. -/
theorem frame : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  Pipeline.θ_run_frame_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := fun _ _ => rfl) (hΦ := fun _ _ => rfl)
    (Q' := _) (hQ' := fun r h => ⟨fun c => ((h.1 c).2 main_arg0 (Pipeline.mem_restRefs_of main_arg0 (by decide) (by decide))).trans (V_main_arg0 m c), h.2⟩)

end Cert.KernelIdeal.Hand

end
-- ==== Proof.RefOps.lean ====
/- The reference's @main as three lines of host operations around two counted loops: the lines and the loops' bodies
   listed, and the program equal to their chain. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 4000000 in
/-- @main's operations before the first loop -/
abbrev preOps : List (HloOp τ sig (Elt F)) :=
  ( StableHlo.nullary main_cst (constant S_ .f32 0x7F800000#32)
  :: StableHlo.unary main_cst main_v0 (broadcastInDim S8x129x129 ![] bcast_S_S8x129x129 : (⟨S_, .f32⟩ : BufTy).Contents (Elt F) → (⟨S8x129x129, .f32⟩ : BufTy).Contents (Elt F))
  :: StableHlo.nullary main_cst_0 (constant S_ .f32 0x00000000#32)
  :: StableHlo.unary main_cst_0 main_v1 (broadcastInDim S8x1x1 ![] bcast_S_S8x1x1 : (⟨S_, .f32⟩ : BufTy).Contents (Elt F) → (⟨S8x1x1, .f32⟩ : BufTy).Contents (Elt F))
  :: StableHlo.nullary main_c (constantI S_ 32 0#32)
  :: StableHlo.nullary main_c_1 (constantI S_ 32 0#32)
  :: StableHlo.nullary main_c_2 (constantI S_ 32 0#32)
  :: StableHlo.binaryIndexed main_v0 main_v1 ![main_c, main_c_1, main_c_2] ⟨S_, .i32⟩ main_v2 ((fun x u i => Host.dynamicUpdateSlice x u (fun k => (i k (Shape.Idx.first h_S_)).toInt) updateFits_S8x129x129_S8x1x1) : (⟨S8x129x129, .f32⟩ : BufTy).Contents (Elt F) → (⟨S8x1x1, .f32⟩ : BufTy).Contents (Elt F) → (Fin 3 → (⟨S_, .i32⟩ : BufTy).Contents (Elt F)) → (⟨S8x129x129, .f32⟩ : BufTy).Contents (Elt F))
  :: StableHlo.nullary main_cst_3 (constant S_ .f32 0x00000000#32)
  :: StableHlo.unary main_cst_3 main_v3 (broadcastInDim S8x130x130 ![] bcast_S_S8x130x130 : (⟨S_, .f32⟩ : BufTy).Contents (Elt F) → (⟨S8x130x130, .f32⟩ : BufTy).Contents (Elt F))
  :: StableHlo.nullary main_c_4 (constantI S_ 32 0#32)
  :: StableHlo.nullary main_c_5 (constantI S_ 32 0#32)
  :: StableHlo.unary main_arg0 main_v4_0 id
  :: StableHlo.unary main_c_5 main_v4_1 id
  :: StableHlo.unary main_c_4 main_v4_2 id
  :: StableHlo.unary main_v2 main_v4_3 id
  :: StableHlo.unary main_v3 main_v4_4 id
  :: StableHlo.unary main_v3 main_v4_5 id
  :: StableHlo.unary main_v3 main_v4_6 id
  :: [] )
/-- The references preOps writes, in order. -/
abbrev preOpsW : List (Ref sig .tc) := [main_cst, main_v0, main_cst_0, main_v1, main_c, main_c_1, main_c_2, main_v2, main_cst_3, main_v3, main_c_4, main_c_5, main_v4_0, main_v4_1, main_v4_2, main_v4_3, main_v4_4, main_v4_5, main_v4_6]

set_option maxHeartbeats 4000000 in
/-- @main's operations between the loops -/
abbrev midOps : List (HloOp τ sig (Elt F)) :=
  ( StableHlo.nullary main_cst_6 (constant S_ .f32 0x3F800000#32)
  :: StableHlo.unary main_cst_6 main_v5 (broadcastInDim S8x1x1 ![] bcast_S_S8x1x1 : (⟨S_, .f32⟩ : BufTy).Contents (Elt F) → (⟨S8x1x1, .f32⟩ : BufTy).Contents (Elt F))
  :: StableHlo.nullary main_c_7 (constantI S_ 32 0#32)
  :: StableHlo.nullary main_c_8 (constantI S_ 32 129#32)
  :: StableHlo.nullary main_c_9 (constantI S_ 32 129#32)
  :: StableHlo.binaryIndexed main_v4_4 main_v5 ![main_c_7, main_c_8, main_c_9] ⟨S_, .i32⟩ main_v6 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_c_10 (constantI S_ 32 0#32)
  :: StableHlo.nullary main_c_11 (constantI S_ 32 129#32)
  :: StableHlo.nullary main_c_12 (constantI S_ 32 129#32)
  :: StableHlo.binaryIndexed main_v4_5 main_v5 ![main_c_10, main_c_11, main_c_12] ⟨S_, .i32⟩ main_v7 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_c_13 (constantI S_ 32 0#32)
  :: StableHlo.nullary main_c_14 (constantI S_ 32 129#32)
  :: StableHlo.nullary main_c_15 (constantI S_ 32 129#32)
  :: StableHlo.binaryIndexed main_v4_6 main_v5 ![main_c_13, main_c_14, main_c_15] ⟨S_, .i32⟩ main_v8 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_cst_16 (constant S_ .f32 0x00000000#32)
  :: StableHlo.unary main_cst_16 main_v9 (broadcastInDim S8x130x130 ![] bcast_S_S8x130x130 : (⟨S_, .f32⟩ : BufTy).Contents (Elt F) → (⟨S8x130x130, .f32⟩ : BufTy).Contents (Elt F))
  :: StableHlo.nullary main_c_17 (constantI S_ 32 0#32)
  :: StableHlo.nullary main_c_18 (constantI S_ 32 129#32)
  :: StableHlo.nullary main_c_19 (constantI S_ 32 129#32)
  :: StableHlo.binaryIndexed main_v9 main_v5 ![main_c_17, main_c_18, main_c_19] ⟨S_, .i32⟩ main_v10 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_c_20 (constantI S_ 32 0#32)
  :: StableHlo.nullary main_c_21 (constantI S_ 32 0#32)
  :: StableHlo.unary main_v6 main_v11_0 id
  :: StableHlo.unary main_v7 main_v11_1 id
  :: StableHlo.unary main_v8 main_v11_2 id
  :: StableHlo.unary main_c_21 main_v11_3 id
  :: StableHlo.unary main_c_20 main_v11_4 id
  :: StableHlo.unary main_v10 main_v11_5 id
  :: [] )
/-- The references midOps writes, in order. -/
abbrev midOpsW : List (Ref sig .tc) := [main_cst_6, main_v5, main_c_7, main_c_8, main_c_9, main_v6, main_c_10, main_c_11, main_c_12, main_v7, main_c_13, main_c_14, main_c_15, main_v8, main_cst_16, main_v9, main_c_17, main_c_18, main_c_19, main_v10, main_c_20, main_c_21, main_v11_0, main_v11_1, main_v11_2, main_v11_3, main_v11_4, main_v11_5]

set_option maxHeartbeats 4000000 in
/-- @main's operations after the second loop -/
abbrev postOps : List (HloOp τ sig (Elt F)) :=
  ( StableHlo.unary main_v11_5 main_v12 ((extractStridedSlice S8x128x128 ![0, 1, 1] · slices_S8x130x130_S8x128x128_0_1_1) : (⟨S8x130x130, .f32⟩ : BufTy).Contents (Elt F) → (⟨S8x128x128, .f32⟩ : BufTy).Contents (Elt F))
  :: StableHlo.nullary main_cst_22 (constant S_ .f32 0x00000000#32)
  :: StableHlo.binary main_v12 main_cst_22 main_v13 ((fun x v => Host.reduceAdd x v reducesTo_S8x128x128_S128x128_d0 h_S_) : (⟨S8x128x128, .f32⟩ : BufTy).Contents (Elt F) → (⟨S_, .f32⟩ : BufTy).Contents (Elt F) → (⟨S128x128, .f32⟩ : BufTy).Contents (Elt F))
  :: StableHlo.nullary main_cst_23 (constant S_ .f32 0x41000000#32)
  :: StableHlo.unary main_cst_23 main_v14 (broadcastInDim S128x128 ![] bcast_S_S128x128 : (⟨S_, .f32⟩ : BufTy).Contents (Elt F) → (⟨S128x128, .f32⟩ : BufTy).Contents (Elt F))
  :: StableHlo.binary main_v13 main_v14 main_v15 (Host.divf : (⟨S128x128, .f32⟩ : BufTy).Contents (Elt F) → (⟨S128x128, .f32⟩ : BufTy).Contents (Elt F) → (⟨S128x128, .f32⟩ : BufTy).Contents (Elt F))
  :: [] )
/-- The references postOps writes, in order. -/
abbrev postOpsW : List (Ref sig .tc) := [main_v12, main_cst_22, main_v13, main_cst_23, main_v14, main_v15]

set_option maxHeartbeats 4000000 in
/-- The first loop's body, one cell of the forward recursion -/
abbrev body0Ops : List (HloOp τ sig (Elt F)) :=
  ( StableHlo.nullary main_while0b_c_30 (constantI S_ 32 1#32)
  :: StableHlo.binary main_v4_2 main_while0b_c_30 main_while0b_v16 (addi : (⟨S_, .i32⟩ : BufTy).Contents (Elt F) → (⟨S_, .i32⟩ : BufTy).Contents (Elt F) → (⟨S_, .i32⟩ : BufTy).Contents (Elt F))
  :: StableHlo.nullary main_while0b_c_31 (constantI S_ 32 128#32)
  :: StableHlo.binary main_v4_2 main_while0b_c_31 main_while0b_v17 (Host.divsi : (⟨S_, .i32⟩ : BufTy).Contents (Elt F) → (⟨S_, .i32⟩ : BufTy).Contents (Elt F) → (⟨S_, .i32⟩ : BufTy).Contents (Elt F))
  :: StableHlo.nullary main_while0b_c_32 (constantI S_ 32 128#32)
  :: StableHlo.binary main_v4_2 main_while0b_c_32 main_while0b_v18 (Host.remsi : (⟨S_, .i32⟩ : BufTy).Contents (Elt F) → (⟨S_, .i32⟩ : BufTy).Contents (Elt F) → (⟨S_, .i32⟩ : BufTy).Contents (Elt F))
  :: StableHlo.nullary main_while0b_c_33 (constantI S_ 32 1#32)
  :: StableHlo.binary main_while0b_v17 main_while0b_c_33 main_while0b_v19 (addi : (⟨S_, .i32⟩ : BufTy).Contents (Elt F) → (⟨S_, .i32⟩ : BufTy).Contents (Elt F) → (⟨S_, .i32⟩ : BufTy).Contents (Elt F))
  :: StableHlo.nullary main_while0b_c_34 (constantI S_ 32 0#32)
  :: StableHlo.unaryIndexed main_v4_3 ![main_while0b_c_34, main_while0b_v19, main_while0b_v18] ⟨S_, .i32⟩ main_while0b_v20 ((fun x i => Host.dynamicSlice S8x1x1 x (fun k => (i k (Shape.Idx.first h_S_)).toInt) sliceFits_S8x129x129_S8x1x1) : (⟨S8x129x129, .f32⟩ : BufTy).Contents (Elt F) → (Fin 3 → (⟨S_, .i32⟩ : BufTy).Contents (Elt F)) → (⟨S8x1x1, .f32⟩ : BufTy).Contents (Elt F))
  :: StableHlo.nullary main_while0b_c_35 (constantI S_ 32 0#32)
  :: StableHlo.unaryIndexed main_v4_3 ![main_while0b_c_35, main_while0b_v17, main_while0b_v18] ⟨S_, .i32⟩ main_while0b_v21 ((fun x i => Host.dynamicSlice S8x1x1 x (fun k => (i k (Shape.Idx.first h_S_)).toInt) sliceFits_S8x129x129_S8x1x1) : (⟨S8x129x129, .f32⟩ : BufTy).Contents (Elt F) → (Fin 3 → (⟨S_, .i32⟩ : BufTy).Contents (Elt F)) → (⟨S8x1x1, .f32⟩ : BufTy).Contents (Elt F))
  :: StableHlo.nullary main_while0b_c_36 (constantI S_ 32 1#32)
  :: StableHlo.binary main_while0b_v18 main_while0b_c_36 main_while0b_v22 (addi : (⟨S_, .i32⟩ : BufTy).Contents (Elt F) → (⟨S_, .i32⟩ : BufTy).Contents (Elt F) → (⟨S_, .i32⟩ : BufTy).Contents (Elt F))
  :: StableHlo.nullary main_while0b_c_37 (constantI S_ 32 0#32)
  :: StableHlo.unaryIndexed main_v4_3 ![main_while0b_c_37, main_while0b_v17, main_while0b_v22] ⟨S_, .i32⟩ main_while0b_v23 ((fun x i => Host.dynamicSlice S8x1x1 x (fun k => (i k (Shape.Idx.first h_S_)).toInt) sliceFits_S8x129x129_S8x1x1) : (⟨S8x129x129, .f32⟩ : BufTy).Contents (Elt F) → (Fin 3 → (⟨S_, .i32⟩ : BufTy).Contents (Elt F)) → (⟨S8x1x1, .f32⟩ : BufTy).Contents (Elt F))
  :: StableHlo.unary main_while0b_v20 main_while0b_v24 (Host.negf : (⟨S8x1x1, .f32⟩ : BufTy).Contents (Elt F) → (⟨S8x1x1, .f32⟩ : BufTy).Contents (Elt F))
  :: StableHlo.nullary main_while0b_cst_38 (constant S_ .f32 0x3F800000#32)
  :: StableHlo.unary main_while0b_cst_38 main_while0b_v25 (broadcastInDim S8x1x1 ![] bcast_S_S8x1x1 : (⟨S_, .f32⟩ : BufTy).Contents (Elt F) → (⟨S8x1x1, .f32⟩ : BufTy).Contents (Elt F))
  :: StableHlo.binary main_while0b_v24 main_while0b_v25 main_while0b_v26 (Host.divf : (⟨S8x1x1, .f32⟩ : BufTy).Contents (Elt F) → (⟨S8x1x1, .f32⟩ : BufTy).Contents (Elt F) → (⟨S8x1x1, .f32⟩ : BufTy).Contents (Elt F))
  :: StableHlo.unary main_while0b_v21 main_while0b_v27 (Host.negf : (⟨S8x1x1, .f32⟩ : BufTy).Contents (Elt F) → (⟨S8x1x1, .f32⟩ : BufTy).Contents (Elt F))
  :: StableHlo.nullary main_while0b_cst_39 (constant S_ .f32 0x3F800000#32)
  :: StableHlo.unary main_while0b_cst_39 main_while0b_v28 (broadcastInDim S8x1x1 ![] bcast_S_S8x1x1 : (⟨S_, .f32⟩ : BufTy).Contents (Elt F) → (⟨S8x1x1, .f32⟩ : BufTy).Contents (Elt F))
  :: StableHlo.binary main_while0b_v27 main_while0b_v28 main_while0b_v29 (Host.divf : (⟨S8x1x1, .f32⟩ : BufTy).Contents (Elt F) → (⟨S8x1x1, .f32⟩ : BufTy).Contents (Elt F) → (⟨S8x1x1, .f32⟩ : BufTy).Contents (Elt F))
  :: StableHlo.unary main_while0b_v23 main_while0b_v30 (Host.negf : (⟨S8x1x1, .f32⟩ : BufTy).Contents (Elt F) → (⟨S8x1x1, .f32⟩ : BufTy).Contents (Elt F))
  :: StableHlo.nullary main_while0b_cst_40 (constant S_ .f32 0x3F800000#32)
  :: StableHlo.unary main_while0b_cst_40 main_while0b_v31 (broadcastInDim S8x1x1 ![] bcast_S_S8x1x1 : (⟨S_, .f32⟩ : BufTy).Contents (Elt F) → (⟨S8x1x1, .f32⟩ : BufTy).Contents (Elt F))
  :: StableHlo.binary main_while0b_v30 main_while0b_v31 main_while0b_v32 (Host.divf : (⟨S8x1x1, .f32⟩ : BufTy).Contents (Elt F) → (⟨S8x1x1, .f32⟩ : BufTy).Contents (Elt F) → (⟨S8x1x1, .f32⟩ : BufTy).Contents (Elt F))
  :: StableHlo.binary main_while0b_v26 main_while0b_v29 main_while0b_v33 (maximumf : (⟨S8x1x1, .f32⟩ : BufTy).Contents (Elt F) → (⟨S8x1x1, .f32⟩ : BufTy).Contents (Elt F) → (⟨S8x1x1, .f32⟩ : BufTy).Contents (Elt F))
  :: StableHlo.binary main_while0b_v33 main_while0b_v32 main_while0b_v34 (maximumf : (⟨S8x1x1, .f32⟩ : BufTy).Contents (Elt F) → (⟨S8x1x1, .f32⟩ : BufTy).Contents (Elt F) → (⟨S8x1x1, .f32⟩ : BufTy).Contents (Elt F))
  :: StableHlo.binary main_while0b_v26 main_while0b_v34 main_while0b_v35 (subf : (⟨S8x1x1, .f32⟩ : BufTy).Contents (Elt F) → (⟨S8x1x1, .f32⟩ : BufTy).Contents (Elt F) → (⟨S8x1x1, .f32⟩ : BufTy).Contents (Elt F))
  :: StableHlo.unary main_while0b_v35 main_while0b_v36 (Host.exp : (⟨S8x1x1, .f32⟩ : BufTy).Contents (Elt F) → (⟨S8x1x1, .f32⟩ : BufTy).Contents (Elt F))
  :: StableHlo.binary main_while0b_v29 main_while0b_v34 main_while0b_v37 (subf : (⟨S8x1x1, .f32⟩ : BufTy).Contents (Elt F) → (⟨S8x1x1, .f32⟩ : BufTy).Contents (Elt F) → (⟨S8x1x1, .f32⟩ : BufTy).Contents (Elt F))
  :: StableHlo.unary main_while0b_v37 main_while0b_v38 (Host.exp : (⟨S8x1x1, .f32⟩ : BufTy).Contents (Elt F) → (⟨S8x1x1, .f32⟩ : BufTy).Contents (Elt F))
  :: StableHlo.binary main_while0b_v32 main_while0b_v34 main_while0b_v39 (subf : (⟨S8x1x1, .f32⟩ : BufTy).Contents (Elt F) → (⟨S8x1x1, .f32⟩ : BufTy).Contents (Elt F) → (⟨S8x1x1, .f32⟩ : BufTy).Contents (Elt F))
  :: StableHlo.unary main_while0b_v39 main_while0b_v40 (Host.exp : (⟨S8x1x1, .f32⟩ : BufTy).Contents (Elt F) → (⟨S8x1x1, .f32⟩ : BufTy).Contents (Elt F))
  :: StableHlo.binary main_while0b_v36 main_while0b_v38 main_while0b_v41 (addf : (⟨S8x1x1, .f32⟩ : BufTy).Contents (Elt F) → (⟨S8x1x1, .f32⟩ : BufTy).Contents (Elt F) → (⟨S8x1x1, .f32⟩ : BufTy).Contents (Elt F))
  :: StableHlo.binary main_while0b_v41 main_while0b_v40 main_while0b_v42 (addf : (⟨S8x1x1, .f32⟩ : BufTy).Contents (Elt F) → (⟨S8x1x1, .f32⟩ : BufTy).Contents (Elt F) → (⟨S8x1x1, .f32⟩ : BufTy).Contents (Elt F))
  :: StableHlo.unary main_while0b_v42 main_while0b_v43 (Host.log : (⟨S8x1x1, .f32⟩ : BufTy).Contents (Elt F) → (⟨S8x1x1, .f32⟩ : BufTy).Contents (Elt F))
  :: StableHlo.binary main_while0b_v43 main_while0b_v34 main_while0b_v44 (addf : (⟨S8x1x1, .f32⟩ : BufTy).Contents (Elt F) → (⟨S8x1x1, .f32⟩ : BufTy).Contents (Elt F) → (⟨S8x1x1, .f32⟩ : BufTy).Contents (Elt F))
  :: StableHlo.nullary main_while0b_cst_41 (constant S_ .f32 0xBF800000#32)
  :: StableHlo.unary main_while0b_cst_41 main_while0b_v45 (broadcastInDim S8x1x1 ![] bcast_S_S8x1x1 : (⟨S_, .f32⟩ : BufTy).Contents (Elt F) → (⟨S8x1x1, .f32⟩ : BufTy).Contents (Elt F))
  :: StableHlo.binary main_while0b_v45 main_while0b_v44 main_while0b_v46 (mulf : (⟨S8x1x1, .f32⟩ : BufTy).Contents (Elt F) → (⟨S8x1x1, .f32⟩ : BufTy).Contents (Elt F) → (⟨S8x1x1, .f32⟩ : BufTy).Contents (Elt F))
  :: StableHlo.binary main_while0b_v36 main_while0b_v42 main_while0b_v47 (Host.divf : (⟨S8x1x1, .f32⟩ : BufTy).Contents (Elt F) → (⟨S8x1x1, .f32⟩ : BufTy).Contents (Elt F) → (⟨S8x1x1, .f32⟩ : BufTy).Contents (Elt F))
  :: StableHlo.binary main_while0b_v38 main_while0b_v42 main_while0b_v48 (Host.divf : (⟨S8x1x1, .f32⟩ : BufTy).Contents (Elt F) → (⟨S8x1x1, .f32⟩ : BufTy).Contents (Elt F) → (⟨S8x1x1, .f32⟩ : BufTy).Contents (Elt F))
  :: StableHlo.binary main_while0b_v40 main_while0b_v42 main_while0b_v49 (Host.divf : (⟨S8x1x1, .f32⟩ : BufTy).Contents (Elt F) → (⟨S8x1x1, .f32⟩ : BufTy).Contents (Elt F) → (⟨S8x1x1, .f32⟩ : BufTy).Contents (Elt F))
  :: StableHlo.nullary main_while0b_c_42 (constantI S_ 32 0#32)
  :: StableHlo.unaryIndexed main_v4_0 ![main_while0b_c_42, main_while0b_v17, main_while0b_v18] ⟨S_, .i32⟩ main_while0b_v50 ((fun x i => Host.dynamicSlice S8x1x1 x (fun k => (i k (Shape.Idx.first h_S_)).toInt) sliceFits_S8x128x128_S8x1x1) : (⟨S8x128x128, .f32⟩ : BufTy).Contents (Elt F) → (Fin 3 → (⟨S_, .i32⟩ : BufTy).Contents (Elt F)) → (⟨S8x1x1, .f32⟩ : BufTy).Contents (Elt F))
  :: StableHlo.binary main_while0b_v50 main_while0b_v46 main_while0b_v51 (addf : (⟨S8x1x1, .f32⟩ : BufTy).Contents (Elt F) → (⟨S8x1x1, .f32⟩ : BufTy).Contents (Elt F) → (⟨S8x1x1, .f32⟩ : BufTy).Contents (Elt F))
  :: StableHlo.nullary main_while0b_c_43 (constantI S_ 32 1#32)
  :: StableHlo.binary main_while0b_v17 main_while0b_c_43 main_while0b_v52 (addi : (⟨S_, .i32⟩ : BufTy).Contents (Elt F) → (⟨S_, .i32⟩ : BufTy).Contents (Elt F) → (⟨S_, .i32⟩ : BufTy).Contents (Elt F))
  :: StableHlo.nullary main_while0b_c_44 (constantI S_ 32 1#32)
  :: StableHlo.binary main_while0b_v18 main_while0b_c_44 main_while0b_v53 (addi : (⟨S_, .i32⟩ : BufTy).Contents (Elt F) → (⟨S_, .i32⟩ : BufTy).Contents (Elt F) → (⟨S_, .i32⟩ : BufTy).Contents (Elt F))
  :: StableHlo.nullary main_while0b_c_45 (constantI S_ 32 0#32)
  :: StableHlo.binaryIndexed main_v4_3 main_while0b_v51 ![main_while0b_c_45, main_while0b_v52, main_while0b_v53] ⟨S_, .i32⟩ main_while0b_v54 ((fun x u i => Host.dynamicUpdateSlice x u (fun k => (i k (Shape.Idx.first h_S_)).toInt) updateFits_S8x129x129_S8x1x1) : (⟨S8x129x129, .f32⟩ : BufTy).Contents (Elt F) → (⟨S8x1x1, .f32⟩ : BufTy).Contents (Elt F) → (Fin 3 → (⟨S_, .i32⟩ : BufTy).Contents (Elt F)) → (⟨S8x129x129, .f32⟩ : BufTy).Contents (Elt F))
  :: StableHlo.nullary main_while0b_c_46 (constantI S_ 32 1#32)
  :: StableHlo.binary main_while0b_v17 main_while0b_c_46 main_while0b_v55 (addi : (⟨S_, .i32⟩ : BufTy).Contents (Elt F) → (⟨S_, .i32⟩ : BufTy).Contents (Elt F) → (⟨S_, .i32⟩ : BufTy).Contents (Elt F))
  :: StableHlo.nullary main_while0b_c_47 (constantI S_ 32 1#32)
  :: StableHlo.binary main_while0b_v18 main_while0b_c_47 main_while0b_v56 (addi : (⟨S_, .i32⟩ : BufTy).Contents (Elt F) → (⟨S_, .i32⟩ : BufTy).Contents (Elt F) → (⟨S_, .i32⟩ : BufTy).Contents (Elt F))
  :: StableHlo.nullary main_while0b_c_48 (constantI S_ 32 0#32)
  :: StableHlo.binaryIndexed main_v4_4 main_while0b_v47 ![main_while0b_c_48, main_while0b_v55, main_while0b_v56] ⟨S_, .i32⟩ main_while0b_v57 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_while0b_c_49 (constantI S_ 32 1#32)
  :: StableHlo.binary main_while0b_v17 main_while0b_c_49 main_while0b_v58 (addi : (⟨S_, .i32⟩ : BufTy).Contents (Elt F) → (⟨S_, .i32⟩ : BufTy).Contents (Elt F) → (⟨S_, .i32⟩ : BufTy).Contents (Elt F))
  :: StableHlo.nullary main_while0b_c_50 (constantI S_ 32 1#32)
  :: StableHlo.binary main_while0b_v18 main_while0b_c_50 main_while0b_v59 (addi : (⟨S_, .i32⟩ : BufTy).Contents (Elt F) → (⟨S_, .i32⟩ : BufTy).Contents (Elt F) → (⟨S_, .i32⟩ : BufTy).Contents (Elt F))
  :: StableHlo.nullary main_while0b_c_51 (constantI S_ 32 0#32)
  :: StableHlo.binaryIndexed main_v4_5 main_while0b_v48 ![main_while0b_c_51, main_while0b_v58, main_while0b_v59] ⟨S_, .i32⟩ main_while0b_v60 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_while0b_c_52 (constantI S_ 32 1#32)
  :: StableHlo.binary main_while0b_v17 main_while0b_c_52 main_while0b_v61 (addi : (⟨S_, .i32⟩ : BufTy).Contents (Elt F) → (⟨S_, .i32⟩ : BufTy).Contents (Elt F) → (⟨S_, .i32⟩ : BufTy).Contents (Elt F))
  :: StableHlo.nullary main_while0b_c_53 (constantI S_ 32 1#32)
  :: StableHlo.binary main_while0b_v18 main_while0b_c_53 main_while0b_v62 (addi : (⟨S_, .i32⟩ : BufTy).Contents (Elt F) → (⟨S_, .i32⟩ : BufTy).Contents (Elt F) → (⟨S_, .i32⟩ : BufTy).Contents (Elt F))
  :: StableHlo.nullary main_while0b_c_54 (constantI S_ 32 0#32)
  :: StableHlo.binaryIndexed main_v4_6 main_while0b_v49 ![main_while0b_c_54, main_while0b_v61, main_while0b_v62] ⟨S_, .i32⟩ main_while0b_v63 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_while0b_c_55 (constantI S_ 32 1#32)
  :: StableHlo.binary main_v4_1 main_while0b_c_55 main_while0b_v64 (addi : (⟨S_, .i32⟩ : BufTy).Contents (Elt F) → (⟨S_, .i32⟩ : BufTy).Contents (Elt F) → (⟨S_, .i32⟩ : BufTy).Contents (Elt F))
  :: StableHlo.unary main_while0b_v64 main_v4_1 id
  :: StableHlo.unary main_while0b_v16 main_v4_2 id
  :: StableHlo.unary main_while0b_v54 main_v4_3 id
  :: StableHlo.unary main_while0b_v57 main_v4_4 id
  :: StableHlo.unary main_while0b_v60 main_v4_5 id
  :: StableHlo.unary main_while0b_v63 main_v4_6 id
  :: [] )
/-- The references body0Ops writes, in order. -/
abbrev body0OpsW : List (Ref sig .tc) := [main_while0b_c_30, main_while0b_v16, main_while0b_c_31, main_while0b_v17, main_while0b_c_32, main_while0b_v18, main_while0b_c_33, main_while0b_v19, main_while0b_c_34, main_while0b_v20, main_while0b_c_35, main_while0b_v21, main_while0b_c_36, main_while0b_v22, main_while0b_c_37, main_while0b_v23, main_while0b_v24, main_while0b_cst_38, main_while0b_v25, main_while0b_v26, main_while0b_v27, main_while0b_cst_39, main_while0b_v28, main_while0b_v29, main_while0b_v30, main_while0b_cst_40, main_while0b_v31, main_while0b_v32, main_while0b_v33, main_while0b_v34, main_while0b_v35, main_while0b_v36, main_while0b_v37, main_while0b_v38, main_while0b_v39, main_while0b_v40, main_while0b_v41, main_while0b_v42, main_while0b_v43, main_while0b_v44, main_while0b_cst_41, main_while0b_v45, main_while0b_v46, main_while0b_v47, main_while0b_v48, main_while0b_v49, main_while0b_c_42, main_while0b_v50, main_while0b_v51, main_while0b_c_43, main_while0b_v52, main_while0b_c_44, main_while0b_v53, main_while0b_c_45, main_while0b_v54, main_while0b_c_46, main_while0b_v55, main_while0b_c_47, main_while0b_v56, main_while0b_c_48, main_while0b_v57, main_while0b_c_49, main_while0b_v58, main_while0b_c_50, main_while0b_v59, main_while0b_c_51, main_while0b_v60, main_while0b_c_52, main_while0b_v61, main_while0b_c_53, main_while0b_v62, main_while0b_c_54, main_while0b_v63, main_while0b_c_55, main_while0b_v64, main_v4_1, main_v4_2, main_v4_3, main_v4_4, main_v4_5, main_v4_6]

set_option maxHeartbeats 4000000 in
/-- The second loop's body, one cell of the backward recursion -/
abbrev body1Ops : List (HloOp τ sig (Elt F)) :=
  ( StableHlo.nullary main_while1b_c_29 (constantI S_ 32 1#32)
  :: StableHlo.binary main_v11_4 main_while1b_c_29 main_while1b_v16 (addi : (⟨S_, .i32⟩ : BufTy).Contents (Elt F) → (⟨S_, .i32⟩ : BufTy).Contents (Elt F) → (⟨S_, .i32⟩ : BufTy).Contents (Elt F))
  :: StableHlo.nullary main_while1b_c_30 (constantI S_ 32 128#32)
  :: StableHlo.binary main_v11_4 main_while1b_c_30 main_while1b_v17 (Host.divsi : (⟨S_, .i32⟩ : BufTy).Contents (Elt F) → (⟨S_, .i32⟩ : BufTy).Contents (Elt F) → (⟨S_, .i32⟩ : BufTy).Contents (Elt F))
  :: StableHlo.nullary main_while1b_c_31 (constantI S_ 32 128#32)
  :: StableHlo.binary main_while1b_c_31 main_while1b_v17 main_while1b_v18 (subi : (⟨S_, .i32⟩ : BufTy).Contents (Elt F) → (⟨S_, .i32⟩ : BufTy).Contents (Elt F) → (⟨S_, .i32⟩ : BufTy).Contents (Elt F))
  :: StableHlo.nullary main_while1b_c_32 (constantI S_ 32 128#32)
  :: StableHlo.binary main_v11_4 main_while1b_c_32 main_while1b_v19 (Host.remsi : (⟨S_, .i32⟩ : BufTy).Contents (Elt F) → (⟨S_, .i32⟩ : BufTy).Contents (Elt F) → (⟨S_, .i32⟩ : BufTy).Contents (Elt F))
  :: StableHlo.nullary main_while1b_c_33 (constantI S_ 32 128#32)
  :: StableHlo.binary main_while1b_c_33 main_while1b_v19 main_while1b_v20 (subi : (⟨S_, .i32⟩ : BufTy).Contents (Elt F) → (⟨S_, .i32⟩ : BufTy).Contents (Elt F) → (⟨S_, .i32⟩ : BufTy).Contents (Elt F))
  :: StableHlo.nullary main_while1b_c_34 (constantI S_ 32 1#32)
  :: StableHlo.binary main_while1b_v20 main_while1b_c_34 main_while1b_v21 (addi : (⟨S_, .i32⟩ : BufTy).Contents (Elt F) → (⟨S_, .i32⟩ : BufTy).Contents (Elt F) → (⟨S_, .i32⟩ : BufTy).Contents (Elt F))
  :: StableHlo.nullary main_while1b_c_35 (constantI S_ 32 0#32)
  :: StableHlo.unaryIndexed main_v11_0 ![main_while1b_c_35, main_while1b_v18, main_while1b_v21] ⟨S_, .i32⟩ main_while1b_v22 ((fun x i => Host.dynamicSlice S8x1x1 x (fun k => (i k (Shape.Idx.first h_S_)).toInt) sliceFits_S8x130x130_S8x1x1) : (⟨S8x130x130, .f32⟩ : BufTy).Contents (Elt F) → (Fin 3 → (⟨S_, .i32⟩ : BufTy).Contents (Elt F)) → (⟨S8x1x1, .f32⟩ : BufTy).Contents (Elt F))
  :: StableHlo.nullary main_while1b_c_36 (constantI S_ 32 1#32)
  :: StableHlo.binary main_while1b_v20 main_while1b_c_36 main_while1b_v23 (addi : (⟨S_, .i32⟩ : BufTy).Contents (Elt F) → (⟨S_, .i32⟩ : BufTy).Contents (Elt F) → (⟨S_, .i32⟩ : BufTy).Contents (Elt F))
  :: StableHlo.nullary main_while1b_c_37 (constantI S_ 32 0#32)
  :: StableHlo.unaryIndexed main_v11_5 ![main_while1b_c_37, main_while1b_v18, main_while1b_v23] ⟨S_, .i32⟩ main_while1b_v24 ((fun x i => Host.dynamicSlice S8x1x1 x (fun k => (i k (Shape.Idx.first h_S_)).toInt) sliceFits_S8x130x130_S8x1x1) : (⟨S8x130x130, .f32⟩ : BufTy).Contents (Elt F) → (Fin 3 → (⟨S_, .i32⟩ : BufTy).Contents (Elt F)) → (⟨S8x1x1, .f32⟩ : BufTy).Contents (Elt F))
  :: StableHlo.binary main_while1b_v22 main_while1b_v24 main_while1b_v25 (mulf : (⟨S8x1x1, .f32⟩ : BufTy).Contents (Elt F) → (⟨S8x1x1, .f32⟩ : BufTy).Contents (Elt F) → (⟨S8x1x1, .f32⟩ : BufTy).Contents (Elt F))
  :: StableHlo.nullary main_while1b_c_38 (constantI S_ 32 1#32)
  :: StableHlo.binary main_while1b_v18 main_while1b_c_38 main_while1b_v26 (addi : (⟨S_, .i32⟩ : BufTy).Contents (Elt F) → (⟨S_, .i32⟩ : BufTy).Contents (Elt F) → (⟨S_, .i32⟩ : BufTy).Contents (Elt F))
  :: StableHlo.nullary main_while1b_c_39 (constantI S_ 32 1#32)
  :: StableHlo.binary main_while1b_v20 main_while1b_c_39 main_while1b_v27 (addi : (⟨S_, .i32⟩ : BufTy).Contents (Elt F) → (⟨S_, .i32⟩ : BufTy).Contents (Elt F) → (⟨S_, .i32⟩ : BufTy).Contents (Elt F))
  :: StableHlo.nullary main_while1b_c_40 (constantI S_ 32 0#32)
  :: StableHlo.unaryIndexed main_v11_1 ![main_while1b_c_40, main_while1b_v26, main_while1b_v27] ⟨S_, .i32⟩ main_while1b_v28 ((fun x i => Host.dynamicSlice S8x1x1 x (fun k => (i k (Shape.Idx.first h_S_)).toInt) sliceFits_S8x130x130_S8x1x1) : (⟨S8x130x130, .f32⟩ : BufTy).Contents (Elt F) → (Fin 3 → (⟨S_, .i32⟩ : BufTy).Contents (Elt F)) → (⟨S8x1x1, .f32⟩ : BufTy).Contents (Elt F))
  :: StableHlo.nullary main_while1b_c_41 (constantI S_ 32 1#32)
  :: StableHlo.binary main_while1b_v18 main_while1b_c_41 main_while1b_v29 (addi : (⟨S_, .i32⟩ : BufTy).Contents (Elt F) → (⟨S_, .i32⟩ : BufTy).Contents (Elt F) → (⟨S_, .i32⟩ : BufTy).Contents (Elt F))
  :: StableHlo.nullary main_while1b_c_42 (constantI S_ 32 1#32)
  :: StableHlo.binary main_while1b_v20 main_while1b_c_42 main_while1b_v30 (addi : (⟨S_, .i32⟩ : BufTy).Contents (Elt F) → (⟨S_, .i32⟩ : BufTy).Contents (Elt F) → (⟨S_, .i32⟩ : BufTy).Contents (Elt F))
  :: StableHlo.nullary main_while1b_c_43 (constantI S_ 32 0#32)
  :: StableHlo.unaryIndexed main_v11_5 ![main_while1b_c_43, main_while1b_v29, main_while1b_v30] ⟨S_, .i32⟩ main_while1b_v31 ((fun x i => Host.dynamicSlice S8x1x1 x (fun k => (i k (Shape.Idx.first h_S_)).toInt) sliceFits_S8x130x130_S8x1x1) : (⟨S8x130x130, .f32⟩ : BufTy).Contents (Elt F) → (Fin 3 → (⟨S_, .i32⟩ : BufTy).Contents (Elt F)) → (⟨S8x1x1, .f32⟩ : BufTy).Contents (Elt F))
  :: StableHlo.binary main_while1b_v28 main_while1b_v31 main_while1b_v32 (mulf : (⟨S8x1x1, .f32⟩ : BufTy).Contents (Elt F) → (⟨S8x1x1, .f32⟩ : BufTy).Contents (Elt F) → (⟨S8x1x1, .f32⟩ : BufTy).Contents (Elt F))
  :: StableHlo.binary main_while1b_v25 main_while1b_v32 main_while1b_v33 (addf : (⟨S8x1x1, .f32⟩ : BufTy).Contents (Elt F) → (⟨S8x1x1, .f32⟩ : BufTy).Contents (Elt F) → (⟨S8x1x1, .f32⟩ : BufTy).Contents (Elt F))
  :: StableHlo.nullary main_while1b_c_44 (constantI S_ 32 1#32)
  :: StableHlo.binary main_while1b_v18 main_while1b_c_44 main_while1b_v34 (addi : (⟨S_, .i32⟩ : BufTy).Contents (Elt F) → (⟨S_, .i32⟩ : BufTy).Contents (Elt F) → (⟨S_, .i32⟩ : BufTy).Contents (Elt F))
  :: StableHlo.nullary main_while1b_c_45 (constantI S_ 32 0#32)
  :: StableHlo.unaryIndexed main_v11_2 ![main_while1b_c_45, main_while1b_v34, main_while1b_v20] ⟨S_, .i32⟩ main_while1b_v35 ((fun x i => Host.dynamicSlice S8x1x1 x (fun k => (i k (Shape.Idx.first h_S_)).toInt) sliceFits_S8x130x130_S8x1x1) : (⟨S8x130x130, .f32⟩ : BufTy).Contents (Elt F) → (Fin 3 → (⟨S_, .i32⟩ : BufTy).Contents (Elt F)) → (⟨S8x1x1, .f32⟩ : BufTy).Contents (Elt F))
  :: StableHlo.nullary main_while1b_c_46 (constantI S_ 32 1#32)
  :: StableHlo.binary main_while1b_v18 main_while1b_c_46 main_while1b_v36 (addi : (⟨S_, .i32⟩ : BufTy).Contents (Elt F) → (⟨S_, .i32⟩ : BufTy).Contents (Elt F) → (⟨S_, .i32⟩ : BufTy).Contents (Elt F))
  :: StableHlo.nullary main_while1b_c_47 (constantI S_ 32 0#32)
  :: StableHlo.unaryIndexed main_v11_5 ![main_while1b_c_47, main_while1b_v36, main_while1b_v20] ⟨S_, .i32⟩ main_while1b_v37 ((fun x i => Host.dynamicSlice S8x1x1 x (fun k => (i k (Shape.Idx.first h_S_)).toInt) sliceFits_S8x130x130_S8x1x1) : (⟨S8x130x130, .f32⟩ : BufTy).Contents (Elt F) → (Fin 3 → (⟨S_, .i32⟩ : BufTy).Contents (Elt F)) → (⟨S8x1x1, .f32⟩ : BufTy).Contents (Elt F))
  :: StableHlo.binary main_while1b_v35 main_while1b_v37 main_while1b_v38 (mulf : (⟨S8x1x1, .f32⟩ : BufTy).Contents (Elt F) → (⟨S8x1x1, .f32⟩ : BufTy).Contents (Elt F) → (⟨S8x1x1, .f32⟩ : BufTy).Contents (Elt F))
  :: StableHlo.binary main_while1b_v33 main_while1b_v38 main_while1b_v39 (addf : (⟨S8x1x1, .f32⟩ : BufTy).Contents (Elt F) → (⟨S8x1x1, .f32⟩ : BufTy).Contents (Elt F) → (⟨S8x1x1, .f32⟩ : BufTy).Contents (Elt F))
  :: StableHlo.nullary main_while1b_c_48 (constantI S_ 32 0#32)
  :: StableHlo.binaryIndexed main_v11_5 main_while1b_v39 ![main_while1b_c_48, main_while1b_v18, main_while1b_v20] ⟨S_, .i32⟩ main_while1b_v40 ((fun x u i => Host.dynamicUpdateSlice x u (fun k => (i k (Shape.Idx.first h_S_)).toInt) updateFits_S8x130x130_S8x1x1) : (⟨S8x130x130, .f32⟩ : BufTy).Contents (Elt F) → (⟨S8x1x1, .f32⟩ : BufTy).Contents (Elt F) → (Fin 3 → (⟨S_, .i32⟩ : BufTy).Contents (Elt F)) → (⟨S8x130x130, .f32⟩ : BufTy).Contents (Elt F))
  :: StableHlo.nullary main_while1b_c_49 (constantI S_ 32 1#32)
  :: StableHlo.binary main_v11_3 main_while1b_c_49 main_while1b_v41 (addi : (⟨S_, .i32⟩ : BufTy).Contents (Elt F) → (⟨S_, .i32⟩ : BufTy).Contents (Elt F) → (⟨S_, .i32⟩ : BufTy).Contents (Elt F))
  :: StableHlo.unary main_while1b_v41 main_v11_3 id
  :: StableHlo.unary main_while1b_v16 main_v11_4 id
  :: StableHlo.unary main_while1b_v40 main_v11_5 id
  :: [] )
/-- The references body1Ops writes, in order. -/
abbrev body1OpsW : List (Ref sig .tc) := [main_while1b_c_29, main_while1b_v16, main_while1b_c_30, main_while1b_v17, main_while1b_c_31, main_while1b_v18, main_while1b_c_32, main_while1b_v19, main_while1b_c_33, main_while1b_v20, main_while1b_c_34, main_while1b_v21, main_while1b_c_35, main_while1b_v22, main_while1b_c_36, main_while1b_v23, main_while1b_c_37, main_while1b_v24, main_while1b_v25, main_while1b_c_38, main_while1b_v26, main_while1b_c_39, main_while1b_v27, main_while1b_c_40, main_while1b_v28, main_while1b_c_41, main_while1b_v29, main_while1b_c_42, main_while1b_v30, main_while1b_c_43, main_while1b_v31, main_while1b_v32, main_while1b_v33, main_while1b_c_44, main_while1b_v34, main_while1b_c_45, main_while1b_v35, main_while1b_c_46, main_while1b_v36, main_while1b_c_47, main_while1b_v37, main_while1b_v38, main_while1b_v39, main_while1b_c_48, main_while1b_v40, main_while1b_c_49, main_while1b_v41, main_v11_3, main_v11_4, main_v11_5]

/-- The loops' conditions: the bound, and the counter compared with it. -/
abbrev cond0Ops : List (HloOp τ sig (Elt F)) :=
  [ StableHlo.nullary main_while0c_c_30 (constantI S_ 32 16384#32),
    StableHlo.binary main_v4_1 main_while0c_c_30 main_while0c_v16 (cmpi .slt) ]
/-- The second loop's condition. -/
abbrev cond1Ops : List (HloOp τ sig (Elt F)) :=
  [ StableHlo.nullary main_while1c_c_29 (constantI S_ 32 16384#32),
    StableHlo.binary main_v11_3 main_while1c_c_29 main_while1c_v16 (cmpi .slt) ]
/-- The references the conditions write. -/
abbrev cond0OpsW : List (Ref sig .tc) := [main_while0c_c_30, main_while0c_v16]
/-- The references the second condition writes. -/
abbrev cond1OpsW : List (Ref sig .tc) := [main_while1c_c_29, main_while1c_v16]

/-- The program type of @main's parts. -/
abbrev HProg : Type _ := Prog (TpuEff nD τ sig (Elt F) (HostLoop.Sig (Pipeline.Sig Λ₀ (Fin 0) fun p => (pcfgs (F := F) p).Adm) 2) .tc) PUnit

/-- @main is the chain of its lines and loops. -/
theorem main_eq (c : Dev nD) : main (F := F) c = (Pipeline.chain
    [ StableHlo.seq preOps, HostLoop.enter 0, StableHlo.seq midOps, HostLoop.enter 1, StableHlo.seq postOps ] : HProg (F := F)) := by
  rewrite [StableHlo.chain_seq_cons, Pipeline.chain_cons, StableHlo.chain_seq_cons, Pipeline.chain_cons, StableHlo.chain_seq_cons]
  chain_rfl

/-- The first loop's body is one line. -/
theorem body0_eq : main_while0_body (F := F) = (Pipeline.chain [ StableHlo.seq body0Ops ] : HProg (F := F)) := by
  rewrite [StableHlo.chain_seq_cons]
  chain_rfl

/-- The second loop's body is one line. -/
theorem body1_eq : main_while1_body (F := F) = (Pipeline.chain [ StableHlo.seq body1Ops ] : HProg (F := F)) := by
  rewrite [StableHlo.chain_seq_cons]
  chain_rfl

set_option maxHeartbeats 4000000 in
/-- `preOps` writes what its list says. -/
theorem preOps_writes : (preOps : List (HloOp τ sig (Elt F))).Forall fun op => op.writes ⊆ (preOpsW.map (Proc.devRef (τ := τ) .tc)).toFinset :=
  StableHlo.forall_writes_sub_of_map rfl
set_option maxHeartbeats 4000000 in
/-- `midOps` writes what its list says. -/
theorem midOps_writes : (midOps : List (HloOp τ sig (Elt F))).Forall fun op => op.writes ⊆ (midOpsW.map (Proc.devRef (τ := τ) .tc)).toFinset :=
  StableHlo.forall_writes_sub_of_map rfl
set_option maxHeartbeats 4000000 in
/-- `postOps` writes what its list says. -/
theorem postOps_writes : (postOps : List (HloOp τ sig (Elt F))).Forall fun op => op.writes ⊆ (postOpsW.map (Proc.devRef (τ := τ) .tc)).toFinset :=
  StableHlo.forall_writes_sub_of_map rfl
set_option maxHeartbeats 4000000 in
/-- `body0Ops` writes what its list says. -/
theorem body0Ops_writes : (body0Ops : List (HloOp τ sig (Elt F))).Forall fun op => op.writes ⊆ (body0OpsW.map (Proc.devRef (τ := τ) .tc)).toFinset :=
  StableHlo.forall_writes_sub_of_map rfl
set_option maxHeartbeats 4000000 in
/-- `body1Ops` writes what its list says. -/
theorem body1Ops_writes : (body1Ops : List (HloOp τ sig (Elt F))).Forall fun op => op.writes ⊆ (body1OpsW.map (Proc.devRef (τ := τ) .tc)).toFinset :=
  StableHlo.forall_writes_sub_of_map rfl
set_option maxHeartbeats 4000000 in
/-- `cond0Ops` writes what its list says. -/
theorem cond0Ops_writes : (cond0Ops : List (HloOp τ sig (Elt F))).Forall fun op => op.writes ⊆ (cond0OpsW.map (Proc.devRef (τ := τ) .tc)).toFinset :=
  StableHlo.forall_writes_sub_of_map rfl
set_option maxHeartbeats 4000000 in
/-- `cond1Ops` writes what its list says. -/
theorem cond1Ops_writes : (cond1Ops : List (HloOp τ sig (Elt F))).Forall fun op => op.writes ⊆ (cond1OpsW.map (Proc.devRef (τ := τ) .tc)).toFinset :=
  StableHlo.forall_writes_sub_of_map rfl

/-- An operation list is plain: TensorCore references only, nothing allocated. -/
theorem plain_of {ops : List (HloOp τ sig (Elt F))} (hs : ops.Forall fun op => op.bufs ⊆ StableHlo.tcRefs τ sig)
    (hf : ops.Forall fun op => op.fresh = ∅) : StableHlo.Plain [ops] :=
  .cons hs .nil (List.forall_iff_forall_mem.mp hf)

/-- `preOps` is plain. -/
theorem preOps_plain : StableHlo.Plain [(preOps : List (HloOp τ sig (Elt F)))] :=
  plain_of ⟨StableHlo.nullary_bufs_sub .., StableHlo.unary_bufs_sub .., StableHlo.nullary_bufs_sub .., StableHlo.unary_bufs_sub .., StableHlo.nullary_bufs_sub .., StableHlo.nullary_bufs_sub .., StableHlo.nullary_bufs_sub .., StableHlo.binaryIndexed_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩ (StableHlo.forall_fresh_of_map rfl)
/-- `midOps` is plain. -/
theorem midOps_plain : StableHlo.Plain [(midOps : List (HloOp τ sig (Elt F)))] :=
  plain_of ⟨StableHlo.nullary_bufs_sub .., StableHlo.unary_bufs_sub .., StableHlo.nullary_bufs_sub .., StableHlo.nullary_bufs_sub .., StableHlo.nullary_bufs_sub .., StableHlo.binaryIndexed_bufs_sub .., StableHlo.nullary_bufs_sub .., StableHlo.nullary_bufs_sub .., StableHlo.nullary_bufs_sub .., StableHlo.binaryIndexed_bufs_sub .., StableHlo.nullary_bufs_sub .., StableHlo.nullary_bufs_sub .., StableHlo.nullary_bufs_sub .., StableHlo.binaryIndexed_bufs_sub .., StableHlo.nullary_bufs_sub .., StableHlo.unary_bufs_sub .., StableHlo.nullary_bufs_sub .., StableHlo.nullary_bufs_sub .., StableHlo.nullary_bufs_sub .., StableHlo.binaryIndexed_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩ (StableHlo.forall_fresh_of_map rfl)
/-- `postOps` is plain. -/
theorem postOps_plain : StableHlo.Plain [(postOps : List (HloOp τ sig (Elt F)))] :=
  plain_of ⟨StableHlo.unary_bufs_sub .., StableHlo.nullary_bufs_sub .., StableHlo.binary_bufs_sub .., StableHlo.nullary_bufs_sub .., StableHlo.unary_bufs_sub .., StableHlo.binary_bufs_sub ..⟩ (StableHlo.forall_fresh_of_map rfl)
/-- `body0Ops` is plain. -/
theorem body0Ops_plain : StableHlo.Plain [(body0Ops : List (HloOp τ sig (Elt F)))] :=
  plain_of ⟨StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.unaryIndexed_bufs_sub .., StableHlo.nullary_bufs_sub .., StableHlo.unaryIndexed_bufs_sub .., StableHlo.nullary_bufs_sub .., StableHlo.binary_bufs_sub .., StableHlo.nullary_bufs_sub .., StableHlo.unaryIndexed_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unaryIndexed_bufs_sub .., StableHlo.binary_bufs_sub .., StableHlo.nullary_bufs_sub .., StableHlo.binary_bufs_sub .., StableHlo.nullary_bufs_sub .., StableHlo.binary_bufs_sub .., StableHlo.nullary_bufs_sub .., StableHlo.binaryIndexed_bufs_sub .., StableHlo.nullary_bufs_sub .., StableHlo.binary_bufs_sub .., StableHlo.nullary_bufs_sub .., StableHlo.binary_bufs_sub .., StableHlo.nullary_bufs_sub .., StableHlo.binaryIndexed_bufs_sub .., StableHlo.nullary_bufs_sub .., StableHlo.binary_bufs_sub .., StableHlo.nullary_bufs_sub .., StableHlo.binary_bufs_sub .., StableHlo.nullary_bufs_sub .., StableHlo.binaryIndexed_bufs_sub .., StableHlo.nullary_bufs_sub .., StableHlo.binary_bufs_sub .., StableHlo.nullary_bufs_sub .., StableHlo.binary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩ (StableHlo.forall_fresh_of_map rfl)
/-- `body1Ops` is plain. -/
theorem body1Ops_plain : StableHlo.Plain [(body1Ops : List (HloOp τ sig (Elt F)))] :=
  plain_of ⟨StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.unaryIndexed_bufs_sub .., StableHlo.nullary_bufs_sub .., StableHlo.binary_bufs_sub .., StableHlo.nullary_bufs_sub .., StableHlo.unaryIndexed_bufs_sub .., StableHlo.binary_bufs_sub .., StableHlo.nullary_bufs_sub .., StableHlo.binary_bufs_sub .., StableHlo.nullary_bufs_sub .., StableHlo.binary_bufs_sub .., StableHlo.nullary_bufs_sub .., StableHlo.unaryIndexed_bufs_sub .., StableHlo.nullary_bufs_sub .., StableHlo.binary_bufs_sub .., StableHlo.nullary_bufs_sub .., StableHlo.binary_bufs_sub .., StableHlo.nullary_bufs_sub .., StableHlo.unaryIndexed_bufs_sub .., StableHlo.binary_bufs_sub .., StableHlo.binary_bufs_sub .., StableHlo.nullary_bufs_sub .., StableHlo.binary_bufs_sub .., StableHlo.nullary_bufs_sub .., StableHlo.unaryIndexed_bufs_sub .., StableHlo.nullary_bufs_sub .., StableHlo.binary_bufs_sub .., StableHlo.nullary_bufs_sub .., StableHlo.unaryIndexed_bufs_sub .., StableHlo.binary_bufs_sub .., StableHlo.binary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩ (StableHlo.forall_fresh_of_map rfl)

end Cert.ReferenceIdeal.Hand
-- ==== Proof.RefRun.lean ====
/- The reference's run: line, counted loop, line, counted loop, line. Every weakly fair execution terminates with each
   buffer at the fold of the lines and the trips. -/
module

public import proofs.«01_k».proof.Proof.RefOps

@[expose] public section

set_option maxRecDepth 4096

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {F : FTy → Type} [FloatOps F]

local notation "𝕄" => MT nD τ sig Unit (Elt F) ℕ (Option PUnit) ℕ

/-- No pipeline: nothing to admit. -/
abbrev adm0 : (p : Fin 0) → (pcfgs (F := F) p).Adm := fun p => p.elim0
/-- No pipeline: no ticket. -/
abbrev tk0 : Fin 0 → Ticket (Ix := Unit) (Name := ℕ) (U := Option PUnit) (Lvl := ℕ) (nD := nD) (τ := τ) (pcfgs (F := F)) adm0 :=
  fun j => j.elim0
/-- No signal index. -/
abbrev ix0 : GSem nD τ sig → Finset Unit := fun _ => ∅
/-- Every level is zero. -/
abbrev lv0 : GSem nD τ sig → Unit → ℕ := fun _ _ => 0

/-- What rides along unchanged: the core owes nothing. -/
abbrev rest (c : Dev nD) : sProp 𝕄 := iprop(∃ W, owes (c : Thread nD τ) (0 : CellTallies nD τ sig Unit) W)

variable (m : (ℓ : Loc nD τ sig) → Buf (Elt F) ℓ) (ρ : Dev nD → PrngReg)

/-- The buffers when the first loop is entered. -/
abbrev W0 (c : Dev nD) : Valuation τ sig (Elt F) := afterL [preOps] (launchContents m c)
/-- The buffers before the first loop's `k`-th condition. -/
abbrev at0 (k : ℕ) (c : Dev nD) : Valuation τ sig (Elt F) := atTrip cond0Ops [body0Ops] (W0 m) k c
/-- The buffers when the first loop is left. -/
abbrev W1 (c : Dev nD) : Valuation τ sig (Elt F) := after cond0Ops (at0 m 16384 c)
/-- The buffers when the second loop is entered. -/
abbrev W2 (c : Dev nD) : Valuation τ sig (Elt F) := afterL [midOps] (W1 m c)
/-- The buffers before the second loop's `k`-th condition. -/
abbrev at1 (k : ℕ) (c : Dev nD) : Valuation τ sig (Elt F) := atTrip cond1Ops [body1Ops] (W2 m) k c
/-- The buffers when the second loop is left. -/
abbrev W3 (c : Dev nD) : Valuation τ sig (Elt F) := after cond1Ops (at1 m 16384 c)
/-- The buffers at the end. -/
abbrev W4 (c : Dev nD) : Valuation τ sig (Elt F) := afterL [postOps] (W3 m c)

/-- The buffers before the condition's first run of loop 0. -/
theorem at0_zero (c : Dev nD) : at0 m 0 c = after preOps (launchContents m c) := rfl

/-- One trip of loop 0. -/
theorem at0_succ (k : ℕ) (c : Dev nD) : at0 m (k + 1) c = after body0Ops (after cond0Ops (at0 m k c)) :=
  atTrip_succ cond0Ops [body0Ops] (W0 m) k c

/-- The buffers before the condition's first run of loop 1. -/
theorem at1_zero (c : Dev nD) : at1 m 0 c = after midOps (W1 m c) := rfl

/-- One trip of loop 1. -/
theorem at1_succ (k : ℕ) (c : Dev nD) : at1 m (k + 1) c = after body1Ops (after cond1Ops (at1 m k c)) :=
  atTrip_succ cond1Ops [body1Ops] (W2 m) k c

/-- Leaving loop 0. -/
theorem W1_eq (c : Dev nD) : W1 m c = after cond0Ops (at0 m 16384 c) := rfl

/-- Leaving loop 1. -/
theorem W3_eq (c : Dev nD) : W3 m c = after cond1Ops (at1 m 16384 c) := rfl

/-! ## The counters -/

/-- The first body adds one to its counter. -/
theorem ctr0_step (X : Valuation τ sig (Elt F)) :
    after body0Ops X (Proc.devRef .tc main_v4_1) = addi (X (Proc.devRef .tc main_v4_1)) (constantI S_ 32 1#32) := by
  after_reads_simp
  rfl

/-- The second body adds one to its counter. -/
theorem ctr1_step (X : Valuation τ sig (Elt F)) :
    after body1Ops X (Proc.devRef .tc main_v11_3) = addi (X (Proc.devRef .tc main_v11_3)) (constantI S_ 32 1#32) := by
  after_reads_simp
  rfl

/-- The first condition leaves what it does not write. -/
theorem keep_cond0 (X : Valuation τ sig (Elt F)) (r : Ref sig .tc) (h : r ∉ cond0OpsW) :
    after cond0Ops X (Proc.devRef .tc r) = X (Proc.devRef .tc r) :=
  after_of_writes_sub _ X cond0Ops_writes h

/-- The second condition leaves what it does not write. -/
theorem keep_cond1 (X : Valuation τ sig (Elt F)) (r : Ref sig .tc) (h : r ∉ cond1OpsW) :
    after cond1Ops X (Proc.devRef .tc r) = X (Proc.devRef .tc r) :=
  after_of_writes_sub _ X cond1Ops_writes h

/-- The first counter before the `k`-th condition. -/
theorem at0_ctr (c : Dev nD) : ∀ k, at0 m k c (Proc.devRef .tc main_v4_1) = fun _ => Scf.iv 0#32 1#32 k
  | 0 => by
    rw [at0_zero]
    rw [Scf.iv_zero]
    after_reads_simp
    rfl
  | k + 1 => by
    rw [at0_succ]
    rw [ctr0_step, keep_cond0 _ _ (by decide), at0_ctr c k, Scf.iv_succ]
    rfl

/-- The second counter before the `k`-th condition. -/
theorem at1_ctr (c : Dev nD) : ∀ k, at1 m k c (Proc.devRef .tc main_v11_3) = fun _ => Scf.iv 0#32 1#32 k
  | 0 => by
    rw [at1_zero]
    generalize W1 m c = X
    rw [Scf.iv_zero]
    after_reads_simp
    rfl
  | k + 1 => by
    rw [at1_succ]
    rw [ctr1_step, keep_cond1 _ _ (by decide), at1_ctr c k, Scf.iv_succ]
    rfl

/-! ## The conditions -/

set_option backward.isDefEq.respectTransparency.types false in
/-- The first condition answers whether a trip is left. -/
theorem cond0_spec : LoopCond (pcfgs (F := F)) defs₀ Variants.none loops (rest (F := F)) (main_while0_cond (F := F)) cond0Ops [body0Ops] (W0 m) 16384 := by
  intro k hk c bd
  have hctr := at0_ctr m c k
  unfold main_while0_cond
  rw [wp_bind]
  iintro ⟨Hb, Hh, Hr⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v4_1 HostLoop.idx0)
        (HloOp.result _ (at0 m k c) main_while0c_c_30 HostLoop.idx0) = 1#1) (k < 16384)
    rw [nullary_result_ne _ _ _ _ (by decide), nullary_result, hctr]
    exact Scf.cmpi_slt_iv_ub_iff (lb := 0#32) (ub := 16384#32) (st := 1#32) (by decide) (show k ≤ Scf.trips 0#32 16384#32 1#32 from hk)
  isplitl [Hb]; · iexact Hb
  isplitl [Hh]
  · rw [after_cons, after_cons, after_nil]; iexact Hh
  iexact Hr

set_option backward.isDefEq.respectTransparency.types false in
/-- The second condition answers whether a trip is left. -/
theorem cond1_spec : LoopCond (pcfgs (F := F)) defs₀ Variants.none loops (rest (F := F)) (main_while1_cond (F := F)) cond1Ops [body1Ops] (W2 m) 16384 := by
  intro k hk c bd
  have hctr := at1_ctr m c k
  unfold main_while1_cond
  rw [wp_bind]
  iintro ⟨Hb, Hh, Hr⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v11_3 HostLoop.idx0)
        (HloOp.result _ (at1 m k c) main_while1c_c_29 HostLoop.idx0) = 1#1) (k < 16384)
    rw [nullary_result_ne _ _ _ _ (by decide), nullary_result, hctr]
    exact Scf.cmpi_slt_iv_ub_iff (lb := 0#32) (ub := 16384#32) (st := 1#32) (by decide) (show k ≤ Scf.trips 0#32 16384#32 1#32 from hk)
  isplitl [Hb]; · iexact Hb
  isplitl [Hh]
  · rw [after_cons, after_cons, after_nil]; iexact Hh
  iexact Hr

/-! ## The run -/

/-- The first loop as a segment. -/
abbrev loop0 : CSeg (pcfgs (F := F)) adm0 defs₀ Variants.none ix0 lv0 loops tk0 :=
  loopSeg _ _ _ _ _ _ _ _ 0 main_while0_cond main_while0_body rfl cond0Ops [body0Ops] body0Ops_plain
    (by rw [body0_eq]; rfl) 16384 (W0 m) rest (cond0_spec m)
/-- The second loop as a segment. -/
abbrev loop1 : CSeg (pcfgs (F := F)) adm0 defs₀ Variants.none ix0 lv0 loops tk0 :=
  loopSeg _ _ _ _ _ _ _ _ 1 main_while1_cond main_while1_body rfl cond1Ops [body1Ops] body1Ops_plain
    (by rw [body1_eq]; rfl) 16384 (W2 m) rest (cond1_spec m)

/-- @main's segments. -/
def segs : List (CSeg (pcfgs (F := F)) adm0 defs₀ Variants.none ix0 lv0 loops tk0) :=
  segsOf _ _ _ _ _ _ _ _ rest [preOps] preOps_plain (launchContents m)
    ++ loop0 m :: (segsOf _ _ _ _ _ _ _ _ rest [midOps] midOps_plain (W1 m)
      ++ loop1 m :: segsOf _ _ _ _ _ _ _ _ rest [postOps] postOps_plain (W3 m))

/-- The segments' programs, in order. -/
theorem segs_prog : (segs (F := F) m).map CSeg.prog = [ seq preOps, HostLoop.enter 0, seq midOps, HostLoop.enter 1, seq postOps ] := by
  unfold segs
  rw [List.map_append, List.map_cons, List.map_append, List.map_cons, segsOf_prog, segsOf_prog, segsOf_prog]
  rfl

/-- The segments chain from the launch contents to the end's. -/
theorem segs_chains : CSeg.Chains (fun c => iprop(held (c : Thread nD τ) (ucRefs τ sig) (launchContents m c) ∗ rest c)) (segs (F := F) m)
    (fun c => iprop(held (c : Thread nD τ) (ucRefs τ sig) (W4 m c) ∗ rest c)) := by
  unfold segs
  exact CSeg.Chains.append (segsOf_chains _ _ _ _ _ _ _ _ rest [preOps] preOps_plain _) ⟨fun _ => .rfl,
    CSeg.Chains.append (segsOf_chains _ _ _ _ _ _ _ _ rest [midOps] midOps_plain _)
      ⟨fun _ => .rfl, segsOf_chains _ _ _ _ _ _ _ _ rest [postOps] postOps_plain _⟩⟩

set_option maxRecDepth 100000 in
/-- THE RUN: every buffer ends at the fold, every semaphore counter at zero. -/
theorem run_fold [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = W4 m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    pcfgs adm0 (fun k => k.1.elim0) defs₀ Variants.none ix0 lv0 loops tk0 m ρ main (segs m)
    (fun c Q => by
      rw [main_eq c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (W4 m c)))
    (hch := segs_chains m)
    (hinit := by
      refine Pipeline.initEach ix0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W4 m c b)
    (hfin := fun c s' => by
      unfold held
      iintro ⟨Hh, HSI⟩
      ihave Hr := (pointsTo_read_all (ucRefs τ sig) (fun b => ((c : Dev nD), b)) (fun b => W4 m c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems rfl s⟩)

/-! ## The argument is never written -/

/-- The first loop keeps the argument. -/
theorem at0_arg (c : Dev nD) : ∀ k, at0 m k c (Proc.devRef .tc main_arg0) = m ((c.tc : Thread nD τ).loc main_arg0)
  | 0 => by
    rw [at0_zero]
    rw [after_of_writes_sub _ _ preOps_writes (by decide +kernel)]
  | k + 1 => by
    rw [at0_succ]
    rw [after_of_writes_sub _ _ body0Ops_writes (by decide +kernel), keep_cond0 _ _ (by decide), at0_arg c k]

/-- The second loop keeps the argument. -/
theorem at1_arg (c : Dev nD) : ∀ k, at1 m k c (Proc.devRef .tc main_arg0) = m ((c.tc : Thread nD τ).loc main_arg0)
  | 0 => by
    rw [at1_zero]
    rw [after_of_writes_sub _ _ midOps_writes (by decide +kernel)]
    rw [W1_eq, keep_cond0 _ _ (by decide), at0_arg]
  | k + 1 => by
    rw [at1_succ]
    rw [after_of_writes_sub _ _ body1Ops_writes (by decide +kernel), keep_cond1 _ _ (by decide), at1_arg c k]

/-- The argument at the end. -/
theorem W4_arg (c : Dev nD) : W4 m c (Proc.devRef .tc main_arg0) = m ((c.tc : Thread nD τ).loc main_arg0) := by
  unfold W4
  rw [afterL_cons, afterL_nil, after_of_writes_sub _ _ postOps_writes (by decide +kernel)]
  rw [W3_eq, keep_cond1 _ _ (by decide), at1_arg]

/-- The reference's frame: it terminates, its argument unchanged, every counter at zero. -/
theorem frame [∀ e, Nonempty (Elt F e)] : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c main_arg0 rfl).trans (W4_arg m c), h.2⟩) (run_fold m ρ)

end Cert.ReferenceIdeal.Hand
-- ==== Proof.KVLoops.lean ====
/- The two counted loops of the kernel body over the extended reals, each as the iteration of one trip's function of the
   carried values and of the buffers the trip touches. -/
module

public import proofs.«01_k».proof.Proof.Gen.KernelIdeal.Frame
public import proofs.«01_k».proof.Proof.Gen.KernelIdeal.Skeleton
public import proofs.«01_k».proof.Proof.KIParts
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What core `c`'s scratch buffer under the memref `M` holds. -/
abbrev SB (c : Dev nD) {sp : Space} {S : Shape} {e : EltTy} (M : Memref sig .tc sp S e) : Type := Buf (Elt Ideal) (M.view.loc (c : Thread nD τ))

/-- The resource algebra of the pipeline's frame runs. -/
local notation "𝕄" => MT nD τ sig Unit (Elt Ideal) ℕ (UR sig nD τ) ℕ

/-- A vector of the eight batches over the 128 lanes. -/
abbrev V8 : Type := FVec Ideal S8x128 .f32

/-- What the forward loop carries. -/
abbrev Acc1 : Type := V8 × V8 × V8 × V8 × V8 × V8 × V8 × V8 × V8 × IVec S8x128 32

/-- What the backward loop carries. -/
abbrev Acc2 : Type := V8 × V8 × V8 × V8 × V8 × V8 × V8 × V8 × V8

/-- The twelve weight buffers. -/
structure Wts (c : Dev nD) where
  a0 : SB c (Memref.whole cc0_scratch4)
  a1 : SB c (Memref.whole cc0_scratch5)
  a2 : SB c (Memref.whole cc0_scratch6)
  a3 : SB c (Memref.whole cc0_scratch7)
  b0 : SB c (Memref.whole cc0_scratch8)
  b1 : SB c (Memref.whole cc0_scratch9)
  b2 : SB c (Memref.whole cc0_scratch10)
  b3 : SB c (Memref.whole cc0_scratch11)
  c0 : SB c (Memref.whole cc0_scratch12)
  c1 : SB c (Memref.whole cc0_scratch13)
  c2 : SB c (Memref.whole cc0_scratch14)
  c3 : SB c (Memref.whole cc0_scratch15)

/-- Row `k` of a skewed input buffer, as the forward loop reads it. -/
abbrev tRow (c : Dev nD) (M : Memref sig .tc .vmem S128x8x128 .f32) (f : SB c M) (k : Fin k0_t1_loop.trips) : FVec Ideal S1x8x128 .f32 :=
  M.view.readAt (Elt Ideal) (Rect.unit (s := S128x8x128) (k0_off1 k) S1x8x128.size (k0_off1_inb k)).toLoadRect f

/-- A weight buffer with its row for trip `k` of the forward loop replaced. -/
abbrev putRow (c : Dev nD) (M : Memref sig .tc .vmem S256x8x128 .f32) (f : SB c M) (k : Fin k0_t1_loop.trips) (v : FVec Ideal S1x8x128 .f32) : SB c M :=
  M.view.writes (Elt Ideal) f [⟨Rect.unit (s := S256x8x128) (k0_off2 k) S1x8x128.size (k0_off2_inb k), v⟩]

/-- One trip of the forward loop: the four cells' values, the vectors that move up, and a row of each weight buffer. -/
def trip1 (c : Dev nD) (v96 : IVec S8x128 32) (f2 : SB c (Memref.whole cc0_scratch0)) (f3 : SB c (Memref.whole cc0_scratch1)) (f4 : SB c (Memref.whole cc0_scratch2)) (f5 : SB c (Memref.whole cc0_scratch3)) (k : Fin k0_t1_loop.trips) (s : Acc1 × Wts c) : Acc1 × Wts c :=
  let p0 := s.1.1; let p1 := s.1.2.1; let p2 := s.1.2.2.1; let p3 := s.1.2.2.2.1; let p4 := s.1.2.2.2.2.1
  let d0 := s.1.2.2.2.2.2.1; let d1 := s.1.2.2.2.2.2.2.1; let d2 := s.1.2.2.2.2.2.2.2.1; let d3 := s.1.2.2.2.2.2.2.2.2.1
  let kmj := s.1.2.2.2.2.2.2.2.2.2
  let v0 := k0_pay9 p0 p1 d0 (tRow c (Memref.whole cc0_scratch0) f2 k)
  let z := k0_pay8 p0 p1 d0
  let wa := k0_pay5 p0 p1 d0
  let wb := k0_pay6 p0 p1 d0
  let wc := k0_pay7 p0 p1 d0
  let qa := k0_pay16 kmj wa z
  let qb := k0_pay17 kmj wb z
  let qc := k0_pay18 kmj wc z
  ((v0, k0_pay10 p1 p2 d1 (tRow c (Memref.whole cc0_scratch1) f3 k), k0_pay12 p2 p3 d2 (k0_pay2 (tRow c (Memref.whole cc0_scratch2) f4 k)) (k0_pay11 p2 p3 d2),
    k0_pay13 p3 p4 d3 (k0_pay3 (tRow c (Memref.whole cc0_scratch3) f5 k)), k0_pay14 v96 v0, p1, p2, p3, p4, k0_pay65 kmj),
   { a0 := putRow c _ s.2.a0 k (k0_pay22 (k0_pay19 v96) (k0_pay20 kmj wa z) (k0_pay21 kmj wa z))
     a1 := putRow c _ s.2.a1 k (k0_pay25 v96 qa)
     a2 := putRow c _ s.2.a2 k (k0_pay30 v96 qa)
     a3 := putRow c _ s.2.a3 k (k0_pay34 v96 qa)
     b0 := putRow c _ s.2.b0 k (k0_pay23 v96 qb)
     b1 := putRow c _ s.2.b1 k (k0_pay28 (k0_pay26 v96) (k0_pay27 qb))
     b2 := putRow c _ s.2.b2 k (k0_pay32 (k0_pay31 v96 qb))
     b3 := putRow c _ s.2.b3 k (k0_pay35 v96 qb)
     c0 := putRow c _ s.2.c0 k (k0_pay24 qc)
     c1 := putRow c _ s.2.c1 k (k0_pay29 v96 qc)
     c2 := putRow c _ s.2.c2 k (k0_pay33 v96 qc)
     c3 := putRow c _ s.2.c3 k (k0_pay64 (k0_pay36 v96) (k0_pay37 qc) (Scalar.ofBits .f32 0x00000000#32)) })

/-- The state before trip `n`. -/
def st1 (c : Dev nD) (v96 : IVec S8x128 32) (f2 : SB c (Memref.whole cc0_scratch0)) (f3 : SB c (Memref.whole cc0_scratch1)) (f4 : SB c (Memref.whole cc0_scratch2)) (f5 : SB c (Memref.whole cc0_scratch3)) (s : Acc1 × Wts c) : ℕ → Acc1 × Wts c
  | 0 => s
  | n + 1 => if h : n < k0_t1_loop.trips then trip1 c v96 f2 f3 f4 f5 ⟨n, h⟩ (st1 c v96 f2 f3 f4 f5 s n) else st1 c v96 f2 f3 f4 f5 s n

/-- The state after one more trip of the first loop. -/
theorem st1_succ (c : Dev nD) (v96 : IVec S8x128 32) (f2 : SB c (Memref.whole cc0_scratch0)) (f3 : SB c (Memref.whole cc0_scratch1)) (f4 : SB c (Memref.whole cc0_scratch2)) (f5 : SB c (Memref.whole cc0_scratch3)) (s : Acc1 × Wts c) (k : Fin k0_t1_loop.trips) :
    st1 c v96 f2 f3 f4 f5 s (k.val + 1) = trip1 c v96 f2 f3 f4 f5 k (st1 c v96 f2 f3 f4 f5 s k.val) := by
  simp only [st1, k.isLt, dif_pos, Fin.eta]

/-- What the forward loop holds at the state `s`, carrying `acc`. -/
abbrev holds1 (c : Dev nD) (f2 : SB c (Memref.whole cc0_scratch0)) (f3 : SB c (Memref.whole cc0_scratch1)) (f4 : SB c (Memref.whole cc0_scratch2)) (f5 : SB c (Memref.whole cc0_scratch3)) (s : Acc1 × Wts c) (acc : Acc1) : sProp 𝕄 :=
  iprop(⌜acc = s.1⌝ ∗ ((Memref.whole cc0_scratch0).view.loc (c : Thread nD τ) ↦{fullShare} f2) ∗ ((Memref.whole cc0_scratch1).view.loc (c : Thread nD τ) ↦{fullShare} f3) ∗ ((Memref.whole cc0_scratch2).view.loc (c : Thread nD τ) ↦{fullShare} f4) ∗ ((Memref.whole cc0_scratch3).view.loc (c : Thread nD τ) ↦{fullShare} f5) ∗ ((Memref.whole cc0_scratch4).view.loc (c : Thread nD τ) ↦{fullShare} s.2.a0) ∗ ((Memref.whole cc0_scratch5).view.loc (c : Thread nD τ) ↦{fullShare} s.2.a1) ∗ ((Memref.whole cc0_scratch6).view.loc (c : Thread nD τ) ↦{fullShare} s.2.a2) ∗ ((Memref.whole cc0_scratch7).view.loc (c : Thread nD τ) ↦{fullShare} s.2.a3) ∗ ((Memref.whole cc0_scratch8).view.loc (c : Thread nD τ) ↦{fullShare} s.2.b0) ∗ ((Memref.whole cc0_scratch9).view.loc (c : Thread nD τ) ↦{fullShare} s.2.b1) ∗ ((Memref.whole cc0_scratch10).view.loc (c : Thread nD τ) ↦{fullShare} s.2.b2) ∗ ((Memref.whole cc0_scratch11).view.loc (c : Thread nD τ) ↦{fullShare} s.2.b3) ∗ ((Memref.whole cc0_scratch12).view.loc (c : Thread nD τ) ↦{fullShare} s.2.c0) ∗ ((Memref.whole cc0_scratch13).view.loc (c : Thread nD τ) ↦{fullShare} s.2.c1) ∗ ((Memref.whole cc0_scratch14).view.loc (c : Thread nD τ) ↦{fullShare} s.2.c2) ∗ ((Memref.whole cc0_scratch15).view.loc (c : Thread nD τ) ↦{fullShare} s.2.c3))

/-- One trip of the forward loop takes one state to the next. -/
theorem fwdStep (𝒱 : Variants) (c : Dev nD) (bd : Option 𝒱.V) (E : Set ℕ) (arg0 : Memref sig .tc .vmem S128x8x128 .f32) (harg0 : arg0.IsWhole) (arg1 : Memref sig .tc .vmem S128x128 .f32) (harg1 : arg1.IsWhole) (v96 : IVec S8x128 32) (v105 v109 v113 v117 v121 v122 v123 : V8) (f2 : SB c (Memref.whole cc0_scratch0)) (f3 : SB c (Memref.whole cc0_scratch1)) (f4 : SB c (Memref.whole cc0_scratch2)) (f5 : SB c (Memref.whole cc0_scratch3)) (k : Fin k0_t1_loop.trips) (acc : Acc1) (s : Acc1 × Wts c) :
    holds1 c f2 f3 f4 f5 s acc ⊢ wp Idealize.ShloMosaic.frame (wpE (defs₀ (F := Ideal)) 𝒱 (c : Thread nD τ) bd) E (k0_t1_body (F := Ideal) arg0 harg0 arg1 harg1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) v96 v105 v109 v113 v117 v121 v122 v123 k acc) (fun acc' => holds1 c f2 f3 f4 f5 (trip1 c v96 f2 f3 f4 f5 k s) acc') := by
    have hk : k.val < 254 := Nat.lt_of_lt_of_le k.isLt k0_t1_abs.2.1
    unfold holds1
    iintro ⟨%hacc, H2, H3, H4, H5, H6, H7, H8, H9, H10, H11, H12, H13, H14, H15, H16, H17⟩
    subst hacc
    unfold k0_t1_body
    sl_exec
    sl_step
    isplitr
    · ipureintro
      rfl
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

set_option warn.classDefReducibility false in
/-- The forward loop: after `n` trips its buffers hold the `n`th state. -/
@[sl_loop] def fwdLoop (𝒱 : Variants) (c : Dev nD) (bd : Option 𝒱.V) (E : Set ℕ) (arg0 : Memref sig .tc .vmem S128x8x128 .f32) (harg0 : arg0.IsWhole) (arg1 : Memref sig .tc .vmem S128x128 .f32) (harg1 : arg1.IsWhole) (v96 : IVec S8x128 32) (v105 : FVec Ideal S8x128 .f32) (v109 : FVec Ideal S8x128 .f32) (v113 : FVec Ideal S8x128 .f32) (v117 : FVec Ideal S8x128 .f32) (v121 : FVec Ideal S8x128 .f32) (v122 : FVec Ideal S8x128 .f32) (v123 : FVec Ideal S8x128 .f32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × IVec S8x128 32)  (f2 : SB c (Memref.whole cc0_scratch0)) (f3 : SB c (Memref.whole cc0_scratch1)) (f4 : SB c (Memref.whole cc0_scratch2)) (f5 : SB c (Memref.whole cc0_scratch3)) (w_a0 : SB c (Memref.whole cc0_scratch4)) (w_a1 : SB c (Memref.whole cc0_scratch5)) (w_a2 : SB c (Memref.whole cc0_scratch6)) (w_a3 : SB c (Memref.whole cc0_scratch7)) (w_b0 : SB c (Memref.whole cc0_scratch8)) (w_b1 : SB c (Memref.whole cc0_scratch9)) (w_b2 : SB c (Memref.whole cc0_scratch10)) (w_b3 : SB c (Memref.whole cc0_scratch11)) (w_c0 : SB c (Memref.whole cc0_scratch12)) (w_c1 : SB c (Memref.whole cc0_scratch13)) (w_c2 : SB c (Memref.whole cc0_scratch14)) (w_c3 : SB c (Memref.whole cc0_scratch15)) :
    LoopInv (M := 𝕄) Idealize.ShloMosaic.frame (wpE (defs₀ (F := Ideal)) 𝒱 (c : Thread nD τ) bd) E
      k0_t1_loop.lb k0_t1_loop.ub k0_t1_loop.st k0_t1_ok init (k0_t1_body (F := Ideal) arg0 harg0 arg1 harg1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) v96 v105 v109 v113 v117 v121 v122 v123) where
  inv n acc := holds1 c f2 f3 f4 f5 (st1 c v96 f2 f3 f4 f5 (init, ⟨w_a0, w_a1, w_a2, w_a3, w_b0, w_b1, w_b2, w_b3, w_c0, w_c1, w_c2, w_c3⟩) n) acc
  step k acc := by
    rw [st1_succ]
    exact fwdStep 𝒱 c bd E arg0 harg0 arg1 harg1 v96 v105 v109 v113 v117 v121 v122 v123 f2 f3 f4 f5 k acc _

end Cert.KernelIdeal.Val

end
-- ==== Proof.KVLoops2.lean ====
/- The second counted loop of the kernel body over the extended reals, as the iteration of one trip's function of the
   carried values and of the buffers the trip touches. -/
module

public import proofs.«01_k».proof.Proof.Gen.KernelIdeal.Frame
public import proofs.«01_k».proof.Proof.Gen.KernelIdeal.Skeleton
public import proofs.«01_k».proof.Proof.KVLoops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the pipeline's frame runs. -/
local notation "𝕄" => MT nD τ sig Unit (Elt Ideal) ℕ (UR sig nD τ) ℕ

/-- The row of a weight buffer `r + 1` above the one that a trip of the backward loop writes. -/
abbrev wRow (c : Dev nD) (M : Memref sig .tc .vmem S256x8x128 .f32) (f : SB c M) (k : Fin k0_t2_loop.trips) (r : Fin 2) : FVec Ideal S1x8x128 .f32 :=
  M.view.readAt (Elt Ideal) (Rect.unit (s := S256x8x128) (k0_off3 k (BitVec.ofNat 32 (1 + r.val))) S1x8x128.size (k0_off3_inb k r)).toLoadRect f

/-- One trip of the backward loop: the four gradients, the vectors that move up, and a row of the gradient buffer. -/
def trip2 (c : Dev nD) (v96 : IVec S8x128 32) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15)) (k : Fin k0_t2_loop.trips) (s : Acc2 × SB c (Memref.whole cc0_scratch16)) : Acc2 × SB c (Memref.whole cc0_scratch16) :=
  let p0 := s.1.1; let p1 := s.1.2.1; let p2 := s.1.2.2.1; let p3 := s.1.2.2.2.1; let p4 := s.1.2.2.2.2.1
  let d0 := s.1.2.2.2.2.2.1; let d1 := s.1.2.2.2.2.2.2.1; let d2 := s.1.2.2.2.2.2.2.2.1; let d3 := s.1.2.2.2.2.2.2.2.2
  let e0 := k0_pay38 p0 p1 d0 (wRow c _ g_a0 k 0) (wRow c _ g_b0 k 1) (wRow c _ g_c0 k 0)
  ((e0, k0_pay39 p1 p2 d1 (wRow c _ g_a1 k 0) (wRow c _ g_b1 k 1) (wRow c _ g_c1 k 0),
    k0_pay40 p2 p3 d2 (wRow c _ g_a2 k 0) (wRow c _ g_b2 k 1) (wRow c _ g_c2 k 0),
    k0_pay41 p3 p4 d3 (wRow c _ g_a3 k 0) (wRow c _ g_b3 k 1) (wRow c _ g_c3 k 0),
    k0_pay42 v96 e0, p1, p2, p3, p4),
   (Memref.whole cc0_scratch16).view.writes (Elt Ideal) s.2 [⟨Rect.unit (s := S256x8x128) (k0_off4 k) S1x8x128.size (k0_off4_inb k), k0_pay81 (k0_pay43 e0)⟩])

/-- The state before trip `n`. -/
def st2 (c : Dev nD) (v96 : IVec S8x128 32) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15)) (s : Acc2 × SB c (Memref.whole cc0_scratch16)) : ℕ → Acc2 × SB c (Memref.whole cc0_scratch16)
  | 0 => s
  | n + 1 => if h : n < k0_t2_loop.trips then trip2 c v96 g_a0 g_a1 g_a2 g_a3 g_b0 g_b1 g_b2 g_b3 g_c0 g_c1 g_c2 g_c3 ⟨n, h⟩ (st2 c v96 g_a0 g_a1 g_a2 g_a3 g_b0 g_b1 g_b2 g_b3 g_c0 g_c1 g_c2 g_c3 s n) else st2 c v96 g_a0 g_a1 g_a2 g_a3 g_b0 g_b1 g_b2 g_b3 g_c0 g_c1 g_c2 g_c3 s n

/-- The state after a trip. -/
theorem st2_succ (c : Dev nD) (v96 : IVec S8x128 32) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15)) (s : Acc2 × SB c (Memref.whole cc0_scratch16)) (k : Fin k0_t2_loop.trips) :
    st2 c v96 g_a0 g_a1 g_a2 g_a3 g_b0 g_b1 g_b2 g_b3 g_c0 g_c1 g_c2 g_c3 s (k.val + 1) = trip2 c v96 g_a0 g_a1 g_a2 g_a3 g_b0 g_b1 g_b2 g_b3 g_c0 g_c1 g_c2 g_c3 k (st2 c v96 g_a0 g_a1 g_a2 g_a3 g_b0 g_b1 g_b2 g_b3 g_c0 g_c1 g_c2 g_c3 s k.val) := by
  simp only [st2, k.isLt, dif_pos, Fin.eta]

/-- What the backward loop holds at the state `s`, carrying `acc`. -/
abbrev holds2 (c : Dev nD) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15)) (s : Acc2 × SB c (Memref.whole cc0_scratch16)) (acc : Acc2) : sProp 𝕄 :=
  iprop(⌜acc = s.1⌝ ∗ ((Memref.whole cc0_scratch4).view.loc (c : Thread nD τ) ↦{fullShare} g_a0) ∗ ((Memref.whole cc0_scratch5).view.loc (c : Thread nD τ) ↦{fullShare} g_a1) ∗ ((Memref.whole cc0_scratch6).view.loc (c : Thread nD τ) ↦{fullShare} g_a2) ∗ ((Memref.whole cc0_scratch7).view.loc (c : Thread nD τ) ↦{fullShare} g_a3) ∗ ((Memref.whole cc0_scratch8).view.loc (c : Thread nD τ) ↦{fullShare} g_b0) ∗ ((Memref.whole cc0_scratch9).view.loc (c : Thread nD τ) ↦{fullShare} g_b1) ∗ ((Memref.whole cc0_scratch10).view.loc (c : Thread nD τ) ↦{fullShare} g_b2) ∗ ((Memref.whole cc0_scratch11).view.loc (c : Thread nD τ) ↦{fullShare} g_b3) ∗ ((Memref.whole cc0_scratch12).view.loc (c : Thread nD τ) ↦{fullShare} g_c0) ∗ ((Memref.whole cc0_scratch13).view.loc (c : Thread nD τ) ↦{fullShare} g_c1) ∗ ((Memref.whole cc0_scratch14).view.loc (c : Thread nD τ) ↦{fullShare} g_c2) ∗ ((Memref.whole cc0_scratch15).view.loc (c : Thread nD τ) ↦{fullShare} g_c3) ∗ ((Memref.whole cc0_scratch16).view.loc (c : Thread nD τ) ↦{fullShare} s.2))

/-- One trip of the backward loop takes one state to the next. -/
theorem bwdStep (𝒱 : Variants) (c : Dev nD) (bd : Option 𝒱.V) (E : Set ℕ) (arg0 : Memref sig .tc .vmem S128x8x128 .f32) (harg0 : arg0.IsWhole) (arg1 : Memref sig .tc .vmem S128x128 .f32) (harg1 : arg1.IsWhole) (v96 : IVec S8x128 32) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15)) (k : Fin k0_t2_loop.trips) (acc : Acc2) (s : Acc2 × SB c (Memref.whole cc0_scratch16)) :
    holds2 c g_a0 g_a1 g_a2 g_a3 g_b0 g_b1 g_b2 g_b3 g_c0 g_c1 g_c2 g_c3 s acc ⊢ wp Idealize.ShloMosaic.frame (wpE (defs₀ (F := Ideal)) 𝒱 (c : Thread nD τ) bd) E (k0_t2_body (F := Ideal) arg0 harg0 arg1 harg1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) v96 127#32 k acc) (fun acc' => holds2 c g_a0 g_a1 g_a2 g_a3 g_b0 g_b1 g_b2 g_b3 g_c0 g_c1 g_c2 g_c3 (trip2 c v96 g_a0 g_a1 g_a2 g_a3 g_b0 g_b1 g_b2 g_b3 g_c0 g_c1 g_c2 g_c3 k s) acc') := by
    have hk : k.val < 254 := Nat.lt_of_lt_of_le k.isLt k0_t2_abs.2.1
    unfold holds2
    iintro ⟨%hacc, H6, H7, H8, H9, H10, H11, H12, H13, H14, H15, H16, H17, H18⟩
    subst hacc
    unfold k0_t2_body
    sl_exec
    sl_step
    isplitr
    · ipureintro
      rfl
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

set_option warn.classDefReducibility false in
/-- The backward loop: after `n` trips the gradient buffer holds the `n`th state. -/
@[sl_loop] def bwdLoop (𝒱 : Variants) (c : Dev nD) (bd : Option 𝒱.V) (E : Set ℕ) (arg0 : Memref sig .tc .vmem S128x8x128 .f32) (harg0 : arg0.IsWhole) (arg1 : Memref sig .tc .vmem S128x128 .f32) (harg1 : arg1.IsWhole) (v96 : IVec S8x128 32) (init : FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)  (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15)) (f18 : SB c (Memref.whole cc0_scratch16)) :
    LoopInv (M := 𝕄) Idealize.ShloMosaic.frame (wpE (defs₀ (F := Ideal)) 𝒱 (c : Thread nD τ) bd) E
      k0_t2_loop.lb k0_t2_loop.ub k0_t2_loop.st k0_t2_ok init (k0_t2_body (F := Ideal) arg0 harg0 arg1 harg1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) v96 127#32) where
  inv n acc := holds2 c g_a0 g_a1 g_a2 g_a3 g_b0 g_b1 g_b2 g_b3 g_c0 g_c1 g_c2 g_c3 (st2 c v96 g_a0 g_a1 g_a2 g_a3 g_b0 g_b1 g_b2 g_b3 g_c0 g_c1 g_c2 g_c3 (init, f18) n) acc
  step k acc := by
    rw [st2_succ]
    exact bwdStep 𝒱 c bd E arg0 harg0 arg1 harg1 v96 g_a0 g_a1 g_a2 g_a3 g_b0 g_b1 g_b2 g_b3 g_c0 g_c1 g_c2 g_c3 k acc _

end Cert.KernelIdeal.Val

end
-- ==== Proof.KVBody0.lean ====
module

public import proofs.«01_k».proof.Proof.Gen.KernelIdeal.Frame
public import proofs.«01_k».proof.Proof.KVLoops2
public import Idealize.ShloMosaic.Lib.Tactic
public import Idealize.ShloMosaic.Lib.Pipeline.Kit

@[expose] public section

set_option maxRecDepth 16384
set_option maxHeartbeats 8000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the pipeline's frame runs. -/
local notation "𝕄" => MT nD τ sig Unit (Elt Ideal) ℕ (UR sig nD τ) ℕ

/-- What core `c`'s buffer under the memref `M` may hold, and that buffer held whole at `f`. -/
abbrev Bf (c : Dev nD) {sp : Space} {S : Shape} {e : EltTy} (M : Memref sig .tc sp S e) : Type := Buf (Elt Ideal) (M.view.loc (c : Thread nD τ))
/-- One cell of memory, held. -/
abbrev pt (c : Dev nD) {sp : Space} {S : Shape} {e : EltTy} (M : Memref sig .tc sp S e) (f : Bf c M) : sProp 𝕄 :=
  M.view.loc (c : Thread nD τ) ↦{fullShare} f

/-- The lane index on a vector of the eight batches. -/
def lane : IVec S8x128 32 := iota .tc S8x128 32 [1] iota_S8x128_d1_w32

/-- The lane index on the whole input. -/
def lane3 : IVec S128x8x128 32 := iota .tc S128x8x128 32 [2] iota_S128x8x128_d2_w32

/-- The four skewed inputs of the forward loop, from the input block. -/
def skew0 (X : FVec Ideal S128x8x128 .f32) : FVec Ideal S128x8x128 .f32 := k0_pay48 lane3 (k0_pay44 X) (k0_pay45 X) k0_pay46
/-- The skewed distances moved by one lane. -/
def skew1 (X : FVec Ideal S128x8x128 .f32) : FVec Ideal S128x8x128 .f32 := k0_pay49 lane3 (k0_pay44 X) (k0_pay45 X) k0_pay46
/-- The skewed distances moved by two lanes. -/
def skew2 (X : FVec Ideal S128x8x128 .f32) : FVec Ideal S128x8x128 .f32 := k0_pay51 (k0_pay50 lane3 (k0_pay44 X) (k0_pay45 X) k0_pay46)
/-- The skewed distances moved by three lanes. -/
def skew3 (X : FVec Ideal S128x8x128 .f32) : FVec Ideal S128x8x128 .f32 := k0_pay52 (k0_pay47 lane3 (k0_pay44 X) (k0_pay45 X) k0_pay46)

/-- The piece that stores a whole skewed input. -/
abbrev allPiece (v : FVec Ideal S128x8x128 .f32) : List (View.Piece (Elt Ideal) S128x8x128 EltTy.f32) := [⟨Rect.unit (s := S128x8x128) ![0, 0, 0] S128x8x128.size inb_S128x8x128_S128x8x128_0_0_0, v⟩]

/-- A skewed input's buffer after its one store. -/
abbrev stored (c : Dev nD) (M : Memref sig .tc .vmem S128x8x128 .f32) (v : FVec Ideal S128x8x128 .f32) : SB c M :=
  M.view.writes (Elt Ideal) M.view.junk (allPiece v)

/-- Row zero of the first skewed input, as it is loaded back. -/
def topRow (X : FVec Ideal S128x8x128 .f32) : FVec Ideal S1x8x128 .f32 :=
  (Memref.whole cc0_scratch0).view.readCov (allPiece (skew0 X)) (Rect.unit (s := S128x8x128) ![0, 0, 0] S1x8x128.size inb_S128x8x128_S1x8x128_0_0_0).toLoadRect

/-- What the forward loop starts from. -/
def acc0 (X : FVec Ideal S128x8x128 .f32) : Acc1 :=
  (k0_pay54 (topRow X), k0_pay55 (topRow X), k0_pay56 (topRow X), k0_pay57 (topRow X), k0_pay58 (topRow X), k0_pay59, k0_pay60, k0_pay61, k0_pay62, k0_pay63 lane)

/-- The state after the forward loop. -/
def fwd (c : Dev nD) (X : FVec Ideal S128x8x128 .f32) (w : Wts c) : Acc1 × Wts c :=
  st1 c lane (stored c _ (skew0 X)) (stored c _ (skew1 X)) (stored c _ (skew2 X)) (stored c _ (skew3 X)) (acc0 X, w) (Scf.trips k0_t1_loop.lb k0_t1_loop.ub k0_t1_loop.st)

/-- A diagonal-weight buffer with its last row replaced. -/
abbrev lastRow (c : Dev nD) (M : Memref sig .tc .vmem S256x8x128 .f32) (f : SB c M) (v : FVec Ideal S1x8x128 .f32) : SB c M :=
  M.view.writes (Elt Ideal) f [⟨Rect.unit (s := S256x8x128) ![255, 0, 0] S1x8x128.size inb_S256x8x128_S1x8x128_255_0_0, v⟩]

/-- What the backward loop starts from. -/
def acc2 : Acc2 :=
  (k0_pay72 lane 127#32, k0_pay73 lane, k0_pay74 lane, k0_pay75 lane, k0_pay76 lane, k0_pay77, k0_pay78, k0_pay79, k0_pay80)

/-- The gradient buffer before the backward loop. -/
abbrev seeded (c : Dev nD) (M : Memref sig .tc .vmem S256x8x128 .f32) (f : SB c M) (v : FVec Ideal S1x8x128 .f32) : SB c M :=
  M.view.writes (Elt Ideal) f [⟨Rect.unit (s := S256x8x128) ![254, 0, 0] S1x8x128.size inb_S256x8x128_S1x8x128_254_0_0, v⟩]

/-- The gradient buffer after the backward loop, from the weights. -/
def bwd (c : Dev nD) (w : Wts c) (s : SB c (Memref.whole cc0_scratch16)) : SB c (Memref.whole cc0_scratch16) :=
  (st2 c lane w.a0 w.a1 w.a2 w.a3 (lastRow c _ w.b0 k0_pay67) (lastRow c _ w.b1 k0_pay68) (lastRow c _ w.b2 k0_pay69) (lastRow c _ w.b3 k0_pay70)
    w.c0 w.c1 w.c2 w.c3 (acc2, seeded c _ s (k0_pay71 lane)) (Scf.trips k0_t2_loop.lb k0_t2_loop.ub k0_t2_loop.st)).2

/-- The whole gradient buffer, as it is loaded. -/
def grads (c : Dev nD) (X : FVec Ideal S128x8x128 .f32) (w : Wts c) (s : SB c (Memref.whole cc0_scratch16)) : FVec Ideal S256x8x128 .f32 :=
  (Memref.whole cc0_scratch16).view.readAt (Elt Ideal) (Rect.unit (s := S256x8x128) ![0, 0, 0] S256x8x128.size inb_S256x8x128_S256x8x128_0_0_0).toLoadRect (bwd c (fwd c X w).2 s)

/-- The output block, from the gradients. -/
def unskew (G : FVec Ideal S256x8x128 .f32) : FVec Ideal S128x128 .f32 :=
  k0_pay1 (iota .tc S256x128 32 [1] iota_S256x128_d1_w32) (k0_pay83 (k0_pay82 G) (Scalar.ofBits .f32 0x41000000#32)) (k0_pay84 (k0_pay82 G) (Scalar.ofBits .f32 0x41000000#32)) k0_pay85

/-- The input block, as it is loaded. -/
abbrev inBlk (c : Dev nD) (M0 : Memref sig .tc .vmem S128x8x128 .f32) (f0 : SB c M0) : FVec Ideal S128x8x128 .f32 :=
  M0.view.readAt (Elt Ideal) (Rect.unit (s := S128x8x128) ![0, 0, 0] S128x8x128.size inb_S128x8x128_S128x8x128_0_0_0).toLoadRect f0

/-- The kernel body, from its input block, its output block and its seventeen scratch buffers at any contents: it runs to
    its return, hands the input block back as it was, everything else at some contents. -/
theorem bodyRun (c : Dev nD) (M0 : Memref sig .tc .vmem S128x8x128 .f32) (h0 : M0.IsWhole) (M1 : Memref sig .tc .vmem S128x128 .f32) (h1 : M1.IsWhole)
    (f0 : Bf c M0) (f1 : Bf c M1) (s0 : Bf c (Memref.whole cc0_scratch0)) (s1 : Bf c (Memref.whole cc0_scratch1)) (s2 : Bf c (Memref.whole cc0_scratch2)) (s3 : Bf c (Memref.whole cc0_scratch3)) (s4 : Bf c (Memref.whole cc0_scratch4)) (s5 : Bf c (Memref.whole cc0_scratch5)) (s6 : Bf c (Memref.whole cc0_scratch6)) (s7 : Bf c (Memref.whole cc0_scratch7)) (s8 : Bf c (Memref.whole cc0_scratch8)) (s9 : Bf c (Memref.whole cc0_scratch9)) (s10 : Bf c (Memref.whole cc0_scratch10)) (s11 : Bf c (Memref.whole cc0_scratch11)) (s12 : Bf c (Memref.whole cc0_scratch12)) (s13 : Bf c (Memref.whole cc0_scratch13)) (s14 : Bf c (Memref.whole cc0_scratch14)) (s15 : Bf c (Memref.whole cc0_scratch15)) (s16 : Bf c (Memref.whole cc0_scratch16)) (Q : PUnit → sProp 𝕄) :
    iprop(pt c M0 f0 ∗ pt c M1 f1 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ pt c (Memref.whole cc0_scratch14) s14 ∗ pt c (Memref.whole cc0_scratch15) s15 ∗ pt c (Memref.whole cc0_scratch16) s16
      ∗ (iprop(pt c M0 f0 ∗ (∃ f, pt c M1 f) ∗ (∃ s, pt c (Memref.whole cc0_scratch0) s) ∗ (∃ s, pt c (Memref.whole cc0_scratch1) s) ∗ (∃ s, pt c (Memref.whole cc0_scratch2) s) ∗ (∃ s, pt c (Memref.whole cc0_scratch3) s) ∗ (∃ s, pt c (Memref.whole cc0_scratch4) s) ∗ (∃ s, pt c (Memref.whole cc0_scratch5) s) ∗ (∃ s, pt c (Memref.whole cc0_scratch6) s) ∗ (∃ s, pt c (Memref.whole cc0_scratch7) s) ∗ (∃ s, pt c (Memref.whole cc0_scratch8) s) ∗ (∃ s, pt c (Memref.whole cc0_scratch9) s) ∗ (∃ s, pt c (Memref.whole cc0_scratch10) s) ∗ (∃ s, pt c (Memref.whole cc0_scratch11) s) ∗ (∃ s, pt c (Memref.whole cc0_scratch12) s) ∗ (∃ s, pt c (Memref.whole cc0_scratch13) s) ∗ (∃ s, pt c (Memref.whole cc0_scratch14) s) ∗ (∃ s, pt c (Memref.whole cc0_scratch15) s) ∗ (∃ s, pt c (Memref.whole cc0_scratch16) s)) -∗ Q ⟨⟩))
    ⊢ wp frame (wpE (defs₀ (F := Ideal)) Variants.none c none) Set.univ
        (cc0__dtw_kernel M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _)) Q := by
  iintro ⟨H0, H1, K0, K1, K2, K3, K4, K5, K6, K7, K8, K9, K10, K11, K12, K13, K14, K15, K16, Hk⟩
  sl_exec!
  sl_step
  iapply Hk
  isplitl [H0]; · iexact H0
  isplitl [H1]; · iexists _; iexact H1
  isplitl [K0]; · iexists _; iexact K0
  isplitl [K1]; · iexists _; iexact K1
  isplitl [K2]; · iexists _; iexact K2
  isplitl [K3]; · iexists _; iexact K3
  isplitl [K4]; · iexists _; iexact K4
  isplitl [K5]; · iexists _; iexact K5
  isplitl [K6]; · iexists _; iexact K6
  isplitl [K7]; · iexists _; iexact K7
  isplitl [K8]; · iexists _; iexact K8
  isplitl [K9]; · iexists _; iexact K9
  isplitl [K10]; · iexists _; iexact K10
  isplitl [K11]; · iexists _; iexact K11
  isplitl [K12]; · iexists _; iexact K12
  isplitl [K13]; · iexists _; iexact K13
  isplitl [K14]; · iexists _; iexact K14
  isplitl [K15]; · iexists _; iexact K15
  iexists _; iexact K16

end Cert.KernelIdeal.Val

end
-- ==== Proof.KVBody.lean ====
module

public import proofs.«01_k».proof.Proof.Gen.KernelIdeal.Frame
public import proofs.«01_k».proof.Proof.KVBody0
public import Idealize.ShloMosaic.Lib.Tactic
public import Idealize.ShloMosaic.Lib.Pipeline.Kit

@[expose] public section

set_option maxRecDepth 16384
set_option maxHeartbeats 8000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the pipeline's frame runs. -/
local notation "𝕄" => MT nD τ sig Unit (Elt Ideal) ℕ (UR sig nD τ) ℕ

/-- The kernel body, from its input block, its output block and its seventeen scratch buffers at any contents: it runs to
    its return, hands the input block back as it was, the output block at the words of the body and everything else at some contents. -/
theorem kernelRun (c : Dev nD) (M0 : Memref sig .tc .vmem S128x8x128 .f32) (h0 : M0.IsWhole) (M1 : Memref sig .tc .vmem S128x128 .f32) (h1 : M1.IsWhole)
    (f0 : Bf c M0) (f1 : Bf c M1) (s0 : Bf c (Memref.whole cc0_scratch0)) (s1 : Bf c (Memref.whole cc0_scratch1)) (s2 : Bf c (Memref.whole cc0_scratch2)) (s3 : Bf c (Memref.whole cc0_scratch3)) (s4 : Bf c (Memref.whole cc0_scratch4)) (s5 : Bf c (Memref.whole cc0_scratch5)) (s6 : Bf c (Memref.whole cc0_scratch6)) (s7 : Bf c (Memref.whole cc0_scratch7)) (s8 : Bf c (Memref.whole cc0_scratch8)) (s9 : Bf c (Memref.whole cc0_scratch9)) (s10 : Bf c (Memref.whole cc0_scratch10)) (s11 : Bf c (Memref.whole cc0_scratch11)) (s12 : Bf c (Memref.whole cc0_scratch12)) (s13 : Bf c (Memref.whole cc0_scratch13)) (s14 : Bf c (Memref.whole cc0_scratch14)) (s15 : Bf c (Memref.whole cc0_scratch15)) (s16 : Bf c (Memref.whole cc0_scratch16)) (Q : PUnit → sProp 𝕄) :
    iprop(pt c M0 f0 ∗ pt c M1 f1 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12 ∗ pt c (Memref.whole cc0_scratch13) s13 ∗ pt c (Memref.whole cc0_scratch14) s14 ∗ pt c (Memref.whole cc0_scratch15) s15 ∗ pt c (Memref.whole cc0_scratch16) s16
      ∗ (iprop(pt c M0 f0 ∗ pt c M1 (M1.view.writes (Elt Ideal) M1.view.junk (bodyRun.sl.H1_1 c M0 f0 s4 s5 s6 s7 s8 s9 s10 s11 s12 s13 s14 s15 s16)) ∗ (∃ s, pt c (Memref.whole cc0_scratch0) s) ∗ (∃ s, pt c (Memref.whole cc0_scratch1) s) ∗ (∃ s, pt c (Memref.whole cc0_scratch2) s) ∗ (∃ s, pt c (Memref.whole cc0_scratch3) s) ∗ (∃ s, pt c (Memref.whole cc0_scratch4) s) ∗ (∃ s, pt c (Memref.whole cc0_scratch5) s) ∗ (∃ s, pt c (Memref.whole cc0_scratch6) s) ∗ (∃ s, pt c (Memref.whole cc0_scratch7) s) ∗ (∃ s, pt c (Memref.whole cc0_scratch8) s) ∗ (∃ s, pt c (Memref.whole cc0_scratch9) s) ∗ (∃ s, pt c (Memref.whole cc0_scratch10) s) ∗ (∃ s, pt c (Memref.whole cc0_scratch11) s) ∗ (∃ s, pt c (Memref.whole cc0_scratch12) s) ∗ (∃ s, pt c (Memref.whole cc0_scratch13) s) ∗ (∃ s, pt c (Memref.whole cc0_scratch14) s) ∗ (∃ s, pt c (Memref.whole cc0_scratch15) s) ∗ (∃ s, pt c (Memref.whole cc0_scratch16) s)) -∗ Q ⟨⟩))
    ⊢ wp frame (wpE (defs₀ (F := Ideal)) Variants.none c none) Set.univ
        (cc0__dtw_kernel M0 h0 M1 h1 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _)) Q := by
  iintro ⟨H0, H1, K0, K1, K2, K3, K4, K5, K6, K7, K8, K9, K10, K11, K12, K13, K14, K15, K16, Hk⟩
  sl_exec!
  sl_step
  iapply Hk
  isplitl [H0]; · iexact H0
  isplitl [H1]; · iexact H1
  isplitl [K0]; · iexists _; iexact K0
  isplitl [K1]; · iexists _; iexact K1
  isplitl [K2]; · iexists _; iexact K2
  isplitl [K3]; · iexists _; iexact K3
  isplitl [K4]; · iexists _; iexact K4
  isplitl [K5]; · iexists _; iexact K5
  isplitl [K6]; · iexists _; iexact K6
  isplitl [K7]; · iexists _; iexact K7
  isplitl [K8]; · iexists _; iexact K8
  isplitl [K9]; · iexists _; iexact K9
  isplitl [K10]; · iexists _; iexact K10
  isplitl [K11]; · iexists _; iexact K11
  isplitl [K12]; · iexists _; iexact K12
  isplitl [K13]; · iexists _; iexact K13
  isplitl [K14]; · iexists _; iexact K14
  isplitl [K15]; · iexists _; iexact K15
  iexists _; iexact K16

attribute [local irreducible] st1 st2 in
/-- The output block's one store, in the words of the body, is the unskewed gradients. -/
theorem out_words (c : Dev nD) (M0 : Memref sig .tc .vmem S128x8x128 .f32) (f0 : SB c M0) (s4 : SB c (Memref.whole cc0_scratch4)) (s5 : SB c (Memref.whole cc0_scratch5)) (s6 : SB c (Memref.whole cc0_scratch6)) (s7 : SB c (Memref.whole cc0_scratch7)) (s8 : SB c (Memref.whole cc0_scratch8)) (s9 : SB c (Memref.whole cc0_scratch9)) (s10 : SB c (Memref.whole cc0_scratch10)) (s11 : SB c (Memref.whole cc0_scratch11)) (s12 : SB c (Memref.whole cc0_scratch12)) (s13 : SB c (Memref.whole cc0_scratch13)) (s14 : SB c (Memref.whole cc0_scratch14)) (s15 : SB c (Memref.whole cc0_scratch15)) (s16 : SB c (Memref.whole cc0_scratch16)) :
    bodyRun.sl.H1_1 c M0 f0 s4 s5 s6 s7 s8 s9 s10 s11 s12 s13 s14 s15 s16 = [⟨Rect.unit (s := S128x128) ![0, 0] S128x128.size inb_S128x128_S128x128_0_0, unskew (grads c (inBlk c M0 f0) ⟨s4, s5, s6, s7, s8, s9, s10, s11, s12, s13, s14, s15⟩ s16)⟩] := rfl

end Cert.KernelIdeal.Val

end
-- ==== Proof.KVLane.lean ====
/- What the kernel's vector payloads are at a batch and a lane. -/
module

public import proofs.«01_k».proof.Proof.Gen.KernelIdeal.Skeleton
public import Idealize.ShloMosaic.Lib.Pointwise
public import Idealize.ShloMosaic.Lib.Tactic.WordOmega

@[expose] public section

set_option maxRecDepth 16384
set_option maxHeartbeats 1000000

noncomputable section

namespace Cert.KernelIdeal.Lane

open Cert.KernelIdeal Cert.KernelIdeal.Gen
open Idealize.ShloMosaic

/-- A vector of the eight batches over the 128 lanes. -/
abbrev W8 : Type := FVec Ideal S8x128 .f32

/-- A row of a buffer. -/
abbrev R8 : Type := FVec Ideal S1x8x128 .f32

/-- The reciprocal of the natural logarithm of two. -/
def LL : EReal := ((Real.log 2)⁻¹ : ℝ)

/-- The least of the left, diagonal and upper neighbours. -/
def mn (l d u : EReal) : EReal := min (min l d) u

/-- The weight of the neighbour `x`, before it is divided by the sum of the three. -/
def wt (l d u x : EReal) : EReal := Ideal.exp2 (mn l d u - x)

/-- The sum of the three weights. -/
def zz (l d u : EReal) : EReal := wt l d u l + wt l d u d + wt l d u u

/-- A cell's value. -/
def cell (t l d u : EReal) : EReal := t + mn l d u - Ideal.log (zz l d u) * LL

/-- The lane index on a vector of the eight batches. -/
def lane : IVec S8x128 32 := iota .tc S8x128 32 [1] iota_S8x128_d1_w32

/-- A vector moved up by `a` lanes, infinity coming in. -/
def sh (a : ℕ) (f : ℕ → EReal) (j : ℕ) : EReal := if j < a then ⊤ else f (j - a)

/-- A vector moved down by `c` lanes, zero coming in. -/
def sl (c : ℕ) (f : ℕ → EReal) (j : ℕ) : EReal := if j + c < 128 then f (j + c) else 0

/-- The power of two at the extended reals. -/
theorem exp2_eq (x : EReal) : (FloatOps.exp2 (F := Ideal) (φ := .f32) x : EReal) = Ideal.exp2 x := rfl

/-- The named reciprocal of log 2. -/
theorem named_log2e : (Named.named (F := Ideal) κ "log2e" (φ := .f32) 0x3FB8AA3B#32 : EReal) = LL := by
  exact IdealRules.named_const.ideal_named_scalar κ "log2e" _ _ rfl

/-- The named border is plus infinity. -/
theorem named_big : (Named.named (F := Ideal) κ "big" (φ := .f32) 0x501502F9#32 : EReal) = ⊤ :=
  IdealRules.named_const.ideal_named_scalar κ "big" _ _ rfl

/-- A choice by a lane's order against a constant. -/
theorem sel_slt {α : Type} (j k : ℕ) (hj : j < 1024) (hk : k < 1024) (x y : α) :
    Scalar.select (IntOp.cmpi .slt (BitVec.ofNat 32 j) (BitVec.ofNat 32 k)) x y = if j < k then x else y := by
  have : (IntOp.cmpi .slt (BitVec.ofNat 32 j) (BitVec.ofNat 32 k) = 1#1) ↔ j < k := by word_omega
  rw [Scalar.select]
  exact if_congr this rfl rfl

/-- A select on a lane at or past a bound. -/
theorem sel_sge {α : Type} (j k : ℕ) (hj : j < 1024) (hk : k < 1024) (x y : α) :
    Scalar.select (IntOp.cmpi .sge (BitVec.ofNat 32 j) (BitVec.ofNat 32 k)) x y = if k ≤ j then x else y := by
  have : (IntOp.cmpi .sge (BitVec.ofNat 32 j) (BitVec.ofNat 32 k) = 1#1) ↔ k ≤ j := by word_omega
  rw [Scalar.select]
  exact if_congr this rfl rfl

/-- A select on one lane. -/
theorem sel_eq {α : Type} (j k : ℕ) (hj : j < 1024) (hk : k < 1024) (x y : α) :
    Scalar.select (IntOp.cmpi .eq (BitVec.ofNat 32 j) (BitVec.ofNat 32 k)) x y = if j = k then x else y := by
  have : (IntOp.cmpi .eq (BitVec.ofNat 32 j) (BitVec.ofNat 32 k) = 1#1) ↔ j = k := by word_omega
  rw [Scalar.select]
  exact if_congr this rfl rfl

/-- A choice by the band of a diagonal: the row `r` meets the lane `j`. -/
theorem sel_band {α : Type} (j r : ℕ) (hj : j < 1024) (hr : r < 1024) (x y : α) :
    Scalar.select (IntOp.andi (IntOp.cmpi .sge (BitVec.ofNat 32 r - BitVec.ofNat 32 j) 0#32) (IntOp.cmpi .sle (BitVec.ofNat 32 r - BitVec.ofNat 32 j) 127#32)) x y
      = if j ≤ r ∧ r ≤ j + 127 then x else y := by
  have : (IntOp.andi (IntOp.cmpi .sge (BitVec.ofNat 32 r - BitVec.ofNat 32 j) 0#32) (IntOp.cmpi .sle (BitVec.ofNat 32 r - BitVec.ofNat 32 j) 127#32) = 1#1) ↔ (j ≤ r ∧ r ≤ j + 127) := by word_omega
  rw [Scalar.select]
  exact if_congr this rfl rfl

/-! ### The cells -/

/-- Payload 9 at a batch and a lane. -/
theorem pay9_at (p q d : W8) (t : R8) (b : Fin 8) (j : Fin 128) :
    k0_pay9 p q d t (ix2 b j) = cell (t (ix3 0 b j)) (q (ix2 b j)) (d (ix2 b j)) (p (ix2 b j)) := by
  pointwise [k0_pay9, k0_pay8, k0_pay7, k0_pay6, k0_pay5, k0_pay4]
  simp only [exp2_eq, named_log2e, cell, zz, wt, mn]

/-- Payload 10 at a batch and a lane. -/
theorem pay10_at (p q d : W8) (t : R8) (b : Fin 8) (j : Fin 128) :
    k0_pay10 p q d t (ix2 b j) = cell (t (ix3 0 b j)) (q (ix2 b j)) (d (ix2 b j)) (p (ix2 b j)) := by
  pointwise [k0_pay10]
  simp only [exp2_eq, named_log2e, cell, zz, wt, mn]

/-- Payload 12 at a batch and a lane. -/
theorem pay12_at (p q d : W8) (t : R8) (b : Fin 8) (j : Fin 128) :
    k0_pay12 p q d (k0_pay2 t) (k0_pay11 p q d) (ix2 b j) = cell (t (ix3 0 b j)) (q (ix2 b j)) (d (ix2 b j)) (p (ix2 b j)) := by
  pointwise [k0_pay12, k0_pay2, k0_pay11]
  simp only [exp2_eq, named_log2e, cell, zz, wt, mn]

/-- Payload 13 at a batch and a lane. -/
theorem pay13_at (p q d : W8) (t : R8) (b : Fin 8) (j : Fin 128) :
    k0_pay13 p q d (k0_pay3 t) (ix2 b j) = cell (t (ix3 0 b j)) (q (ix2 b j)) (d (ix2 b j)) (p (ix2 b j)) := by
  pointwise [k0_pay13, k0_pay3]
  simp only [exp2_eq, named_log2e, cell, zz, wt, mn]

/-- Payload 8 at a batch and a lane. -/
theorem pay8_at (p q d : W8)  (b : Fin 8) (j : Fin 128) :
    k0_pay8 p q d (ix2 b j) = zz (q (ix2 b j)) (d (ix2 b j)) (p (ix2 b j)) := by
  pointwise [k0_pay8, k0_pay7, k0_pay6, k0_pay5, k0_pay4]
  simp only [exp2_eq, named_log2e, cell, zz, wt, mn]

/-- Payload 5 at a batch and a lane. -/
theorem pay5_at (p q d : W8)  (b : Fin 8) (j : Fin 128) :
    k0_pay5 p q d (ix2 b j) = wt (q (ix2 b j)) (d (ix2 b j)) (p (ix2 b j)) (q (ix2 b j)) := by
  pointwise [k0_pay5, k0_pay4]
  simp only [exp2_eq, named_log2e, cell, zz, wt, mn]

/-- Payload 6 at a batch and a lane. -/
theorem pay6_at (p q d : W8)  (b : Fin 8) (j : Fin 128) :
    k0_pay6 p q d (ix2 b j) = wt (q (ix2 b j)) (d (ix2 b j)) (p (ix2 b j)) (d (ix2 b j)) := by
  pointwise [k0_pay6, k0_pay4]
  simp only [exp2_eq, named_log2e, cell, zz, wt, mn]

/-- Payload 7 at a batch and a lane. -/
theorem pay7_at (p q d : W8)  (b : Fin 8) (j : Fin 128) :
    k0_pay7 p q d (ix2 b j) = wt (q (ix2 b j)) (d (ix2 b j)) (p (ix2 b j)) (p (ix2 b j)) := by
  pointwise [k0_pay7, k0_pay4]
  simp only [exp2_eq, named_log2e, cell, zz, wt, mn]

/-- The fifth vector of the forward loop: the first one, moved up by four lanes. -/
theorem pay14_at (v : W8) (f : ℕ → EReal) (b : Fin 8) (hv : ∀ j : Fin 128, v (ix2 b j) = f j) (j : Fin 128) :
    k0_pay14 lane v (ix2 b j) = sh 4 f j := by
  pointwise [k0_pay14, lane]
  rw [sel_slt _ _ (by omega) (by omega), named_big, sh]
  split
  · rfl
  · rw [hv]

/-! ### The weights -/

/-- Payload 16 at a batch and a lane. -/
theorem pay16_at (m : IVec S8x128 32) (w z : W8) (b : Fin 8) (j : Fin 128) (r : ℕ) (hr : r < 1024) (hm : m (ix2 b j) = BitVec.ofNat 32 r - BitVec.ofNat 32 j) :
    k0_pay16 m w z (ix2 b j) = if j.val ≤ r ∧ r ≤ j.val + 127 then w (ix2 b j) * Ideal.div 1 (z (ix2 b j)) else 0 := by
  pointwise [k0_pay16, k0_pay15]
  rw [hm, sel_band _ _ (by omega) hr]

/-- Payload 17 at a batch and a lane. -/
theorem pay17_at (m : IVec S8x128 32) (w z : W8) (b : Fin 8) (j : Fin 128) (r : ℕ) (hr : r < 1024) (hm : m (ix2 b j) = BitVec.ofNat 32 r - BitVec.ofNat 32 j) :
    k0_pay17 m w z (ix2 b j) = if j.val ≤ r ∧ r ≤ j.val + 127 then w (ix2 b j) * Ideal.div 1 (z (ix2 b j)) else 0 := by
  pointwise [k0_pay17, k0_pay15]
  rw [hm, sel_band _ _ (by omega) hr]

/-- Payload 18 at a batch and a lane. -/
theorem pay18_at (m : IVec S8x128 32) (w z : W8) (b : Fin 8) (j : Fin 128) (r : ℕ) (hr : r < 1024) (hm : m (ix2 b j) = BitVec.ofNat 32 r - BitVec.ofNat 32 j) :
    k0_pay18 m w z (ix2 b j) = if j.val ≤ r ∧ r ≤ j.val + 127 then w (ix2 b j) * Ideal.div 1 (z (ix2 b j)) else 0 := by
  pointwise [k0_pay18, k0_pay15]
  rw [hm, sel_band _ _ (by omega) hr]

/-- Payload 23 at a batch and a lane. -/
theorem pay23_at (q : W8) (f : ℕ → EReal) (b : Fin 8) (hq : ∀ j : Fin 128, q (ix2 b j) = f j) (j : Fin 128) :
    k0_pay23 lane q (ix3 0 b j) = sl 1 f j := by
  pointwise [k0_pay23, lane]
  rw [sel_slt _ _ (by omega) (by omega), sl]
  have hj := j.isLt
  by_cases h : j.val < 127
  · rw [if_pos h, dif_pos h, hq, if_pos (by omega)]; exact congrArg f (Nat.add_comm _ _)
  · rw [if_neg h, if_neg (by omega)]

/-- Payload 25 at a batch and a lane. -/
theorem pay25_at (q : W8) (f : ℕ → EReal) (b : Fin 8) (hq : ∀ j : Fin 128, q (ix2 b j) = f j) (j : Fin 128) :
    k0_pay25 lane q (ix3 0 b j) = sl 2 f j := by
  pointwise [k0_pay25, lane]
  rw [sel_slt _ _ (by omega) (by omega), sl]
  have hj := j.isLt
  by_cases h : j.val < 126
  · rw [if_pos h, dif_pos h, hq, if_pos (by omega)]; exact congrArg f (Nat.add_comm _ _)
  · rw [if_neg h, if_neg (by omega)]

/-- Payload 30 at a batch and a lane. -/
theorem pay30_at (q : W8) (f : ℕ → EReal) (b : Fin 8) (hq : ∀ j : Fin 128, q (ix2 b j) = f j) (j : Fin 128) :
    k0_pay30 lane q (ix3 0 b j) = sl 3 f j := by
  pointwise [k0_pay30, lane]
  rw [sel_slt _ _ (by omega) (by omega), sl]
  have hj := j.isLt
  by_cases h : j.val < 125
  · rw [if_pos h, dif_pos h, hq, if_pos (by omega)]; exact congrArg f (Nat.add_comm _ _)
  · rw [if_neg h, if_neg (by omega)]

/-- Payload 34 at a batch and a lane. -/
theorem pay34_at (q : W8) (f : ℕ → EReal) (b : Fin 8) (hq : ∀ j : Fin 128, q (ix2 b j) = f j) (j : Fin 128) :
    k0_pay34 lane q (ix3 0 b j) = sl 4 f j := by
  pointwise [k0_pay34, lane]
  rw [sel_slt _ _ (by omega) (by omega), sl]
  have hj := j.isLt
  by_cases h : j.val < 124
  · rw [if_pos h, dif_pos h, hq, if_pos (by omega)]; exact congrArg f (Nat.add_comm _ _)
  · rw [if_neg h, if_neg (by omega)]

/-- Payload 28 at a batch and a lane. -/
theorem pay28_at (q : W8) (f : ℕ → EReal) (b : Fin 8) (hq : ∀ j : Fin 128, q (ix2 b j) = f j) (j : Fin 128) :
    k0_pay28 (k0_pay26 lane) (k0_pay27 q) (ix3 0 b j) = sl 2 f j := by
  pointwise [k0_pay28, k0_pay26, k0_pay27, lane]
  rw [sel_slt _ _ (by omega) (by omega), sl]
  have hj := j.isLt
  by_cases h : j.val < 126
  · rw [if_pos h, dif_pos h, hq, if_pos (by omega)]; exact congrArg f (Nat.add_comm _ _)
  · rw [if_neg h, if_neg (by omega)]

/-- Payload 32 at a batch and a lane. -/
theorem pay32_at (q : W8) (f : ℕ → EReal) (b : Fin 8) (hq : ∀ j : Fin 128, q (ix2 b j) = f j) (j : Fin 128) :
    k0_pay32 (k0_pay31 lane q) (ix3 0 b j) = sl 3 f j := by
  pointwise [k0_pay32, k0_pay31, lane]
  rw [sel_slt _ _ (by omega) (by omega), sl]
  have hj := j.isLt
  by_cases h : j.val < 125
  · rw [if_pos h, dif_pos h, hq, if_pos (by omega)]; exact congrArg f (Nat.add_comm _ _)
  · rw [if_neg h, if_neg (by omega)]

/-- Payload 35 at a batch and a lane. -/
theorem pay35_at (q : W8) (f : ℕ → EReal) (b : Fin 8) (hq : ∀ j : Fin 128, q (ix2 b j) = f j) (j : Fin 128) :
    k0_pay35 lane q (ix3 0 b j) = sl 4 f j := by
  pointwise [k0_pay35, lane]
  rw [sel_slt _ _ (by omega) (by omega), sl]
  have hj := j.isLt
  by_cases h : j.val < 124
  · rw [if_pos h, dif_pos h, hq, if_pos (by omega)]; exact congrArg f (Nat.add_comm _ _)
  · rw [if_neg h, if_neg (by omega)]

/-- Payload 29 at a batch and a lane. -/
theorem pay29_at (q : W8) (f : ℕ → EReal) (b : Fin 8) (hq : ∀ j : Fin 128, q (ix2 b j) = f j) (j : Fin 128) :
    k0_pay29 lane q (ix3 0 b j) = sl 1 f j := by
  pointwise [k0_pay29, lane]
  rw [sel_slt _ _ (by omega) (by omega), sl]
  have hj := j.isLt
  by_cases h : j.val < 127
  · rw [if_pos h, dif_pos h, hq, if_pos (by omega)]; exact congrArg f (Nat.add_comm _ _)
  · rw [if_neg h, if_neg (by omega)]

/-- Payload 33 at a batch and a lane. -/
theorem pay33_at (q : W8) (f : ℕ → EReal) (b : Fin 8) (hq : ∀ j : Fin 128, q (ix2 b j) = f j) (j : Fin 128) :
    k0_pay33 lane q (ix3 0 b j) = sl 2 f j := by
  pointwise [k0_pay33, lane]
  rw [sel_slt _ _ (by omega) (by omega), sl]
  have hj := j.isLt
  by_cases h : j.val < 126
  · rw [if_pos h, dif_pos h, hq, if_pos (by omega)]; exact congrArg f (Nat.add_comm _ _)
  · rw [if_neg h, if_neg (by omega)]

/-- Payload 64 at a batch and a lane. -/
theorem pay64_at (q : W8) (f : ℕ → EReal) (b : Fin 8) (hq : ∀ j : Fin 128, q (ix2 b j) = f j) (j : Fin 128) :
    k0_pay64 (k0_pay36 lane) (k0_pay37 q) (Scalar.ofBits .f32 0x00000000#32) (ix3 0 b j) = sl 3 f j := by
  pointwise [k0_pay64, k0_pay36, k0_pay37, lane]
  rw [sel_slt _ _ (by omega) (by omega), sl]
  have hj := j.isLt
  by_cases h : j.val < 125
  · rw [if_pos h, dif_pos h, hq, if_pos (by omega)]; exact congrArg f (Nat.add_comm _ _)
  · rw [if_neg h, if_neg (by omega)]

/-- Payload 22 at a batch and a lane. -/
theorem pay22_at (m : IVec S8x128 32) (w z : W8) (f : ℕ → EReal) (b : Fin 8) (hq : ∀ j : Fin 128, k0_pay16 m w z (ix2 b j) = f j) (j : Fin 128) :
    k0_pay22 (k0_pay19 lane) (k0_pay20 m w z) (k0_pay21 m w z) (ix3 0 b j) = sl 1 f j := by
  pointwise [k0_pay22, k0_pay19, k0_pay20, k0_pay21, lane]
  rw [sel_slt _ _ (by omega) (by omega), sl]
  have hj := j.isLt
  by_cases h : j.val < 127
  · rw [if_pos h, dif_pos h, hq, if_pos (by omega)]; exact congrArg f (Nat.add_comm _ _)
  · rw [if_neg h, if_neg (by omega)]

/-- Payload 24 at a batch and a lane. -/
theorem pay24_at (q : W8) (f : ℕ → EReal) (b : Fin 8) (hq : ∀ j : Fin 128, q (ix2 b j) = f j) (j : Fin 128) :
    k0_pay24 q (ix3 0 b j) = sl 0 f j := by
  pointwise [k0_pay24]
  rw [hq, sl, if_pos (by omega), Nat.add_zero]

/-- Payload 65 at a batch and a lane. -/
theorem pay65_at (m : IVec S8x128 32) (b : Fin 8) (j : Fin 128) : k0_pay65 m (ix2 b j) = m (ix2 b j) + 1#32 := by
  pointwise [k0_pay65]
  rfl

/-- Payload 63 at a batch and a lane. -/
theorem pay63_at (b : Fin 8) (j : Fin 128) : k0_pay63 lane (ix2 b j) = BitVec.ofNat 32 1 - BitVec.ofNat 32 j := by
  pointwise [k0_pay63, lane]
  rfl

/-! ### The gradients -/

/-- Payload 38 at a batch and a lane. -/
theorem pay38_at (p q d : W8) (wa wb wc : R8) (b : Fin 8) (j : Fin 128) :
    k0_pay38 p q d wa wb wc (ix2 b j) = wa (ix3 0 b j) * q (ix2 b j) + wb (ix3 0 b j) * d (ix2 b j) + wc (ix3 0 b j) * p (ix2 b j) := by
  pointwise [k0_pay38]

/-- Payload 39 at a batch and a lane. -/
theorem pay39_at (p q d : W8) (wa wb wc : R8) (b : Fin 8) (j : Fin 128) :
    k0_pay39 p q d wa wb wc (ix2 b j) = wa (ix3 0 b j) * q (ix2 b j) + wb (ix3 0 b j) * d (ix2 b j) + wc (ix3 0 b j) * p (ix2 b j) := by
  pointwise [k0_pay39]

/-- Payload 40 at a batch and a lane. -/
theorem pay40_at (p q d : W8) (wa wb wc : R8) (b : Fin 8) (j : Fin 128) :
    k0_pay40 p q d wa wb wc (ix2 b j) = wa (ix3 0 b j) * q (ix2 b j) + wb (ix3 0 b j) * d (ix2 b j) + wc (ix3 0 b j) * p (ix2 b j) := by
  pointwise [k0_pay40]

/-- Payload 41 at a batch and a lane. -/
theorem pay41_at (p q d : W8) (wa wb wc : R8) (b : Fin 8) (j : Fin 128) :
    k0_pay41 p q d wa wb wc (ix2 b j) = wa (ix3 0 b j) * q (ix2 b j) + wb (ix3 0 b j) * d (ix2 b j) + wc (ix3 0 b j) * p (ix2 b j) := by
  pointwise [k0_pay41]

/-- Payload 42 at a batch and a lane. -/
theorem pay42_at (e : W8) (f : ℕ → EReal) (b : Fin 8) (he : ∀ j : Fin 128, e (ix2 b j) = f j) (j : Fin 128) :
    k0_pay42 lane e (ix2 b j) = sl 4 f j := by
  pointwise [k0_pay42, lane]
  rw [sel_sge _ _ (by omega) (by omega), sl]
  have hj := j.isLt
  by_cases h : j.val < 124
  · rw [if_neg (by omega), dif_pos h, he, if_pos (by omega)]; exact congrArg f (Nat.add_comm _ _)
  · rw [if_pos (by omega), if_neg (by omega)]

/-- Payload 81 at a batch and a lane. -/
theorem pay81_at (e : W8) (b : Fin 8) (j : Fin 128) : k0_pay81 (k0_pay43 e) (ix3 0 b j) = e (ix2 b j) := by
  pointwise [k0_pay81, k0_pay43]

/-- Payload 71 at a batch and a lane. -/
theorem pay71_at (b : Fin 8) (j : Fin 128) : k0_pay71 (F := Ideal) lane (ix3 0 b j) = (if j.val = 127 then 1 else 0 : EReal) := by
  pointwise [k0_pay71, lane]
  rw [sel_eq _ _ (by omega) (by omega)]

/-- Payload 72 at a batch and a lane. -/
theorem pay72_at (b : Fin 8) (j : Fin 128) : k0_pay72 (F := Ideal) lane 127#32 (ix2 b j) = sl 0 (fun j => if j = 127 then 1 else 0) j := by
  pointwise [k0_pay72, lane]
  rw [sel_eq _ _ (by omega) (by omega), sl]
  have hj := j.isLt
  by_cases h : j.val = 127
  · rw [if_pos h, if_pos (by omega), if_pos (by omega)]
  · rw [if_neg h, if_neg (by omega : ¬ (j.val + 0 = 127)), ite_self]

/-- Payload 73 at a batch and a lane. -/
theorem pay73_at (b : Fin 8) (j : Fin 128) : k0_pay73 (F := Ideal) lane (ix2 b j) = sl 1 (fun j => if j = 127 then 1 else 0) j := by
  pointwise [k0_pay73, lane]
  rw [sel_eq _ _ (by omega) (by omega), sl]
  have hj := j.isLt
  by_cases h : j.val = 126
  · rw [if_pos h, if_pos (by omega), if_pos (by omega)]
  · rw [if_neg h, if_neg (by omega : ¬ (j.val + 1 = 127)), ite_self]

/-- Payload 74 at a batch and a lane. -/
theorem pay74_at (b : Fin 8) (j : Fin 128) : k0_pay74 (F := Ideal) lane (ix2 b j) = sl 2 (fun j => if j = 127 then 1 else 0) j := by
  pointwise [k0_pay74, lane]
  rw [sel_eq _ _ (by omega) (by omega), sl]
  have hj := j.isLt
  by_cases h : j.val = 125
  · rw [if_pos h, if_pos (by omega), if_pos (by omega)]
  · rw [if_neg h, if_neg (by omega : ¬ (j.val + 2 = 127)), ite_self]

/-- Payload 75 at a batch and a lane. -/
theorem pay75_at (b : Fin 8) (j : Fin 128) : k0_pay75 (F := Ideal) lane (ix2 b j) = sl 3 (fun j => if j = 127 then 1 else 0) j := by
  pointwise [k0_pay75, lane]
  rw [sel_eq _ _ (by omega) (by omega), sl]
  have hj := j.isLt
  by_cases h : j.val = 124
  · rw [if_pos h, if_pos (by omega), if_pos (by omega)]
  · rw [if_neg h, if_neg (by omega : ¬ (j.val + 3 = 127)), ite_self]

/-- Payload 76 at a batch and a lane. -/
theorem pay76_at (b : Fin 8) (j : Fin 128) : k0_pay76 (F := Ideal) lane (ix2 b j) = sl 4 (fun j => if j = 127 then 1 else 0) j := by
  pointwise [k0_pay76, lane]
  rw [sel_eq _ _ (by omega) (by omega), sl]
  have hj := j.isLt
  by_cases h : j.val = 123
  · rw [if_pos h, if_pos (by omega), if_pos (by omega)]
  · rw [if_neg h, if_neg (by omega : ¬ (j.val + 4 = 127)), ite_self]

/-- Payload 77 at a batch and a lane. -/
theorem pay77_at (b : Fin 8) (j : Fin 128) : k0_pay77 (F := Ideal) (ix2 b j) = (0 : EReal) := by
  pointwise [k0_pay77]

/-- Payload 78 at a batch and a lane. -/
theorem pay78_at (b : Fin 8) (j : Fin 128) : k0_pay78 (F := Ideal) (ix2 b j) = (0 : EReal) := by
  pointwise [k0_pay78]

/-- Payload 79 at a batch and a lane. -/
theorem pay79_at (b : Fin 8) (j : Fin 128) : k0_pay79 (F := Ideal) (ix2 b j) = (0 : EReal) := by
  pointwise [k0_pay79]

/-- Payload 80 at a batch and a lane. -/
theorem pay80_at (b : Fin 8) (j : Fin 128) : k0_pay80 (F := Ideal) (ix2 b j) = (0 : EReal) := by
  pointwise [k0_pay80]

/-- Payload 67 at a batch and a lane. -/
theorem pay67_at (b : Fin 8) (j : Fin 128) : k0_pay67 (F := Ideal) (ix3 0 b j) = (0 : EReal) := by
  pointwise [k0_pay67, k0_pay66]

/-- Payload 68 at a batch and a lane. -/
theorem pay68_at (b : Fin 8) (j : Fin 128) : k0_pay68 (F := Ideal) (ix3 0 b j) = (0 : EReal) := by
  pointwise [k0_pay68, k0_pay66]

/-- Payload 69 at a batch and a lane. -/
theorem pay69_at (b : Fin 8) (j : Fin 128) : k0_pay69 (F := Ideal) (ix3 0 b j) = (0 : EReal) := by
  pointwise [k0_pay69, k0_pay66]

/-- Payload 70 at a batch and a lane. -/
theorem pay70_at (b : Fin 8) (j : Fin 128) : k0_pay70 (F := Ideal) (ix3 0 b j) = (0 : EReal) := by
  pointwise [k0_pay70, k0_pay66]

/-! ### Where the forward loop starts -/

/-- Payload 54 at a batch and a lane. -/
theorem pay54_at (v : R8) (b : Fin 8) (j : Fin 128) : k0_pay54 (F := Ideal) v (ix2 b j) = sh 0 (fun j => if j = 0 then v (ix3 0 b 0) else ⊤) j := by
  pointwise [k0_pay54, k0_pay53]
  rw [sel_eq _ _ (by omega) (by omega), named_big, sh]
  by_cases h : j.val = 0
  · rw [if_pos h, if_neg (by omega), if_pos (by omega)]
  · rw [if_neg h]
    by_cases h' : j.val < 0
    · rw [if_pos h']
    · rw [if_neg h', if_neg (by omega)]

/-- Payload 55 at a batch and a lane. -/
theorem pay55_at (v : R8) (b : Fin 8) (j : Fin 128) : k0_pay55 (F := Ideal) v (ix2 b j) = sh 1 (fun j => if j = 0 then v (ix3 0 b 0) else ⊤) j := by
  pointwise [k0_pay55, k0_pay53]
  rw [sel_eq _ _ (by omega) (by omega), named_big, sh]
  by_cases h : j.val = 1
  · rw [if_pos h, if_neg (by omega), if_pos (by omega)]
  · rw [if_neg h]
    by_cases h' : j.val < 1
    · rw [if_pos h']
    · rw [if_neg h', if_neg (by omega)]

/-- Payload 56 at a batch and a lane. -/
theorem pay56_at (v : R8) (b : Fin 8) (j : Fin 128) : k0_pay56 (F := Ideal) v (ix2 b j) = sh 2 (fun j => if j = 0 then v (ix3 0 b 0) else ⊤) j := by
  pointwise [k0_pay56, k0_pay53]
  rw [sel_eq _ _ (by omega) (by omega), named_big, sh]
  by_cases h : j.val = 2
  · rw [if_pos h, if_neg (by omega), if_pos (by omega)]
  · rw [if_neg h]
    by_cases h' : j.val < 2
    · rw [if_pos h']
    · rw [if_neg h', if_neg (by omega)]

/-- Payload 57 at a batch and a lane. -/
theorem pay57_at (v : R8) (b : Fin 8) (j : Fin 128) : k0_pay57 (F := Ideal) v (ix2 b j) = sh 3 (fun j => if j = 0 then v (ix3 0 b 0) else ⊤) j := by
  pointwise [k0_pay57, k0_pay53]
  rw [sel_eq _ _ (by omega) (by omega), named_big, sh]
  by_cases h : j.val = 3
  · rw [if_pos h, if_neg (by omega), if_pos (by omega)]
  · rw [if_neg h]
    by_cases h' : j.val < 3
    · rw [if_pos h']
    · rw [if_neg h', if_neg (by omega)]

/-- Payload 58 at a batch and a lane. -/
theorem pay58_at (v : R8) (b : Fin 8) (j : Fin 128) : k0_pay58 (F := Ideal) v (ix2 b j) = sh 4 (fun j => if j = 0 then v (ix3 0 b 0) else ⊤) j := by
  pointwise [k0_pay58, k0_pay53]
  rw [sel_eq _ _ (by omega) (by omega), named_big, sh]
  by_cases h : j.val = 4
  · rw [if_pos h, if_neg (by omega), if_pos (by omega)]
  · rw [if_neg h]
    by_cases h' : j.val < 4
    · rw [if_pos h']
    · rw [if_neg h', if_neg (by omega)]

/-- Payload 59 at a batch and a lane. -/
theorem pay59_at (b : Fin 8) (j : Fin 128) : k0_pay59 (F := Ideal) (ix2 b j) = (⊤ : EReal) := by
  pointwise [k0_pay59]
  exact named_big

/-- Payload 60 at a batch and a lane. -/
theorem pay60_at (b : Fin 8) (j : Fin 128) : k0_pay60 (F := Ideal) (ix2 b j) = (⊤ : EReal) := by
  pointwise [k0_pay60]
  exact named_big

/-- Payload 61 at a batch and a lane. -/
theorem pay61_at (b : Fin 8) (j : Fin 128) : k0_pay61 (F := Ideal) (ix2 b j) = (⊤ : EReal) := by
  pointwise [k0_pay61]
  exact named_big

/-- Payload 62 at a batch and a lane. -/
theorem pay62_at (b : Fin 8) (j : Fin 128) : k0_pay62 (F := Ideal) (ix2 b j) = (⊤ : EReal) := by
  pointwise [k0_pay62]
  exact named_big

end Cert.KernelIdeal.Lane
-- ==== Proof.KVFwd.lean ====
/- The forward loop of the kernel at a batch and a lane: the diagonals of the recurrence, moved up lane by lane. -/
module

public import proofs.«01_k».proof.Proof.KVLoops
public import proofs.«01_k».proof.Proof.KVLane
public import Idealize.ShloMosaic.Lib.WritesUnit
public import Idealize.ShloMosaic.Lib.Pipeline.ValueKit.Tiles

@[expose] public section

set_option maxRecDepth 16384
set_option maxHeartbeats 1000000

noncomputable section

namespace Cert.KernelIdeal.Val

open Cert.KernelIdeal Cert.KernelIdeal.Gen Cert.KernelIdeal.Lane
open Idealize.ShloMosaic

/-- The kernel's diagonals: the newest and the one before it, after `n` trips. -/
def KP (t : ℕ → ℕ → EReal) : ℕ → (ℕ → EReal) × (ℕ → EReal)
  | 0 => (fun j => if j = 0 then t 0 0 else ⊤, fun _ => ⊤)
  | n + 1 => (fun j => cell (t (n + 1) j) (sh 1 (KP t n).1 j) (sh 1 (KP t n).2 j) ((KP t n).1 j), (KP t n).1)

/-- The three neighbours of the cell of diagonal `r` at lane `j`. -/
def nbL (t : ℕ → ℕ → EReal) (r j : ℕ) : EReal := sh 1 (KP t (r - 1)).1 j
/-- The diagonal neighbour. -/
def nbD (t : ℕ → ℕ → EReal) (r j : ℕ) : EReal := sh 1 (KP t (r - 1)).2 j
/-- The upper neighbour. -/
def nbU (t : ℕ → ℕ → EReal) (r j : ℕ) : EReal := (KP t (r - 1)).1 j

/-- The weight of the neighbour `x` of the cell of diagonal `r` at lane `j`, zero off the band. -/
def qw (t : ℕ → ℕ → EReal) (x : ℕ → ℕ → EReal) (r j : ℕ) : EReal :=
  if j ≤ r ∧ r ≤ j + 127 then wt (nbL t r j) (nbD t r j) (nbU t r j) (x r j) * Ideal.div 1 (zz (nbL t r j) (nbD t r j) (nbU t r j)) else 0

/-- The three weights. -/
def qA (t : ℕ → ℕ → EReal) : ℕ → ℕ → EReal := qw t (nbL t)
/-- The diagonal weights. -/
def qB (t : ℕ → ℕ → EReal) : ℕ → ℕ → EReal := qw t (nbD t)
/-- The upper weights. -/
def qC (t : ℕ → ℕ → EReal) : ℕ → ℕ → EReal := qw t (nbU t)

/-- A cell all of whose neighbours are infinite is infinite. -/
theorem cell_top (t : EReal) (ht : t ≠ ⊥) : cell t ⊤ ⊤ ⊤ = ⊤ := by
  have h0 : wt ⊤ ⊤ ⊤ ⊤ = 0 := by
    simp only [wt, mn, min_self, EReal.sub_self_le_zero]
    rfl
  have hz : zz ⊤ ⊤ ⊤ = 0 := by rw [zz, h0]; simp
  have hl : (0 : ℝ) < (Real.log 2)⁻¹ := inv_pos.mpr (Real.log_pos (by norm_num))
  have hlog : Ideal.log 0 = ⊥ := by
    exact (if_pos le_rfl : (if (0 : ℝ) ≤ 0 then (⊥ : EReal) else (Real.log 0 : ℝ)) = ⊥)
  rw [cell, hz, hlog, LL, EReal.bot_mul_coe_of_pos hl, mn, min_self, min_self]
  rw [EReal.add_top_of_ne_bot ht]
  rfl

/-- A cell of a vector moved up by `a` lanes. -/
theorem cell_sh (t : ℕ → ℕ → EReal) (n a j : ℕ) (x : EReal) (hx : x ≠ ⊥) (h : a ≤ j → x = t (n + 1) (j - a)) :
    cell x (sh (a + 1) (KP t n).1 j) (sh (a + 1) (KP t n).2 j) (sh a (KP t n).1 j) = sh a (KP t (n + 1)).1 j := by
  by_cases hj : j < a
  · simp only [sh, hj, if_true, Nat.lt_succ_of_lt hj]
    exact cell_top x hx
  · rw [h (not_lt.mp hj)]
    have e : ∀ f : ℕ → EReal, sh (a + 1) f j = sh 1 f (j - a) := by
      intro f
      simp only [sh]
      by_cases h1 : j < a + 1
      · rw [if_pos h1, if_pos (by omega)]
      · rw [if_neg h1, if_neg (by omega), Nat.sub_sub]
    rw [e, e]
    simp only [sh, hj, if_false, KP]

/-- The row of distances that a trip loads. -/
theorem off1_eq : ∀ k : Fin k0_t1_loop.trips, k0_off1 k = ![(k.val + 1) % 128, 0, 0] := by decide +kernel

/-- A row of a buffer as it is loaded, at a batch and a lane. -/
theorem row_at {n : ℕ} (M : Memref sig .tc .vmem ⟨3, ![n, 8, 128]⟩ .f32) (f : M.view.ty.Contents (Elt Ideal)) (off : Fin 3 → ℕ) (k : ℕ) (hk : k < n) (hoff : off = ![k, 0, 0])
    (inb : ∀ a, off a + S1x8x128.size a ≤ (⟨3, ![n, 8, 128]⟩ : Shape).size a) (b : Fin 8) (j : Fin 128) :
    M.view.readAt (Elt Ideal) (Rect.unit (s := ⟨3, ![n, 8, 128]⟩) off S1x8x128.size inb).toLoadRect f (ix3 0 b j) = M.view.read (Elt Ideal) f (ix3 ⟨k, hk⟩ b j) := by
  subst hoff
  rw [View.readAt_eq_ld]
  refine View.ld_unit_apply_of _ _ _ _ _ _ fun a => ?_
  match a with
  | ⟨0, _⟩ => rfl
  | ⟨1, _⟩ => exact (Nat.zero_add _).symm
  | ⟨2, _⟩ => exact (Nat.zero_add _).symm

/-- A row of a skewed input, at a batch and a lane. -/
theorem tRow_at (c : Dev nD) (M : Memref sig .tc .vmem S128x8x128 .f32) (f : SB c M) (k : Fin k0_t1_loop.trips) (b : Fin 8) (j : Fin 128) :
    tRow c M f k (ix3 0 b j) = M.view.read (Elt Ideal) f (ix3 ⟨(k.val + 1) % 128, Nat.mod_lt _ (by decide)⟩ b j) :=
  row_at M f _ _ _ (off1_eq k) _ b j

/-- A buffer with one row replaced, at a row, a batch and a lane. -/
theorem put_at (M : Memref sig .tc .vmem S256x8x128 .f32) (f : M.view.ty.Contents (Elt Ideal)) (off : Fin 3 → ℕ) (k : ℕ) (hoff : off = ![k, 0, 0])
    (inb : ∀ a, off a + S1x8x128.size a ≤ S256x8x128.size a) (v : FVec Ideal S1x8x128 .f32) (r : Fin 256) (b : Fin 8) (j : Fin 128) :
    M.view.read (Elt Ideal) (M.view.writes (Elt Ideal) f [⟨Rect.unit (s := S256x8x128) off S1x8x128.size inb, v⟩]) (ix3 r b j)
      = if r.val = k then v (ix3 0 b j) else M.view.read (Elt Ideal) f (ix3 r b j) := by
  by_cases h : r.val = k
  · rw [if_pos h]
    refine View.read_writes_cons_unit_of_mem (s := S256x8x128) (size := S1x8x128.size) M.view f inb v [] (ix3 r b j) (ix3 0 b j) hoff fun a => ?_
    match a with
    | ⟨0, _⟩ => exact h
    | ⟨1, _⟩ => exact (Nat.zero_add _).symm
    | ⟨2, _⟩ => exact (Nat.zero_add _).symm
  · rw [if_neg h]
    refine (View.read_writes_cons_unit_of_not_mem (s := S256x8x128) (size := S1x8x128.size) M.view f inb v [] (ix3 r b j) hoff (0 : Fin 3) ?_).trans rfl
    show r.val < k ∨ k + 1 ≤ r.val
    omega

/-- A trip's stored row, read back. -/
theorem putRow_at (c : Dev nD) (M : Memref sig .tc .vmem S256x8x128 .f32) (f : SB c M) (k : Fin k0_t1_loop.trips) (v : FVec Ideal S1x8x128 .f32) (r : Fin 256) (b : Fin 8) (j : Fin 128) :
    M.view.read (Elt Ideal) (putRow c M f k v) (ix3 r b j) = if r.val = k.val + 1 then v (ix3 0 b j) else M.view.read (Elt Ideal) f (ix3 r b j) :=
  put_at M f _ _ (k0_off2_eq k) _ v r b j

/-- Rows one to `n` of a weight buffer hold `g`, at every batch. -/
def Rows (c : Dev nD) (M : Memref sig .tc .vmem S256x8x128 .f32) (f : SB c M) (g : Fin 8 → ℕ → ℕ → EReal) (n : ℕ) : Prop :=
  ∀ (r : Fin 256) (b : Fin 8) (j : Fin 128), 1 ≤ r.val → r.val ≤ n → M.view.read (Elt Ideal) f (ix3 r b j) = g b r.val j.val

/-- One more row stored. -/
theorem Rows.put {c : Dev nD} {M : Memref sig .tc .vmem S256x8x128 .f32} {f : SB c M} {g : Fin 8 → ℕ → ℕ → EReal} {k : Fin k0_t1_loop.trips}
    (h : Rows c M f g k.val) {v : FVec Ideal S1x8x128 .f32} (hv : ∀ (b : Fin 8) (j : Fin 128), v (ix3 0 b j) = g b (k.val + 1) j.val) :
    Rows c M (putRow c M f k v) g (k.val + 1) := by
  intro r b j h1 hn
  rw [putRow_at]
  by_cases hr : r.val = k.val + 1
  · rw [if_pos hr, hv, hr]
  · rw [if_neg hr]
    exact h r b j h1 (by omega)

/-- A vector is `g` at every batch and lane. -/
def Is (v : V8) (g : Fin 8 → ℕ → EReal) : Prop := ∀ (b : Fin 8) (j : Fin 128), v (ix2 b j) = g b j.val

/-- A skewed input holds `T`, moved up by `a` lanes with the last lanes coming in. -/
def Skewed (c : Dev nD) (M : Memref sig .tc .vmem S128x8x128 .f32) (f : SB c M) (T : Fin 8 → ℕ → ℕ → EReal) (a : ℕ) : Prop :=
  ∀ (k : Fin 128) (b : Fin 8) (j : Fin 128), M.view.read (Elt Ideal) f (ix3 k b j) = T b k.val ((j.val + 128 - a) % 128)

/-- A skewed input's row is `T`'s, where it is not one that came in. -/
theorem Skewed.row {c : Dev nD} {M : Memref sig .tc .vmem S128x8x128 .f32} {f : SB c M} {T : Fin 8 → ℕ → ℕ → EReal} {a : ℕ} (h : Skewed c M f T a)
    (hp : ∀ b k j, T b (k % 128) j = T b k j) (k : Fin k0_t1_loop.trips) (b : Fin 8) (j : Fin 128) :
    tRow c M f k (ix3 0 b j) = T b (k.val + 1) ((j.val + 128 - a) % 128) := by
  rw [tRow_at, h, hp]

/-- What the forward loop knows after `n` trips. -/
structure Inv1 (c : Dev nD) (T : Fin 8 → ℕ → ℕ → EReal) (n : ℕ) (s : Acc1 × Wts c) : Prop where
  p0 : Is s.1.1 fun b => sh 0 (KP (T b) n).1
  p1 : Is s.1.2.1 fun b => sh 1 (KP (T b) n).1
  p2 : Is s.1.2.2.1 fun b => sh 2 (KP (T b) n).1
  p3 : Is s.1.2.2.2.1 fun b => sh 3 (KP (T b) n).1
  p4 : Is s.1.2.2.2.2.1 fun b => sh 4 (KP (T b) n).1
  d0 : Is s.1.2.2.2.2.2.1 fun b => sh 1 (KP (T b) n).2
  d1 : Is s.1.2.2.2.2.2.2.1 fun b => sh 2 (KP (T b) n).2
  d2 : Is s.1.2.2.2.2.2.2.2.1 fun b => sh 3 (KP (T b) n).2
  d3 : Is s.1.2.2.2.2.2.2.2.2.1 fun b => sh 4 (KP (T b) n).2
  m : ∀ (b : Fin 8) (j : Fin 128), s.1.2.2.2.2.2.2.2.2.2 (ix2 b j) = BitVec.ofNat 32 (n + 1) - BitVec.ofNat 32 j.val
  a0 : Rows c _ s.2.a0 (fun b r => sl 1 (qA (T b) r)) n
  a1 : Rows c _ s.2.a1 (fun b r => sl 2 (qA (T b) r)) n
  a2 : Rows c _ s.2.a2 (fun b r => sl 3 (qA (T b) r)) n
  a3 : Rows c _ s.2.a3 (fun b r => sl 4 (qA (T b) r)) n
  b0 : Rows c _ s.2.b0 (fun b r => sl 1 (qB (T b) r)) n
  b1 : Rows c _ s.2.b1 (fun b r => sl 2 (qB (T b) r)) n
  b2 : Rows c _ s.2.b2 (fun b r => sl 3 (qB (T b) r)) n
  b3 : Rows c _ s.2.b3 (fun b r => sl 4 (qB (T b) r)) n
  c0 : Rows c _ s.2.c0 (fun b r => sl 0 (qC (T b) r)) n
  c1 : Rows c _ s.2.c1 (fun b r => sl 1 (qC (T b) r)) n
  c2 : Rows c _ s.2.c2 (fun b r => sl 2 (qC (T b) r)) n
  c3 : Rows c _ s.2.c3 (fun b r => sl 3 (qC (T b) r)) n

/-- The rows that a trip stores, from the carried vectors. -/
theorem weights_at (c : Dev nD) (T : Fin 8 → ℕ → ℕ → EReal) (n : ℕ) (hn : n < 254) (s : Acc1 × Wts c) (h : Inv1 c T n s) (b : Fin 8) (j : Fin 128) :
    k0_pay16 s.1.2.2.2.2.2.2.2.2.2 (k0_pay5 s.1.1 s.1.2.1 s.1.2.2.2.2.2.1) (k0_pay8 s.1.1 s.1.2.1 s.1.2.2.2.2.2.1) (ix2 b j) = qA (T b) (n + 1) j
    ∧ k0_pay17 s.1.2.2.2.2.2.2.2.2.2 (k0_pay6 s.1.1 s.1.2.1 s.1.2.2.2.2.2.1) (k0_pay8 s.1.1 s.1.2.1 s.1.2.2.2.2.2.1) (ix2 b j) = qB (T b) (n + 1) j
    ∧ k0_pay18 s.1.2.2.2.2.2.2.2.2.2 (k0_pay7 s.1.1 s.1.2.1 s.1.2.2.2.2.2.1) (k0_pay8 s.1.1 s.1.2.1 s.1.2.2.2.2.2.1) (ix2 b j) = qC (T b) (n + 1) j := by
  have e0 : sh 0 (KP (T b) n).1 j = (KP (T b) n).1 j := by simp [sh]
  have hn' : n + 1 < 1024 := by omega
  refine ⟨?_, ?_, ?_⟩
  · rw [pay16_at _ _ _ _ _ (n + 1) hn' (h.m b j), pay5_at, pay8_at, h.p0 b j, h.p1 b j, h.d0 b j]
    beta_reduce
    rw [e0]
    rfl
  · rw [pay17_at _ _ _ _ _ (n + 1) hn' (h.m b j), pay6_at, pay8_at, h.p0 b j, h.p1 b j, h.d0 b j]
    beta_reduce
    rw [e0]
    rfl
  · rw [pay18_at _ _ _ _ _ (n + 1) hn' (h.m b j), pay7_at, pay8_at, h.p0 b j, h.p1 b j, h.d0 b j]
    beta_reduce
    rw [e0]
    rfl

/-- A word equation for the row minus the lane. -/
theorem word_step (n j : ℕ) : BitVec.ofNat 32 (n + 1) - BitVec.ofNat 32 j + 1#32 = BitVec.ofNat 32 (n + 1 + 1) - BitVec.ofNat 32 j := by
  rw [BitVec.ofNat_add (n + 1) 1, BitVec.sub_eq_add_neg, BitVec.sub_eq_add_neg, BitVec.add_assoc, BitVec.add_assoc, BitVec.add_comm (-_)]

end Cert.KernelIdeal.Val
-- ==== Proof.KVFwd2.lean ====
/- The forward loop of the kernel at a batch and a lane: one trip, and all of them. -/
module

public import proofs.«01_k».proof.Proof.KVFwd
public import proofs.«01_k».proof.Proof.KVLane
public import Idealize.ShloMosaic.Lib.WritesUnit
public import Idealize.ShloMosaic.Lib.Pipeline.ValueKit.Tiles

@[expose] public section

set_option maxRecDepth 16384
set_option maxHeartbeats 4000000

noncomputable section

namespace Cert.KernelIdeal.Val

open Cert.KernelIdeal Cert.KernelIdeal.Gen Cert.KernelIdeal.Lane
open Idealize.ShloMosaic

/-- One trip of the forward loop. -/
theorem inv1_step (c : Dev nD) (T : Fin 8 → ℕ → ℕ → EReal) (hp : ∀ b k j, T b (k % 128) j = T b k j) (hT : ∀ b k j, T b k j ≠ ⊥)
    (f2 : SB c (Memref.whole cc0_scratch0)) (f3 : SB c (Memref.whole cc0_scratch1)) (f4 : SB c (Memref.whole cc0_scratch2)) (f5 : SB c (Memref.whole cc0_scratch3))
    (h2 : Skewed c _ f2 T 0) (h3 : Skewed c _ f3 T 1) (h4 : Skewed c _ f4 T 2) (h5 : Skewed c _ f5 T 3)
    (k : Fin k0_t1_loop.trips) (s : Acc1 × Wts c) (h : Inv1 c T k.val s) : Inv1 c T (k.val + 1) (trip1 c lane f2 f3 f4 f5 k s) := by
  have hk : k.val < 254 := Nat.lt_of_lt_of_le k.isLt k0_t1_abs.2.1
  have v0 : ∀ (b : Fin 8) (j : Fin 128), k0_pay9 s.1.1 s.1.2.1 s.1.2.2.2.2.2.1 (tRow c (Memref.whole cc0_scratch0) f2 k) (ix2 b j) = (KP (T b) (k.val + 1)).1 j := by
    intro b j
    rw [pay9_at, h2.row hp, h.p0 b j, h.p1 b j, h.d0 b j]
    refine (cell_sh (T b) k.val 0 j.val _ (hT _ _ _) fun _ => ?_).trans (by simp [sh])
    rw [show (j.val + 128 - 0) % 128 = j.val - 0 by omega]
  have wA := fun b j => (weights_at c T k.val hk s h b j).1
  have wB := fun b j => (weights_at c T k.val hk s h b j).2.1
  have wC := fun b j => (weights_at c T k.val hk s h b j).2.2
  refine Inv1.mk ?_ ?_ ?_ ?_ ?_ ?_ ?_ ?_ ?_ ?_ ?_ ?_ ?_ ?_ ?_ ?_ ?_ ?_ ?_ ?_ ?_ ?_
  · exact fun b j => (v0 b j).trans (if_neg (Nat.not_lt_zero _)).symm
  · exact fun b j => (pay10_at _ _ _ _ b j).trans <| by
      rw [h3.row hp, h.p1 b j, h.p2 b j, h.d1 b j]
      exact cell_sh (T b) k.val 1 j.val _ (hT _ _ _) fun _ => by rw [show (j.val + 128 - 1) % 128 = j.val - 1 by omega]
  · exact fun b j => (pay12_at _ _ _ _ b j).trans <| by
      rw [h4.row hp, h.p2 b j, h.p3 b j, h.d2 b j]
      exact cell_sh (T b) k.val 2 j.val _ (hT _ _ _) fun _ => by rw [show (j.val + 128 - 2) % 128 = j.val - 2 by omega]
  · exact fun b j => (pay13_at _ _ _ _ b j).trans <| by
      rw [h5.row hp, h.p3 b j, h.p4 b j, h.d3 b j]
      exact cell_sh (T b) k.val 3 j.val _ (hT _ _ _) fun _ => by rw [show (j.val + 128 - 3) % 128 = j.val - 3 by omega]
  · exact fun b j => pay14_at _ _ b (v0 b) j
  · exact fun b j => h.p1 b j
  · exact fun b j => h.p2 b j
  · exact fun b j => h.p3 b j
  · exact fun b j => h.p4 b j
  · exact fun b j => (pay65_at _ b j).trans <| by
      rw [h.m b j, word_step]
  · refine Rows.put h.a0 ?_
    exact fun b j => pay22_at _ _ _ _ b (wA b) j
  · refine Rows.put h.a1 ?_
    exact fun b j => pay25_at _ _ b (wA b) j
  · refine Rows.put h.a2 ?_
    exact fun b j => pay30_at _ _ b (wA b) j
  · refine Rows.put h.a3 ?_
    exact fun b j => pay34_at _ _ b (wA b) j
  · refine Rows.put h.b0 ?_
    exact fun b j => pay23_at _ _ b (wB b) j
  · refine Rows.put h.b1 ?_
    exact fun b j => pay28_at _ _ b (wB b) j
  · refine Rows.put h.b2 ?_
    exact fun b j => pay32_at _ _ b (wB b) j
  · refine Rows.put h.b3 ?_
    exact fun b j => pay35_at _ _ b (wB b) j
  · refine Rows.put h.c0 ?_
    exact fun b j => pay24_at _ _ b (wC b) j
  · refine Rows.put h.c1 ?_
    exact fun b j => pay29_at _ _ b (wC b) j
  · refine Rows.put h.c2 ?_
    exact fun b j => pay33_at _ _ b (wC b) j
  · refine Rows.put h.c3 ?_
    exact fun b j => pay64_at _ _ b (wC b) j

/-- The forward loop, by induction on its trips. -/
theorem inv1_all (c : Dev nD) (T : Fin 8 → ℕ → ℕ → EReal) (hp : ∀ b k j, T b (k % 128) j = T b k j) (hT : ∀ b k j, T b k j ≠ ⊥)
    (f2 : SB c (Memref.whole cc0_scratch0)) (f3 : SB c (Memref.whole cc0_scratch1)) (f4 : SB c (Memref.whole cc0_scratch2)) (f5 : SB c (Memref.whole cc0_scratch3))
    (h2 : Skewed c _ f2 T 0) (h3 : Skewed c _ f3 T 1) (h4 : Skewed c _ f4 T 2) (h5 : Skewed c _ f5 T 3)
    (s : Acc1 × Wts c) (h : Inv1 c T 0 s) (n : ℕ) (hn : n ≤ k0_t1_loop.trips) : Inv1 c T n (st1 c lane f2 f3 f4 f5 s n) := by
  induction n with
  | zero => exact h
  | succ n ih =>
    have e := st1_succ c lane f2 f3 f4 f5 s ⟨n, hn⟩
    rw [e]
    exact inv1_step c T hp hT f2 f3 f4 f5 h2 h3 h4 h5 ⟨n, hn⟩ _ (ih (Nat.le_of_succ_le hn))

end Cert.KernelIdeal.Val
-- ==== Proof.KVBwd.lean ====
/- The backward loop of the kernel at a batch and a lane: the gradient, diagonal by diagonal, moved down lane by lane. -/
module

public import proofs.«01_k».proof.Proof.KVLoops2
public import proofs.«01_k».proof.Proof.KVFwd

@[expose] public section

set_option maxRecDepth 16384
set_option maxHeartbeats 4000000

noncomputable section

namespace Cert.KernelIdeal.Val

open Cert.KernelIdeal Cert.KernelIdeal.Gen Cert.KernelIdeal.Lane
open Idealize.ShloMosaic

/-- The gradient's diagonals: the newest and the one before it, after `s` trips down from the last cell. -/
def EB (A B C : ℕ → ℕ → EReal) : ℕ → (ℕ → EReal) × (ℕ → EReal)
  | 0 => (fun j => if j = 127 then 1 else 0, fun _ => 0)
  | s + 1 => (fun j => sl 1 (A (254 - s)) j * sl 1 (EB A B C s).1 j + sl 1 (B (255 - s)) j * sl 1 (EB A B C s).2 j + C (254 - s) j * (EB A B C s).1 j, (EB A B C s).1)

/-- A gradient diagonal moved down by `a` lanes, from its neighbours moved down alike. -/
theorem EB_sl (A B C : ℕ → ℕ → EReal) (s a j : ℕ) (x : EReal) (hx : 1 ≤ s → x = sl (a + 1) (B (255 - s)) j) :
    sl (a + 1) (A (254 - s)) j * sl (a + 1) (EB A B C s).1 j + x * sl (a + 1) (EB A B C s).2 j + sl a (C (254 - s)) j * sl a (EB A B C s).1 j = sl a (EB A B C (s + 1)).1 j := by
  have hb : x * sl (a + 1) (EB A B C s).2 j = sl (a + 1) (B (255 - s)) j * sl (a + 1) (EB A B C s).2 j := by
    rcases Nat.eq_zero_or_pos s with h | h
    · subst h
      have e : sl (a + 1) (EB A B C 0).2 j = 0 := by simp [sl, EB]
      rw [e, mul_zero, mul_zero]
    · rw [hx h]
  rw [hb]
  have e1 : ∀ f : ℕ → EReal, sl (a + 1) f j = sl 1 f (j + a) := fun f => by simp only [sl, Nat.add_assoc]
  by_cases h : j + a < 128
  · have e0 : ∀ f : ℕ → EReal, sl a f j = f (j + a) := fun f => if_pos h
    rw [e0, e0, e0, e1, e1, e1, e1]
    rfl
  · have e0 : ∀ f : ℕ → EReal, sl a f j = 0 := fun f => if_neg h
    have e2 : ∀ f : ℕ → EReal, sl (a + 1) f j = 0 := fun f => if_neg (by omega)
    rw [e0, e0, e0, e2, e2, e2, e2]
    simp

/-- A weight's row, where a trip of the backward loop loads it. -/
theorem wRow_at {c : Dev nD} {M : Memref sig .tc .vmem S256x8x128 .f32} {f : SB c M} {g : Fin 8 → ℕ → ℕ → EReal} (h : Rows c M f g 254)
    (k : Fin k0_t2_loop.trips) (r : Fin 2) (hr : r.val = 0 ∨ 1 ≤ k.val) (b : Fin 8) (j : Fin 128) :
    wRow c M f k r (ix3 0 b j) = g b (r.val + 254 - k.val) j.val := by
  have hk : k.val < 254 := Nat.lt_of_lt_of_le k.isLt k0_t2_abs.2.1
  have h2 := r.isLt
  refine (row_at M f _ (r.val + 254 - k.val) (by omega) (k0_off3_eq k r) _ b j).trans ?_
  exact h ⟨r.val + 254 - k.val, by omega⟩ b j (by show 1 ≤ r.val + 254 - k.val; omega) (by show r.val + 254 - k.val ≤ 254; omega)

/-- Rows `254 - n` to 254 of the gradient buffer hold the gradient's diagonals. -/
def GRows (c : Dev nD) (f : SB c (Memref.whole cc0_scratch16)) (E : Fin 8 → ℕ → ℕ → EReal) (n : ℕ) : Prop :=
  ∀ (r : Fin 256) (b : Fin 8) (j : Fin 128), 254 - n ≤ r.val → r.val ≤ 254 → (Memref.whole cc0_scratch16).view.read (Elt Ideal) f (ix3 r b j) = E b (254 - r.val) j.val

/-- One more row of gradients stored. -/
theorem GRows.put {c : Dev nD} {f : SB c (Memref.whole cc0_scratch16)} {E : Fin 8 → ℕ → ℕ → EReal} {k : Fin k0_t2_loop.trips} (h : GRows c f E k.val)
    {v : FVec Ideal S1x8x128 .f32} (hv : ∀ (b : Fin 8) (j : Fin 128), v (ix3 0 b j) = E b (k.val + 1) j.val) :
    GRows c ((Memref.whole cc0_scratch16).view.writes (Elt Ideal) f [⟨Rect.unit (s := S256x8x128) (k0_off4 k) S1x8x128.size (k0_off4_inb k), v⟩]) E (k.val + 1) := by
  have hk : k.val < 254 := Nat.lt_of_lt_of_le k.isLt k0_t2_abs.2.1
  intro r b j h1 hn
  rw [put_at _ f _ (253 - k.val) (k0_off4_eq k)]
  by_cases hr : r.val = 253 - k.val
  · rw [if_pos hr, hv, hr, show 254 - (253 - k.val) = k.val + 1 by omega]
  · rw [if_neg hr]
    exact h r b j (by omega) hn

/-- What the backward loop knows after `n` trips. -/
structure Inv2 (c : Dev nD) (A B C : Fin 8 → ℕ → ℕ → EReal) (n : ℕ) (s : Acc2 × SB c (Memref.whole cc0_scratch16)) : Prop where
  p0 : Is s.1.1 fun b => sl 0 (EB (A b) (B b) (C b) n).1
  p1 : Is s.1.2.1 fun b => sl 1 (EB (A b) (B b) (C b) n).1
  p2 : Is s.1.2.2.1 fun b => sl 2 (EB (A b) (B b) (C b) n).1
  p3 : Is s.1.2.2.2.1 fun b => sl 3 (EB (A b) (B b) (C b) n).1
  p4 : Is s.1.2.2.2.2.1 fun b => sl 4 (EB (A b) (B b) (C b) n).1
  d0 : Is s.1.2.2.2.2.2.1 fun b => sl 1 (EB (A b) (B b) (C b) n).2
  d1 : Is s.1.2.2.2.2.2.2.1 fun b => sl 2 (EB (A b) (B b) (C b) n).2
  d2 : Is s.1.2.2.2.2.2.2.2.1 fun b => sl 3 (EB (A b) (B b) (C b) n).2
  d3 : Is s.1.2.2.2.2.2.2.2.2 fun b => sl 4 (EB (A b) (B b) (C b) n).2
  g : GRows c s.2 (fun b s => (EB (A b) (B b) (C b) s).1) n

/-- One trip of the backward loop. -/
theorem inv2_step (c : Dev nD) (A B C : Fin 8 → ℕ → ℕ → EReal) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15))
    (h_a0 : Rows c _ g_a0 (fun b r => sl 1 (A b r)) 254) (h_a1 : Rows c _ g_a1 (fun b r => sl 2 (A b r)) 254) (h_a2 : Rows c _ g_a2 (fun b r => sl 3 (A b r)) 254) (h_a3 : Rows c _ g_a3 (fun b r => sl 4 (A b r)) 254) (h_b0 : Rows c _ g_b0 (fun b r => sl 1 (B b r)) 254) (h_b1 : Rows c _ g_b1 (fun b r => sl 2 (B b r)) 254) (h_b2 : Rows c _ g_b2 (fun b r => sl 3 (B b r)) 254) (h_b3 : Rows c _ g_b3 (fun b r => sl 4 (B b r)) 254) (h_c0 : Rows c _ g_c0 (fun b r => sl 0 (C b r)) 254) (h_c1 : Rows c _ g_c1 (fun b r => sl 1 (C b r)) 254) (h_c2 : Rows c _ g_c2 (fun b r => sl 2 (C b r)) 254) (h_c3 : Rows c _ g_c3 (fun b r => sl 3 (C b r)) 254)
    (k : Fin k0_t2_loop.trips) (s : Acc2 × SB c (Memref.whole cc0_scratch16)) (h : Inv2 c A B C k.val s) : Inv2 c A B C (k.val + 1) (trip2 c lane g_a0 g_a1 g_a2 g_a3 g_b0 g_b1 g_b2 g_b3 g_c0 g_c1 g_c2 g_c3 k s) := by
  have hk : k.val < 254 := Nat.lt_of_lt_of_le k.isLt k0_t2_abs.2.1
  have r0 : (0 : Fin 2).val + 254 - k.val = 254 - k.val := by show 0 + 254 - k.val = _; omega
  have r1 : (1 : Fin 2).val + 254 - k.val = 255 - k.val := by show 1 + 254 - k.val = _; omega
  have v0 : ∀ (b : Fin 8) (j : Fin 128), k0_pay38 s.1.1 s.1.2.1 s.1.2.2.2.2.2.1 (wRow c _ g_a0 k 0) (wRow c _ g_b0 k 1) (wRow c _ g_c0 k 0) (ix2 b j) = sl 0 (EB (A b) (B b) (C b) (k.val + 1)).1 j := by
    intro b j
    rw [pay38_at, wRow_at h_a0 k 0 (Or.inl rfl), wRow_at h_c0 k 0 (Or.inl rfl), h.p0 b j, h.p1 b j, h.d0 b j, r0]
    exact EB_sl (A b) (B b) (C b) k.val 0 j.val _ fun hs => by rw [wRow_at h_b0 k 1 (Or.inr hs), r1]
  have v1 : ∀ (b : Fin 8) (j : Fin 128), k0_pay39 s.1.2.1 s.1.2.2.1 s.1.2.2.2.2.2.2.1 (wRow c _ g_a1 k 0) (wRow c _ g_b1 k 1) (wRow c _ g_c1 k 0) (ix2 b j) = sl 1 (EB (A b) (B b) (C b) (k.val + 1)).1 j := by
    intro b j
    rw [pay39_at, wRow_at h_a1 k 0 (Or.inl rfl), wRow_at h_c1 k 0 (Or.inl rfl), h.p1 b j, h.p2 b j, h.d1 b j, r0]
    exact EB_sl (A b) (B b) (C b) k.val 1 j.val _ fun hs => by rw [wRow_at h_b1 k 1 (Or.inr hs), r1]
  have v2 : ∀ (b : Fin 8) (j : Fin 128), k0_pay40 s.1.2.2.1 s.1.2.2.2.1 s.1.2.2.2.2.2.2.2.1 (wRow c _ g_a2 k 0) (wRow c _ g_b2 k 1) (wRow c _ g_c2 k 0) (ix2 b j) = sl 2 (EB (A b) (B b) (C b) (k.val + 1)).1 j := by
    intro b j
    rw [pay40_at, wRow_at h_a2 k 0 (Or.inl rfl), wRow_at h_c2 k 0 (Or.inl rfl), h.p2 b j, h.p3 b j, h.d2 b j, r0]
    exact EB_sl (A b) (B b) (C b) k.val 2 j.val _ fun hs => by rw [wRow_at h_b2 k 1 (Or.inr hs), r1]
  have v3 : ∀ (b : Fin 8) (j : Fin 128), k0_pay41 s.1.2.2.2.1 s.1.2.2.2.2.1 s.1.2.2.2.2.2.2.2.2 (wRow c _ g_a3 k 0) (wRow c _ g_b3 k 1) (wRow c _ g_c3 k 0) (ix2 b j) = sl 3 (EB (A b) (B b) (C b) (k.val + 1)).1 j := by
    intro b j
    rw [pay41_at, wRow_at h_a3 k 0 (Or.inl rfl), wRow_at h_c3 k 0 (Or.inl rfl), h.p3 b j, h.p4 b j, h.d3 b j, r0]
    exact EB_sl (A b) (B b) (C b) k.val 3 j.val _ fun hs => by rw [wRow_at h_b3 k 1 (Or.inr hs), r1]
  have w0 : ∀ (b : Fin 8) (j : Fin 128), k0_pay38 s.1.1 s.1.2.1 s.1.2.2.2.2.2.1 (wRow c _ g_a0 k 0) (wRow c _ g_b0 k 1) (wRow c _ g_c0 k 0) (ix2 b j) = (EB (A b) (B b) (C b) (k.val + 1)).1 j :=
    fun b j => (v0 b j).trans (if_pos j.isLt)
  have hg : GRows c ((Memref.whole cc0_scratch16).view.writes (Elt Ideal) s.2 [⟨Rect.unit (s := S256x8x128) (k0_off4 k) S1x8x128.size (k0_off4_inb k), k0_pay81 (k0_pay43 (k0_pay38 s.1.1 s.1.2.1 s.1.2.2.2.2.2.1 (wRow c _ g_a0 k 0) (wRow c _ g_b0 k 1) (wRow c _ g_c0 k 0)))⟩]) (fun b s => (EB (A b) (B b) (C b) s).1) (k.val + 1) :=
    h.g.put fun b j => (pay81_at _ b j).trans (w0 b j)
  refine Inv2.mk ?_ ?_ ?_ ?_ ?_ ?_ ?_ ?_ ?_ ?_
  · exact v0
  · exact v1
  · exact v2
  · exact v3
  · exact fun b j => pay42_at _ _ b (w0 b) j
  · exact fun b j => h.p1 b j
  · exact fun b j => h.p2 b j
  · exact fun b j => h.p3 b j
  · exact fun b j => h.p4 b j
  · exact hg

/-- The backward loop, by induction on its trips. -/
theorem inv2_all (c : Dev nD) (A B C : Fin 8 → ℕ → ℕ → EReal) (g_a0 : SB c (Memref.whole cc0_scratch4)) (g_a1 : SB c (Memref.whole cc0_scratch5)) (g_a2 : SB c (Memref.whole cc0_scratch6)) (g_a3 : SB c (Memref.whole cc0_scratch7)) (g_b0 : SB c (Memref.whole cc0_scratch8)) (g_b1 : SB c (Memref.whole cc0_scratch9)) (g_b2 : SB c (Memref.whole cc0_scratch10)) (g_b3 : SB c (Memref.whole cc0_scratch11)) (g_c0 : SB c (Memref.whole cc0_scratch12)) (g_c1 : SB c (Memref.whole cc0_scratch13)) (g_c2 : SB c (Memref.whole cc0_scratch14)) (g_c3 : SB c (Memref.whole cc0_scratch15))
    (h_a0 : Rows c _ g_a0 (fun b r => sl 1 (A b r)) 254) (h_a1 : Rows c _ g_a1 (fun b r => sl 2 (A b r)) 254) (h_a2 : Rows c _ g_a2 (fun b r => sl 3 (A b r)) 254) (h_a3 : Rows c _ g_a3 (fun b r => sl 4 (A b r)) 254) (h_b0 : Rows c _ g_b0 (fun b r => sl 1 (B b r)) 254) (h_b1 : Rows c _ g_b1 (fun b r => sl 2 (B b r)) 254) (h_b2 : Rows c _ g_b2 (fun b r => sl 3 (B b r)) 254) (h_b3 : Rows c _ g_b3 (fun b r => sl 4 (B b r)) 254) (h_c0 : Rows c _ g_c0 (fun b r => sl 0 (C b r)) 254) (h_c1 : Rows c _ g_c1 (fun b r => sl 1 (C b r)) 254) (h_c2 : Rows c _ g_c2 (fun b r => sl 2 (C b r)) 254) (h_c3 : Rows c _ g_c3 (fun b r => sl 3 (C b r)) 254)
    (s : Acc2 × SB c (Memref.whole cc0_scratch16)) (h : Inv2 c A B C 0 s) (n : ℕ) (hn : n ≤ k0_t2_loop.trips) : Inv2 c A B C n (st2 c lane g_a0 g_a1 g_a2 g_a3 g_b0 g_b1 g_b2 g_b3 g_c0 g_c1 g_c2 g_c3 s n) := by
  induction n with
  | zero => exact h
  | succ n ih =>
    rw [st2_succ c lane g_a0 g_a1 g_a2 g_a3 g_b0 g_b1 g_b2 g_b3 g_c0 g_c1 g_c2 g_c3 s ⟨n, hn⟩]
    exact inv2_step c A B C g_a0 g_a1 g_a2 g_a3 g_b0 g_b1 g_b2 g_b3 g_c0 g_c1 g_c2 g_c3 h_a0 h_a1 h_a2 h_a3 h_b0 h_b1 h_b2 h_b3 h_c0 h_c1 h_c2 h_c3 ⟨n, hn⟩ _ (ih (Nat.le_of_succ_le hn))

end Cert.KernelIdeal.Val
-- ==== Proof.KVSkew.lean ====
/- The roll ladders of the kernel: the input skewed onto diagonals, and the gradient put back. -/
module

public import proofs.«01_k».proof.Proof.KVBody0
public import proofs.«01_k».proof.Proof.KVFwd

@[expose] public section

set_option maxRecDepth 16384
set_option maxHeartbeats 1000000

noncomputable section

namespace Cert.KernelIdeal.Val

open Cert.KernelIdeal Cert.KernelIdeal.Gen
open Idealize.ShloMosaic
open Cert.KernelIdeal.Lane (LL named_log2e)

/-- The whole input, and the whole gradient summed over the batches. -/
abbrev X3 : Type := FVec Ideal S128x8x128 .f32
/-- The gradients' means, by diagonal and lane. -/
abbrev G2 : Type := FVec Ideal S256x128 .f32

/-- A choice by a bit of the lane. -/
def bit3 (s : BitVec 32) (r v : X3) : X3 :=
  select (cmpi .eq (andi (shrsi lane3 (broadcast S128x8x128 s)) (broadcast S128x8x128 1#32)) (broadcast S128x8x128 1#32)) r v

/-- A bit of the lane number. -/
theorem bit_word : ∀ s : Fin 7, ∀ j : Fin 128, IntOp.cmpi .eq (IntOp.andi (IntOp.shrsi .vector (BitVec.ofNat 32 j.val) (BitVec.ofNat 32 s.val)) 1#32) 1#32 = if j.val / 2 ^ s.val % 2 = 1 then 1#1 else 0#1 := by
  decide +kernel

/-- A select on a bit of the lane number, three axes. -/
theorem bit3_at (s : Fin 7) (r v : X3) (k : Fin 128) (b : Fin 8) (j : Fin 128) :
    bit3 (BitVec.ofNat 32 s.val) r v (ix3 k b j) = if j.val / 2 ^ s.val % 2 = 1 then r (ix3 k b j) else v (ix3 k b j) := by
  pointwise [bit3, lane3]
  rw [bit_word]
  split <;> rfl

/-- Two pieces of a whole that are its rows rolled down by `m`. -/
theorem pick_down (m n : ℕ) (hmn : m + n = 128) (hm : m < 128) (f : Fin 128 → EReal) (k : Fin 128) (h1 : k.val < m → n + k.val < 128) (h2 : ¬ k.val < m → k.val - m < 128) :
    (if h : k.val < m then f ⟨n + k.val, h1 h⟩ else f ⟨k.val - m, h2 h⟩) = f ⟨(k.val + 128 - m) % 128, Nat.mod_lt _ (by decide)⟩ := by
  have hk := k.isLt
  by_cases h : k.val < m
  · rw [dif_pos h]; exact congrArg f (Fin.ext (by show n + k.val = (k.val + 128 - m) % 128; omega))
  · rw [dif_neg h]; exact congrArg f (Fin.ext (by show k.val - m = (k.val + 128 - m) % 128; omega))

/-- Two pieces of a whole that are its rows rolled up by `m`. -/
theorem pick_up (m n : ℕ) (hmn : m + n = 256) (f : Fin 256 → EReal) (k : Fin 256) (h1 : k.val < n → m + k.val < 256) (h2 : ¬ k.val < n → k.val - n < 256) :
    (if h : k.val < n then f ⟨m + k.val, h1 h⟩ else f ⟨k.val - n, h2 h⟩) = f ⟨(k.val + m) % 256, Nat.mod_lt _ (by decide)⟩ := by
  have hk := k.isLt
  by_cases h : k.val < n
  · rw [dif_pos h]; exact congrArg f (Fin.ext (by show m + k.val = (k.val + m) % 256; omega))
  · rw [dif_neg h]; exact congrArg f (Fin.ext (by show k.val - n = (k.val + m) % 256; omega))

/-- The input's rows rolled down by 1. -/
def roll1 (v : X3) : X3 := concatenate S128x8x128 0 [⟨S1x8x128, extractStridedSlice S1x8x128 ![127, 0, 0] v slices_S128x8x128_o127_0_0_S1x8x128⟩, ⟨S127x8x128, extractStridedSlice S127x8x128 ![0, 0, 0] v slices_S128x8x128_o0_0_0_S127x8x128⟩] concatenates_S1x8x128_S127x8x128_S128x8x128_d0

/-- Rows moved down by 1, at an entry. -/
theorem roll1_at (v : X3) (k : Fin 128) (b : Fin 8) (j : Fin 128) : roll1 v (ix3 k b j) = v (ix3 ⟨(k.val + 128 - 1) % 128, Nat.mod_lt _ (by decide)⟩ b j) := by
  pointwise [roll1]
  exact pick_down 1 127 rfl (by decide) (fun r => v (ix3 r b j)) k _ _

/-- The input's rows rolled down by 2. -/
def roll2 (v : X3) : X3 := concatenate S128x8x128 0 [⟨S2x8x128, extractStridedSlice S2x8x128 ![126, 0, 0] v slices_S128x8x128_o126_0_0_S2x8x128⟩, ⟨S126x8x128, extractStridedSlice S126x8x128 ![0, 0, 0] v slices_S128x8x128_o0_0_0_S126x8x128⟩] concatenates_S2x8x128_S126x8x128_S128x8x128_d0

/-- Rows moved down by 2, at an entry. -/
theorem roll2_at (v : X3) (k : Fin 128) (b : Fin 8) (j : Fin 128) : roll2 v (ix3 k b j) = v (ix3 ⟨(k.val + 128 - 2) % 128, Nat.mod_lt _ (by decide)⟩ b j) := by
  pointwise [roll2]
  exact pick_down 2 126 rfl (by decide) (fun r => v (ix3 r b j)) k _ _

/-- The input's rows rolled down by 4. -/
def roll4 (v : X3) : X3 := concatenate S128x8x128 0 [⟨S4x8x128, extractStridedSlice S4x8x128 ![124, 0, 0] v slices_S128x8x128_o124_0_0_S4x8x128⟩, ⟨S124x8x128, extractStridedSlice S124x8x128 ![0, 0, 0] v slices_S128x8x128_o0_0_0_S124x8x128⟩] concatenates_S4x8x128_S124x8x128_S128x8x128_d0

/-- Rows moved down by 4, at an entry. -/
theorem roll4_at (v : X3) (k : Fin 128) (b : Fin 8) (j : Fin 128) : roll4 v (ix3 k b j) = v (ix3 ⟨(k.val + 128 - 4) % 128, Nat.mod_lt _ (by decide)⟩ b j) := by
  pointwise [roll4]
  exact pick_down 4 124 rfl (by decide) (fun r => v (ix3 r b j)) k _ _

/-- The input's rows rolled down by 8. -/
def roll8 (v : X3) : X3 := concatenate S128x8x128 0 [⟨S8x8x128, extractStridedSlice S8x8x128 ![120, 0, 0] v slices_S128x8x128_o120_0_0_S8x8x128⟩, ⟨S120x8x128, extractStridedSlice S120x8x128 ![0, 0, 0] v slices_S128x8x128_o0_0_0_S120x8x128⟩] concatenates_S8x8x128_S120x8x128_S128x8x128_d0

/-- Rows moved down by 8, at an entry. -/
theorem roll8_at (v : X3) (k : Fin 128) (b : Fin 8) (j : Fin 128) : roll8 v (ix3 k b j) = v (ix3 ⟨(k.val + 128 - 8) % 128, Nat.mod_lt _ (by decide)⟩ b j) := by
  pointwise [roll8]
  exact pick_down 8 120 rfl (by decide) (fun r => v (ix3 r b j)) k _ _

/-- The input's rows rolled down by 16. -/
def roll16 (v : X3) : X3 := concatenate S128x8x128 0 [⟨S16x8x128, extractStridedSlice S16x8x128 ![112, 0, 0] v slices_S128x8x128_o112_0_0_S16x8x128⟩, ⟨S112x8x128, extractStridedSlice S112x8x128 ![0, 0, 0] v slices_S128x8x128_o0_0_0_S112x8x128⟩] concatenates_S16x8x128_S112x8x128_S128x8x128_d0

/-- Rows moved down by 16, at an entry. -/
theorem roll16_at (v : X3) (k : Fin 128) (b : Fin 8) (j : Fin 128) : roll16 v (ix3 k b j) = v (ix3 ⟨(k.val + 128 - 16) % 128, Nat.mod_lt _ (by decide)⟩ b j) := by
  pointwise [roll16]
  exact pick_down 16 112 rfl (by decide) (fun r => v (ix3 r b j)) k _ _

/-- The input's rows rolled down by 32. -/
def roll32 (v : X3) : X3 := concatenate S128x8x128 0 [⟨S32x8x128, extractStridedSlice S32x8x128 ![96, 0, 0] v slices_S128x8x128_o96_0_0_S32x8x128⟩, ⟨S96x8x128, extractStridedSlice S96x8x128 ![0, 0, 0] v slices_S128x8x128_o0_0_0_S96x8x128⟩] concatenates_S32x8x128_S96x8x128_S128x8x128_d0

/-- Rows moved down by 32, at an entry. -/
theorem roll32_at (v : X3) (k : Fin 128) (b : Fin 8) (j : Fin 128) : roll32 v (ix3 k b j) = v (ix3 ⟨(k.val + 128 - 32) % 128, Nat.mod_lt _ (by decide)⟩ b j) := by
  pointwise [roll32]
  exact pick_down 32 96 rfl (by decide) (fun r => v (ix3 r b j)) k _ _

/-- The input's rows rolled down by 64. -/
def roll64 (v : X3) : X3 := concatenate S128x8x128 0 [⟨S64x8x128, extractStridedSlice S64x8x128 ![64, 0, 0] v slices_S128x8x128_o64_0_0_S64x8x128⟩, ⟨S64x8x128, extractStridedSlice S64x8x128 ![0, 0, 0] v slices_S128x8x128_o0_0_0_S64x8x128⟩] concatenates_S64x8x128_S64x8x128_S128x8x128_d0

/-- Rows moved down by 64, at an entry. -/
theorem roll64_at (v : X3) (k : Fin 128) (b : Fin 8) (j : Fin 128) : roll64 v (ix3 k b j) = v (ix3 ⟨(k.val + 128 - 64) % 128, Nat.mod_lt _ (by decide)⟩ b j) := by
  pointwise [roll64]
  exact pick_down 64 64 rfl (by decide) (fun r => v (ix3 r b j)) k _ _

/-- After the first `s` stages of the skew, row `k` at lane `j` is the row up by the lane's low `s` bits. -/
def Skew (X v : X3) (s : ℕ) : Prop :=
  ∀ (k : Fin 128) (b : Fin 8) (j : Fin 128), v (ix3 k b j) = X (ix3 ⟨(k.val + 128 - j.val % 2 ^ s) % 128, Nat.mod_lt _ (by decide)⟩ b j)

/-- One stage of the skew. -/
theorem Skew.stage {X v r : X3} (s : Fin 7) (h : Skew X v s.val) (hr : ∀ (k : Fin 128) (b : Fin 8) (j : Fin 128), r (ix3 k b j) = v (ix3 ⟨(k.val + 128 - 2 ^ s.val) % 128, Nat.mod_lt _ (by decide)⟩ b j)) :
    Skew X (bit3 (BitVec.ofNat 32 s.val) r v) (s.val + 1) := by
  intro k b j
  have hk := k.isLt
  have hp : 2 ^ s.val ≤ 64 := Nat.pow_le_pow_right (by decide) (by omega : s.val ≤ 6)
  have hq : 0 < 2 ^ s.val := Nat.pow_pos (by decide)
  have hm : j.val % 2 ^ s.val < 2 ^ s.val := Nat.mod_lt _ hq
  have hs : j.val % 2 ^ (s.val + 1) = j.val % 2 ^ s.val + 2 ^ s.val * (j.val / 2 ^ s.val % 2) := by rw [pow_succ, Nat.mod_mul]
  rw [bit3_at]
  by_cases hb : j.val / 2 ^ s.val % 2 = 1
  · rw [hb] at hs
    rw [if_pos hb, hr, h]
    refine congrArg (fun r => X (ix3 r b j)) (Fin.ext ?_)
    show ((k.val + 128 - 2 ^ s.val) % 128 + 128 - j.val % 2 ^ s.val) % 128 = (k.val + 128 - j.val % 2 ^ (s.val + 1)) % 128
    omega
  · have h0 : j.val / 2 ^ s.val % 2 = 0 := by omega
    rw [h0] at hs
    rw [if_neg hb, h]
    refine congrArg (fun r => X (ix3 r b j)) (Fin.ext ?_)
    show (k.val + 128 - j.val % 2 ^ s.val) % 128 = (k.val + 128 - j.val % 2 ^ (s.val + 1)) % 128
    omega

/-- The input block over the natural logarithm of two. -/
def scaled (X : X3) : X3 := mulf (shapeCast S128x8x128 X shapeCasts_S128x8x128_S128x8x128) (broadcast S128x8x128 (Named.named (F := Ideal) κ "log2e" 0x3FB8AA3B#32))

/-- The distances, scaled. -/
theorem scaled_at (X : X3) (k : Fin 128) (b : Fin 8) (j : Fin 128) : scaled X (ix3 k b j) = X (ix3 k b j) * LL := by
  pointwise [scaled]
  rw [named_log2e]

/-- The first four stages and the last three. -/
def lowStages (v : X3) : X3 :=
  let v1 := bit3 0#32 (roll1 v) v; let v2 := bit3 1#32 (roll2 v1) v1; bit3 2#32 (roll4 v2) v2
/-- The last three stages of the skew. -/
def highStages (v : X3) : X3 :=
  let v1 := bit3 4#32 (roll16 v) v; let v2 := bit3 5#32 (roll32 v1) v1; bit3 6#32 (roll64 v2) v2

/-- The skew is its seven stages. -/
theorem pay47_eq (X : X3) : k0_pay47 lane3 (k0_pay44 X) (k0_pay45 X) k0_pay46 = highStages (bit3 3#32 (roll8 (lowStages (scaled X))) (lowStages (scaled X))) := rfl

/-- Seven stages skew every lane in full. -/
theorem skewed_all (X : X3) : Skew (scaled X) (highStages (bit3 3#32 (roll8 (lowStages (scaled X))) (lowStages (scaled X)))) 7 := by
  have h0 : Skew (scaled X) (scaled X) 0 := fun k b j => by
    refine congrArg (fun r => scaled X (ix3 r b j)) (Fin.ext ?_)
    show k.val = (k.val + 128 - j.val % 1) % 128
    omega
  have h1 := h0.stage 0 (roll1_at _)
  have h2 := h1.stage 1 (roll2_at _)
  have h3 := h2.stage 2 (roll4_at _)
  have h4 := h3.stage 3 (roll8_at _)
  have h5 := h4.stage 4 (roll16_at _)
  have h6 := h5.stage 5 (roll32_at _)
  exact h6.stage 6 (roll64_at _)

/-- The inputs of batch `b` on diagonal `k` at lane `j`, over the natural logarithm of two. -/
def TT (X : X3) (b : Fin 8) (k j : ℕ) : EReal :=
  X (ix3 ⟨(k % 128 + 128 - j % 128) % 128, Nat.mod_lt _ (by decide)⟩ b ⟨j % 128, Nat.mod_lt _ (by decide)⟩) * LL

/-- The skewed distances repeat every 128 rows. -/
theorem TT_per (X : X3) (b : Fin 8) (k j : ℕ) : TT X b (k % 128) j = TT X b k j := by
  have e : k % 128 % 128 = k % 128 := Nat.mod_mod _ _
  simp only [TT, e]

/-- The skewed distances, row by row. -/
theorem pay47_at (X : X3) (k : Fin 128) (b : Fin 8) (j : Fin 128) : (k0_pay47 (F := Ideal) lane3 (k0_pay44 X) (k0_pay45 X) k0_pay46 (ix3 k b j) : EReal) = TT X b k.val j.val := by
  have hk := k.isLt
  have hj := j.isLt
  rw [pay47_eq, skewed_all X k b j, scaled_at, TT]
  refine congrArg (· * LL) (congrArg₂ (fun r s => X (ix3 r b s)) (Fin.ext ?_) (Fin.ext ?_))
  · show (k.val + 128 - j.val % 128) % 128 = (k.val % 128 + 128 - j.val % 128) % 128
    omega
  · show j.val = j.val % 128
    omega

/-- The four skewed inputs. -/
theorem skew0_at (X : X3) (k : Fin 128) (b : Fin 8) (j : Fin 128) : skew0 X (ix3 k b j) = TT X b k.val ((j.val + 128 - 0) % 128) := by
  unfold skew0
  pointwise [k0_pay48]
  rw [pay47_at]
  exact congrArg (TT X b k.val) (by omega)

/-- The distances of shift one. -/
theorem skew1_at (X : X3) (k : Fin 128) (b : Fin 8) (j : Fin 128) : skew1 X (ix3 k b j) = TT X b k.val ((j.val + 128 - 1) % 128) := by
  rw [← pay47_at X k b ⟨(j.val + 128 - 1) % 128, Nat.mod_lt _ (by decide)⟩]
  unfold skew1
  generalize hv : k0_pay47 (F := Ideal) lane3 (k0_pay44 X) (k0_pay45 X) k0_pay46 = v
  pointwise [k0_pay49]
  rw [hv]
  exact pick_down 1 127 rfl (by decide) (fun r => v (ix3 k b r)) j _ _

/-- The distances of shift two. -/
theorem skew2_at (X : X3) (k : Fin 128) (b : Fin 8) (j : Fin 128) : skew2 X (ix3 k b j) = TT X b k.val ((j.val + 128 - 2) % 128) := by
  rw [← pay47_at X k b ⟨(j.val + 128 - 2) % 128, Nat.mod_lt _ (by decide)⟩]
  unfold skew2
  generalize hv : k0_pay47 (F := Ideal) lane3 (k0_pay44 X) (k0_pay45 X) k0_pay46 = v
  pointwise [k0_pay50, k0_pay51]
  rw [hv]
  exact pick_down 2 126 rfl (by decide) (fun r => v (ix3 k b r)) j _ _

/-- The distances of shift three. -/
theorem skew3_at (X : X3) (k : Fin 128) (b : Fin 8) (j : Fin 128) : skew3 X (ix3 k b j) = TT X b k.val ((j.val + 128 - 3) % 128) := by
  rw [← pay47_at X k b ⟨(j.val + 128 - 3) % 128, Nat.mod_lt _ (by decide)⟩]
  unfold skew3
  generalize hv : k0_pay47 (F := Ideal) lane3 (k0_pay44 X) (k0_pay45 X) k0_pay46 = v
  pointwise [k0_pay52]
  exact pick_down 3 125 rfl (by decide) (fun r => v (ix3 k b r)) j _ _

/-! ### The gradient put back -/

/-- The lane index on the gradient summed over the batches, and a choice by a bit of it. -/
def lane2 : IVec S256x128 32 := iota .tc S256x128 32 [1] iota_S256x128_d1_w32
/-- A select on a bit of the lane number, two axes. -/
def bit2 (s : BitVec 32) (r v : G2) : G2 :=
  select (cmpi .eq (andi (shrsi lane2 (broadcast S256x128 s)) (broadcast S256x128 1#32)) (broadcast S256x128 1#32)) r v

/-- That select at a row and a lane. -/
theorem bit2_at (s : Fin 7) (r v : G2) (k : Fin 256) (j : Fin 128) :
    bit2 (BitVec.ofNat 32 s.val) r v (ix2 k j) = if j.val / 2 ^ s.val % 2 = 1 then r (ix2 k j) else v (ix2 k j) := by
  pointwise [bit2, lane2]
  rw [bit_word]
  split <;> rfl

/-- The gradient's rows rolled up by 1. -/
def up1 (v : G2) : G2 := concatenate S256x128 0 [⟨S255x128, extractStridedSlice S255x128 ![1, 0] v slices_S256x128_o1_0_S255x128⟩, ⟨S1x128, extractStridedSlice S1x128 ![0, 0] v slices_S256x128_o0_0_S1x128⟩] concatenates_S255x128_S1x128_S256x128_d0

/-- Rows moved up by 1, at an entry. -/
theorem up1_at (v : G2) (k : Fin 256) (j : Fin 128) : up1 v (ix2 k j) = v (ix2 ⟨(k.val + 1) % 256, Nat.mod_lt _ (by decide)⟩ j) := by
  pointwise [up1]
  exact pick_up 1 255 rfl (fun r => v (ix2 r j)) k _ _

/-- The gradient's rows rolled up by 2. -/
def up2 (v : G2) : G2 := concatenate S256x128 0 [⟨S254x128, extractStridedSlice S254x128 ![2, 0] v slices_S256x128_o2_0_S254x128⟩, ⟨S2x128, extractStridedSlice S2x128 ![0, 0] v slices_S256x128_o0_0_S2x128⟩] concatenates_S254x128_S2x128_S256x128_d0

/-- Rows moved up by 2, at an entry. -/
theorem up2_at (v : G2) (k : Fin 256) (j : Fin 128) : up2 v (ix2 k j) = v (ix2 ⟨(k.val + 2) % 256, Nat.mod_lt _ (by decide)⟩ j) := by
  pointwise [up2]
  exact pick_up 2 254 rfl (fun r => v (ix2 r j)) k _ _

/-- The gradient's rows rolled up by 4. -/
def up4 (v : G2) : G2 := concatenate S256x128 0 [⟨S252x128, extractStridedSlice S252x128 ![4, 0] v slices_S256x128_o4_0_S252x128⟩, ⟨S4x128, extractStridedSlice S4x128 ![0, 0] v slices_S256x128_o0_0_S4x128⟩] concatenates_S252x128_S4x128_S256x128_d0

/-- Rows moved up by 4, at an entry. -/
theorem up4_at (v : G2) (k : Fin 256) (j : Fin 128) : up4 v (ix2 k j) = v (ix2 ⟨(k.val + 4) % 256, Nat.mod_lt _ (by decide)⟩ j) := by
  pointwise [up4]
  exact pick_up 4 252 rfl (fun r => v (ix2 r j)) k _ _

/-- The gradient's rows rolled up by 8. -/
def up8 (v : G2) : G2 := concatenate S256x128 0 [⟨S248x128, extractStridedSlice S248x128 ![8, 0] v slices_S256x128_o8_0_S248x128⟩, ⟨S8x128, extractStridedSlice S8x128 ![0, 0] v slices_S256x128_o0_0_S8x128⟩] concatenates_S248x128_S8x128_S256x128_d0

/-- Rows moved up by 8, at an entry. -/
theorem up8_at (v : G2) (k : Fin 256) (j : Fin 128) : up8 v (ix2 k j) = v (ix2 ⟨(k.val + 8) % 256, Nat.mod_lt _ (by decide)⟩ j) := by
  pointwise [up8]
  exact pick_up 8 248 rfl (fun r => v (ix2 r j)) k _ _

/-- The gradient's rows rolled up by 16. -/
def up16 (v : G2) : G2 := concatenate S256x128 0 [⟨S240x128, extractStridedSlice S240x128 ![16, 0] v slices_S256x128_o16_0_S240x128⟩, ⟨S16x128, extractStridedSlice S16x128 ![0, 0] v slices_S256x128_o0_0_S16x128⟩] concatenates_S240x128_S16x128_S256x128_d0

/-- Rows moved up by 16, at an entry. -/
theorem up16_at (v : G2) (k : Fin 256) (j : Fin 128) : up16 v (ix2 k j) = v (ix2 ⟨(k.val + 16) % 256, Nat.mod_lt _ (by decide)⟩ j) := by
  pointwise [up16]
  exact pick_up 16 240 rfl (fun r => v (ix2 r j)) k _ _

/-- The gradient's rows rolled up by 32. -/
def up32 (v : G2) : G2 := concatenate S256x128 0 [⟨S224x128, extractStridedSlice S224x128 ![32, 0] v slices_S256x128_o32_0_S224x128⟩, ⟨S32x128, extractStridedSlice S32x128 ![0, 0] v slices_S256x128_o0_0_S32x128⟩] concatenates_S224x128_S32x128_S256x128_d0

/-- Rows moved up by 32, at an entry. -/
theorem up32_at (v : G2) (k : Fin 256) (j : Fin 128) : up32 v (ix2 k j) = v (ix2 ⟨(k.val + 32) % 256, Nat.mod_lt _ (by decide)⟩ j) := by
  pointwise [up32]
  exact pick_up 32 224 rfl (fun r => v (ix2 r j)) k _ _

/-- The gradient's rows rolled up by 64. -/
def up64 (v : G2) : G2 := concatenate S256x128 0 [⟨S192x128, extractStridedSlice S192x128 ![64, 0] v slices_S256x128_o64_0_S192x128⟩, ⟨S64x128, extractStridedSlice S64x128 ![0, 0] v slices_S256x128_o0_0_S64x128⟩] concatenates_S192x128_S64x128_S256x128_d0

/-- Rows moved up by 64, at an entry. -/
theorem up64_at (v : G2) (k : Fin 256) (j : Fin 128) : up64 v (ix2 k j) = v (ix2 ⟨(k.val + 64) % 256, Nat.mod_lt _ (by decide)⟩ j) := by
  pointwise [up64]
  exact pick_up 64 192 rfl (fun r => v (ix2 r j)) k _ _

/-- After the first `s` stages, row `k` at lane `j` is the row down by the lane's low `s` bits. -/
def Unskew (X v : G2) (s : ℕ) : Prop :=
  ∀ (k : Fin 256) (j : Fin 128), v (ix2 k j) = X (ix2 ⟨(k.val + j.val % 2 ^ s) % 256, Nat.mod_lt _ (by decide)⟩ j)

/-- One stage of putting the gradient back. -/
theorem Unskew.stage {X v r : G2} (s : Fin 7) (h : Unskew X v s.val) (hr : ∀ (k : Fin 256) (j : Fin 128), r (ix2 k j) = v (ix2 ⟨(k.val + 2 ^ s.val) % 256, Nat.mod_lt _ (by decide)⟩ j)) :
    Unskew X (bit2 (BitVec.ofNat 32 s.val) r v) (s.val + 1) := by
  intro k j
  have hk := k.isLt
  have hs : j.val % 2 ^ (s.val + 1) = j.val % 2 ^ s.val + 2 ^ s.val * (j.val / 2 ^ s.val % 2) := by rw [pow_succ, Nat.mod_mul]
  rw [bit2_at]
  by_cases hb : j.val / 2 ^ s.val % 2 = 1
  · rw [hb] at hs
    rw [if_pos hb, hr, h]
    refine congrArg (fun r => X (ix2 r j)) (Fin.ext ?_)
    show ((k.val + 2 ^ s.val) % 256 + j.val % 2 ^ s.val) % 256 = (k.val + j.val % 2 ^ (s.val + 1)) % 256
    omega
  · have h0 : j.val / 2 ^ s.val % 2 = 0 := by omega
    rw [h0] at hs
    rw [if_neg hb, h]
    refine congrArg (fun r => X (ix2 r j)) (Fin.ext ?_)
    show (k.val + j.val % 2 ^ s.val) % 256 = (k.val + j.val % 2 ^ (s.val + 1)) % 256
    omega

/-- The mean over the batches, on the diagonals. -/
def meaned (G : FVec Ideal S256x8x128 .f32) : G2 := divf (k0_pay82 G) (broadcast S256x128 (Scalar.ofBits .f32 0x41000000#32))

/-- The mean over the batches. -/
theorem meaned_at (G : FVec Ideal S256x8x128 .f32) (k : Fin 256) (j : Fin 128) : meaned G (ix2 k j) = Ideal.div (∑ b : Fin 8, G (ix3 k b j)) (Ideal.ofBits .f32 0x41000000#32) := by
  pointwise [meaned, k0_pay82]

/-- All the stages. -/
def unrolled (v : G2) : G2 :=
  let v1 := bit2 0#32 (up1 v) v; let v2 := bit2 1#32 (up2 v1) v1; let v3 := bit2 2#32 (up4 v2) v2; let v4 := bit2 3#32 (up8 v3) v3
  let v5 := bit2 4#32 (up16 v4) v4; let v6 := bit2 5#32 (up32 v5) v5; bit2 6#32 (up64 v6) v6

/-- Seven stages undo the skew in full. -/
theorem unrolled_all (X : G2) : Unskew X (unrolled X) 7 := by
  have h0 : Unskew X X 0 := fun k j => by
    refine congrArg (fun r => X (ix2 r j)) (Fin.ext ?_)
    show k.val = (k.val + j.val % 1) % 256
    omega
  have h1 := h0.stage 0 (up1_at _)
  have h2 := h1.stage 1 (up2_at _)
  have h3 := h2.stage 2 (up4_at _)
  have h4 := h3.stage 3 (up8_at _)
  have h5 := h4.stage 4 (up16_at _)
  have h6 := h5.stage 5 (up32_at _)
  exact h6.stage 6 (up64_at _)

/-- The result is the first 128 rows of the unskewed means. -/
theorem unskew_eq (G : FVec Ideal S256x8x128 .f32) : unskew G = extractStridedSlice S128x128 ![0, 0] (unrolled (meaned G)) slices_S256x128_o0_0_S128x128 := rfl

/-- The output block at a row and a lane. -/
theorem unskew_at (G : FVec Ideal S256x8x128 .f32) (i j : Fin 128) : unskew G (ix2 i j) = Ideal.div (∑ b : Fin 8, G (ix3 ⟨i.val + j.val, by omega⟩ b j)) (Ideal.ofBits .f32 0x41000000#32) := by
  rw [unskew_eq]
  have e : extractStridedSlice S128x128 ![0, 0] (unrolled (meaned G)) slices_S256x128_o0_0_S128x128 (ix2 i j) = unrolled (meaned G) (ix2 ⟨i.val, by omega⟩ j) := by
    generalize unrolled (meaned G) = v
    pointwise []
  rw [e, unrolled_all (meaned G), meaned_at]
  have hi : (i.val + j.val % 2 ^ 7) % 256 = i.val + j.val := by omega
  simp only [hi]

end Cert.KernelIdeal.Val
-- ==== Proof.KVVal.lean ====
/- What the kernel body stores, as a function of its input block. -/
module

public import proofs.«01_k».proof.Proof.KVBody
public import proofs.«01_k».proof.Proof.KVFwd2
public import proofs.«01_k».proof.Proof.KVBwd
public import proofs.«01_k».proof.Proof.KVSkew

@[expose] public section

set_option maxRecDepth 16384
set_option maxHeartbeats 1000000

noncomputable section

namespace Cert.KernelIdeal.Val

open Cert.KernelIdeal Cert.KernelIdeal.Gen
open Idealize.ShloMosaic
open Cert.KernelIdeal.Lane (LL sh sl)

/-- The two names of the lane index are one. -/
theorem lane_eq : lane = Lane.lane := rfl

/-- The first loop makes 254 trips. -/
theorem trips1_eq : Scf.trips k0_t1_loop.lb k0_t1_loop.ub k0_t1_loop.st = 254 := by decide +kernel
/-- The second loop makes 254 trips. -/
theorem trips2_eq : Scf.trips k0_t2_loop.lb k0_t2_loop.ub k0_t2_loop.st = 254 := by decide +kernel
/-- The first loop has its 254 trips. -/
theorem trips1_le : 254 ≤ k0_t1_loop.trips := by decide +kernel
/-- The second loop has its 254 trips. -/
theorem trips2_le : 254 ≤ k0_t2_loop.trips := by decide +kernel

/-- A whole block stored, read back. -/
theorem whole_at (M : Memref sig .tc .vmem S128x8x128 .f32) (f : M.view.ty.Contents (Elt Ideal)) (off : Fin 3 → ℕ) (hoff : off = ![0, 0, 0])
    (inb : ∀ a, off a + S128x8x128.size a ≤ S128x8x128.size a) (v : FVec Ideal S128x8x128 .f32) (k : Fin 128) (b : Fin 8) (j : Fin 128) :
    M.view.read (Elt Ideal) (M.view.writes (Elt Ideal) f [⟨Rect.unit (s := S128x8x128) off S128x8x128.size inb, v⟩]) (ix3 k b j) = v (ix3 k b j) := by
  refine View.read_writes_cons_unit_of_mem (s := S128x8x128) (size := S128x8x128.size) M.view f inb v [] (ix3 k b j) (ix3 k b j) hoff fun a => ?_
  match a with
  | ⟨0, _⟩ => exact (Nat.zero_add _).symm
  | ⟨1, _⟩ => exact (Nat.zero_add _).symm
  | ⟨2, _⟩ => exact (Nat.zero_add _).symm

/-- A skewed input stored, read back. -/
theorem stored_at (c : Dev nD) (M : Memref sig .tc .vmem S128x8x128 .f32) (v : FVec Ideal S128x8x128 .f32) (k : Fin 128) (b : Fin 8) (j : Fin 128) :
    M.view.read (Elt Ideal) (stored c M v) (ix3 k b j) = v (ix3 k b j) :=
  whole_at M _ _ rfl _ v k b j

/-- The first row of the first skewed input. -/
theorem topRow_at (c : Dev nD) (X : X3) (b : Fin 8) (j : Fin 128) : topRow X (ix3 0 b j) = skew0 X (ix3 0 b j) := by
  refine (row_at (n := 128) (Memref.whole cc0_scratch0) (stored c (Memref.whole cc0_scratch0) (skew0 X)) ![0, 0, 0] 0 (by decide) rfl inb_S128x8x128_S1x8x128_0_0_0 b j).trans ?_
  exact stored_at c _ _ _ b j

/-- What the forward loop starts from is the first diagonal. -/
theorem inv1_start (c : Dev nD) (X : X3) (w : Wts c) : Inv1 c (TT X) 0 (acc0 X, w) := by
  have ht : ∀ b : Fin 8, topRow X (ix3 0 b 0) = TT X b 0 0 := fun b => (topRow_at c X b 0).trans (skew0_at X 0 b 0)
  have hr : ∀ (M : Memref sig .tc .vmem S256x8x128 .f32) (f : SB c M) (g : Fin 8 → ℕ → ℕ → EReal), Rows c M f g 0 := fun M f g r b j h1 h2 => absurd (h1.trans h2) (by decide)
  have hK : ∀ b : Fin 8, (KP (TT X b) 0).1 = fun j => if j = 0 then topRow X (ix3 0 b 0) else ⊤ := fun b => by rw [ht]; rfl
  have hd : ∀ (a j : ℕ) (b : Fin 8), sh a (KP (TT X b) 0).2 j = ⊤ := fun a j b => by
    show (if j < a then (⊤ : EReal) else ⊤) = ⊤
    exact ite_self _
  refine ⟨fun b j => ?_, fun b j => ?_, fun b j => ?_, fun b j => ?_, fun b j => ?_, fun b j => ?_, fun b j => ?_, fun b j => ?_, fun b j => ?_, fun b j => ?_,
    hr _ _ _, hr _ _ _, hr _ _ _, hr _ _ _, hr _ _ _, hr _ _ _, hr _ _ _, hr _ _ _, hr _ _ _, hr _ _ _, hr _ _ _, hr _ _ _⟩
  · beta_reduce; rw [hK]; exact Lane.pay54_at _ b j
  · beta_reduce; rw [hK]; exact Lane.pay55_at _ b j
  · beta_reduce; rw [hK]; exact Lane.pay56_at _ b j
  · beta_reduce; rw [hK]; exact Lane.pay57_at _ b j
  · beta_reduce; rw [hK]; exact Lane.pay58_at _ b j
  · exact (Lane.pay59_at b j).trans (hd _ _ _).symm
  · exact (Lane.pay60_at b j).trans (hd _ _ _).symm
  · exact (Lane.pay61_at b j).trans (hd _ _ _).symm
  · exact (Lane.pay62_at b j).trans (hd _ _ _).symm
  · exact Lane.pay63_at b j

/-- After the forward loop the weight buffers hold the weights of every diagonal. -/
theorem fwd_inv (c : Dev nD) (X : X3) (hT : ∀ b k j, TT X b k j ≠ ⊥) (w : Wts c) : Inv1 c (TT X) 254 (fwd c X w) := by
  unfold fwd
  rw [trips1_eq]
  exact inv1_all c (TT X) (fun b k j => TT_per X b k j) hT _ _ _ _ (fun k b j => (stored_at c _ _ k b j).trans (skew0_at X k b j)) (fun k b j => (stored_at c _ _ k b j).trans (skew1_at X k b j))
    (fun k b j => (stored_at c _ _ k b j).trans (skew2_at X k b j)) (fun k b j => (stored_at c _ _ k b j).trans (skew3_at X k b j)) _ (inv1_start c X w) 254 trips1_le

/-- A weight buffer with its last row replaced still holds the rows before it. -/
theorem Rows.last {c : Dev nD} {M : Memref sig .tc .vmem S256x8x128 .f32} {f : SB c M} {g : Fin 8 → ℕ → ℕ → EReal} (h : Rows c M f g 254) (v : FVec Ideal S1x8x128 .f32) :
    Rows c M (lastRow c M f v) g 254 := by
  intro r b j h1 h2
  rw [put_at M f _ 255 rfl, if_neg (by omega)]
  exact h r b j h1 h2

/-- What the backward loop starts from is the last diagonal. -/
theorem inv2_start (c : Dev nD) (A B C : Fin 8 → ℕ → ℕ → EReal) (s : SB c (Memref.whole cc0_scratch16)) : Inv2 c A B C 0 (acc2, seeded c _ s (k0_pay71 lane)) := by
  have hd : ∀ (a j : ℕ) (b : Fin 8), sl a (EB (A b) (B b) (C b) 0).2 j = 0 := fun a j b => by
    show (if j + a < 128 then (0 : EReal) else 0) = 0
    exact ite_self _
  refine ⟨fun b j => ?_, fun b j => ?_, fun b j => ?_, fun b j => ?_, fun b j => ?_, fun b j => ?_, fun b j => ?_, fun b j => ?_, fun b j => ?_, fun r b j h1 h2 => ?_⟩
  · exact Lane.pay72_at b j
  · exact Lane.pay73_at b j
  · exact Lane.pay74_at b j
  · exact Lane.pay75_at b j
  · exact Lane.pay76_at b j
  · exact (Lane.pay77_at b j).trans (hd _ _ _).symm
  · exact (Lane.pay78_at b j).trans (hd _ _ _).symm
  · exact (Lane.pay79_at b j).trans (hd _ _ _).symm
  · exact (Lane.pay80_at b j).trans (hd _ _ _).symm
  · have hr : r.val = 254 := by omega
    rw [put_at _ s _ 254 rfl, if_pos hr, hr]
    exact Lane.pay71_at b j

/-- The gradient of batch `b` on diagonal `k`, at lane `j`. -/
def GG (X : X3) (b : Fin 8) (k j : ℕ) : EReal := (EB (qA (TT X b)) (qB (TT X b)) (qC (TT X b)) (254 - k)).1 j

/-- The gradient buffer after the two loops, row by row. -/
theorem grads_at (c : Dev nD) (X : X3) (hT : ∀ b k j, TT X b k j ≠ ⊥) (w : Wts c) (s : SB c (Memref.whole cc0_scratch16)) (r : Fin 256) (hr : r.val ≤ 254) (b : Fin 8) (j : Fin 128) :
    grads c X w s (ix3 r b j) = GG X b r.val j.val := by
  have hf := fwd_inv c X hT w
  have e : grads c X w s (ix3 r b j) = (Memref.whole cc0_scratch16).view.read (Elt Ideal) (bwd c (fwd c X w).2 s) (ix3 r b j) := by
    unfold grads
    generalize bwd c (fwd c X w).2 s = G
    rw [View.readAt_eq_ld]
    refine View.ld_unit_apply_of _ _ _ _ _ _ fun a => ?_
    match a with
    | ⟨0, _⟩ => exact (Nat.zero_add _).symm
    | ⟨1, _⟩ => exact (Nat.zero_add _).symm
    | ⟨2, _⟩ => exact (Nat.zero_add _).symm
  rw [e]
  unfold bwd
  rw [trips2_eq]
  refine (inv2_all c (fun b => qA (TT X b)) (fun b => qB (TT X b)) (fun b => qC (TT X b)) _ _ _ _ _ _ _ _ _ _ _ _ hf.a0 hf.a1 hf.a2 hf.a3 (hf.b0.last _) (hf.b1.last _) (hf.b2.last _) (hf.b3.last _) hf.c0 hf.c1 hf.c2 hf.c3
    _ (inv2_start c _ _ _ s) 254 trips2_le).g r b j (by omega) hr

/-- The output block: the mean over the batches of the gradient. -/
def outBlk (X : X3) : FVec Ideal S128x128 .f32 := fun p => Ideal.div (∑ b : Fin 8, GG X b ((p 0).val + (p 1).val) (p 1).val) (Ideal.ofBits .f32 0x41000000#32)

/-- The stored block is the mean of the gradients, in the argument's rows. -/
theorem unskew_grads (c : Dev nD) (X : X3) (hT : ∀ b k j, TT X b k j ≠ ⊥) (w : Wts c) (s : SB c (Memref.whole cc0_scratch16)) : unskew (grads c X w s) = outBlk X := by
  funext p
  have hp : p = ix2 (p 0) (p 1) := by
    funext a
    match a with
    | ⟨0, _⟩ => rfl
    | ⟨1, _⟩ => rfl
  have h0 : (p 0).val < 128 := (p 0).isLt
  have h1 : (p 1).val < 128 := (p 1).isLt
  have e := unskew_at (grads c X w s) (p 0) (p 1)
  refine (congrArg (unskew (grads c X w s)) hp).trans (e.trans ?_)
  unfold outBlk
  refine congrArg (Ideal.div · _) (Finset.sum_congr rfl fun b _ => ?_)
  exact grads_at c X hT w s _ (by show (p 0).val + (p 1).val ≤ 254; omega) b (p 1)

end Cert.KernelIdeal.Val
-- ==== Proof.KVRun.lean ====
/- The kernel's run: every weakly fair execution of @main ends with the result at the mean of the gradients. -/
module

public import proofs.«01_k».proof.Proof.KVVal
public import proofs.«01_k».proof.Proof.Gen.KernelIdeal.Frame
public import Idealize.ShloMosaic.Lib.Pipeline.Value
public import Idealize.ShloMosaic.Lib.StableHlo.RunRead

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-- The resource algebra of the pipeline's frame runs. -/
local notation "𝕄" => MT nD τ sig Unit (Elt Ideal) ℕ (UR sig nD τ) ℕ

variable (m : (ℓ : Loc nD τ sig) → Buf (Elt Ideal) ℓ) (ρ : Dev nD → PrngReg)

/-- The input block: the argument with its first two axes exchanged. -/
def XX (c : Dev nD) : X3 := transpose S128x8x128 [1, 0, 2] (m ((c : Thread nD τ).loc main_arg0)) transposes_S8x128x128_S128x8x128_1_0_2

/-- The array the pipeline reads is the transposed argument. -/
theorem V_call0 (c : Dev nD) : V m c main_call0_v0 = XX m c := by
  unfold V XX
  after_reads_simp
  rfl

/-- The one block of the input window is the whole array. -/
theorem iblk_eq (c : Dev nD) (t : Fin cfg0.N) : (iblk m c 0 t : FVec Ideal S128x8x128 .f32) = XX m c := by
  have hi : win0_0.index t 0 = 0 ∧ win0_0.index t 1 = 0 ∧ win0_0.index t 2 = 0 := by
    obtain rfl : t = t0_0 := Subsingleton.elim (α := Fin 1) _ _
    decide
  rw [← V_call0]
  funext j
  unfold iblk
  rw [View.read_apply]
  show V m c main_call0_v0 _ = V m c main_call0_v0 _
  congr 1
  funext a
  apply Fin.ext
  match a with
  | ⟨0, _⟩ => show win0_0.index t 0 * 128 + 1 * (j 0).val = (j 0).val; rw [hi.1]; omega
  | ⟨1, _⟩ => show win0_0.index t 1 * 8 + 1 * (j 1).val = (j 1).val; rw [hi.2.1]; omega
  | ⟨2, _⟩ => show win0_0.index t 2 * 128 + 1 * (j 2).val = (j 2).val; rw [hi.2.2]; omega

/-- The input block as the body loads it. -/
theorem inBlk_eq (c : Dev nD) (M0 : Memref sig .tc .vmem S128x8x128 .f32) (f0 : Bf c M0) : inBlk c M0 f0 = M0.view.read (Elt Ideal) f0 := by
  funext p
  unfold inBlk
  rw [View.readAt_eq_ld]
  refine View.ld_unit_apply_of _ _ _ _ _ _ fun a => ?_
  match a with
  | ⟨0, _⟩ => exact (Nat.zero_add _).symm
  | ⟨1, _⟩ => exact (Nat.zero_add _).symm
  | ⟨2, _⟩ => exact (Nat.zero_add _).symm

/-- A whole output block stored, read back. -/
theorem outRead (M : Memref sig .tc .vmem S128x128 .f32) (f : M.view.ty.Contents (Elt Ideal)) (off : Fin 2 → ℕ) (hoff : off = ![0, 0])
    (inb : ∀ a, off a + S128x128.size a ≤ S128x128.size a) (v : FVec Ideal S128x128 .f32) :
    M.view.read (Elt Ideal) (M.view.writes (Elt Ideal) f [⟨Rect.unit (s := S128x128) off S128x128.size inb, v⟩]) = v := by
  funext p
  refine View.read_writes_cons_unit_of_mem (s := S128x128) (size := S128x128.size) M.view f inb v [] p p hoff fun a => ?_
  match a with
  | ⟨0, _⟩ => exact (Nat.zero_add _).symm
  | ⟨1, _⟩ => exact (Nat.zero_add _).symm

/-- What the body leaves in the output block. -/
theorem out_at (c : Dev nD) (M0 : Memref sig .tc .vmem S128x8x128 .f32) (f0 : Bf c M0) (M1 : Memref sig .tc .vmem S128x128 .f32) (X : X3) (hX : M0.view.read (Elt Ideal) f0 = X)
    (hT : ∀ b k j, TT X b k j ≠ ⊥) (s4 : SB c (Memref.whole cc0_scratch4)) (s5 : SB c (Memref.whole cc0_scratch5)) (s6 : SB c (Memref.whole cc0_scratch6)) (s7 : SB c (Memref.whole cc0_scratch7)) (s8 : SB c (Memref.whole cc0_scratch8)) (s9 : SB c (Memref.whole cc0_scratch9)) (s10 : SB c (Memref.whole cc0_scratch10)) (s11 : SB c (Memref.whole cc0_scratch11)) (s12 : SB c (Memref.whole cc0_scratch12)) (s13 : SB c (Memref.whole cc0_scratch13)) (s14 : SB c (Memref.whole cc0_scratch14)) (s15 : SB c (Memref.whole cc0_scratch15)) (s16 : SB c (Memref.whole cc0_scratch16)) :
    M1.view.read (Elt Ideal) (M1.view.writes (Elt Ideal) M1.view.junk (bodyRun.sl.H1_1 c M0 f0 s4 s5 s6 s7 s8 s9 s10 s11 s12 s13 s14 s15 s16)) = outBlk X := by
  rw [out_words, inBlk_eq, hX, unskew_grads c X hT]
  exact outRead M1 _ _ rfl _ _

/-- The proof data: the input's buffer keeps its block, the output's ends at the mean of the gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => outBlk (XX m c)
  Φ _ := Pipeline.ΦA spec0 c
  q _ := fullShare
  owed _ := 0

/-- A window's array is what the launch holds. -/
theorem A_eq (c : Dev nD) (w : Fin cfg0.W) : (dats m 0 c).A w = V m c (Pipeline.arrRef spec0 w) := rfl
/-- The input block after the body. -/
theorem after0_0 (c : Dev nD) (t : Fin cfg0.N) : (dats m 0 c).after 0 t = iblk m c 0 t := by dsimp only [dats]
/-- The output block after the body. -/
theorem after0_1 (c : Dev nD) (t : Fin cfg0.N) : (dats m 0 c).after 1 t = outBlk (XX m c) := by dsimp only [dats]

/-- The input's staging buffer holds its block when the body runs. -/
theorem before0_0 (c : Dev nD) (t : Fin cfg0.N) (d) : (dats m 0 c).before 0 t d = iblk m c 0 t :=
  before0_0_of m (dats m 0 c) (A_eq m c 0) (after0_0 m c) t d

/-- The body obligation: `kernelRun` at the staging memrefs and the scratch buffers. -/
theorem body_obligation (hT : ∀ c b k j, TT (XX m c) b k j ≠ ⊥) (c : Dev nD) : BodyObligation (dats m 0 c) (defs₀ (F := Ideal)) Variants.none () Set.univ := fun t => by
  rw [bigSep_W0, bigSep_W0]
  rw [show (cfg0.win 0).stage (cfg0.slots t 0) = stage0_0 0 from congrArg (cfg0.win 0).stage (Subsingleton.elim (α := Fin 1) (cfg0.slots t 0) 0),
    show (cfg0.win 1).stage (cfg0.slots t 1) = stage0_1 0 from congrArg (cfg0.win 1).stage (Subsingleton.elim (α := Fin 1) (cfg0.slots t 1) 0)]
  sl_whnfR [defs₀, Defs.onTc]
  simp only [before0_0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1]
  unfold Pipeline.ΦA owns
  rw [scopedRest0_eq, (hstage0_0 0).set_eq_univ, (hstage0_1 0).set_eq_univ]
  iintro ⟨⟨⟨⟨%s0, K0⟩, ⟨%s1, K1⟩, ⟨%s2, K2⟩, ⟨%s3, K3⟩, ⟨%s4, K4⟩, ⟨%s5, K5⟩, ⟨%s6, K6⟩, ⟨%s7, K7⟩, ⟨%s8, K8⟩, ⟨%s9, K9⟩, ⟨%s10, K10⟩, ⟨%s11, K11⟩, ⟨%s12, K12⟩, ⟨%s13, K13⟩, ⟨%s14, K14⟩, ⟨%s15, K15⟩, ⟨%s16, K16⟩⟩, Hr⟩, Ho, ⟨%d0, %f0, %hf0, H0⟩, ⟨%d1, %f1, -, H1⟩⟩
  iapply (kernelRun c (stage0_0 0) (hstage0_0 0) (stage0_1 0) (hstage0_1 0) f0 f1 s0 s1 s2 s3 s4 s5 s6 s7 s8 s9 s10 s11 s12 s13 s14 s15 s16 _)
  isplitl [H0]; · iexact H0
  isplitl [H1]; · iexact H1
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  isplitl [K15]; · iexact K15
  isplitl [K16]; · iexact K16
  iintro ⟨H0, H1, K0, K1, K2, K3, K4, K5, K6, K7, K8, K9, K10, K11, K12, K13, K14, K15, K16⟩
  isplitl [K0 K1 K2 K3 K4 K5 K6 K7 K8 K9 K10 K11 K12 K13 K14 K15 K16 Hr]
  · isplitr [Hr]; swap; · iexact Hr
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    isplitl [K15]; · iexact K15
    iexact K16
  isplitl [Ho]; · iexact Ho
  isplitl [H0]
  · iexists f0; isplitr; · ipureintro; exact hf0
    iexact H0
  iexists _; isplitr; swap; · iexact H1
  ipureintro
  exact out_at c (stage0_0 0) f0 (stage0_1 0) (XX m c) (hf0.trans (iblk_eq m c t)) (hT c) s4 s5 s6 s7 s8 s9 s10 s11 s12 s13 s14 s15 s16

/-- The result array is the output block. -/
theorem flushed_eq (c : Dev nD) (t : Fin cfg0.N) (hf : (cfg0.win 1).flush t = true) : (dats m 0 c).flushed 1 t = ((cfg0.win 1).blk t).view.read (Elt Ideal) (outBlk (XX m c)) := by
  obtain rfl : t = t0_0 := Subsingleton.elim (α := Fin 1) _ _
  show (cfg0.win 1).cut (grid0.coords t0_0) ((dats m 0 c).after 1 t0_0) = _
  rw [after0_1]
  have hz' : (fun a => win0_1.index t0_0 a * main_v0.ty.shape.size a) = fun _ => 0 := funext fun a => by fin_cases a <;> decide
  exact (Memref.read_access_unit_zero (Elt Ideal) main_v0 hz' (fun a => by rw [congrFun hz' a]; simp) (outBlk (XX m c))).symm

/-- The result array at the end. -/
theorem final_o (c : Dev nD) : (dats m 0 c).arrAt 1 cfg0.N = outBlk (XX m c) :=
  (dats m 0 c).arrAt_eq_of_cover 1 (outBlk (XX m c)) (flushed_eq m c) fun i =>
    ⟨t0_0, flush0_1 t0_0, by
      show i ∈ ((View.whole main_v0).slice (win0_1.rect t0_0)).set
      rw [View.set_slice_whole, Rect.mem_set_unit]
      intro a
      have h0 : (i 0 : Nat) < 128 := (i 0).isLt
      have h1 : (i 1 : Nat) < 128 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 128 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 128 from by decide +kernel]; omega⟩

set_option backward.isDefEq.respectTransparency.types false in
/-- Every weakly fair execution of @main ends as the pipeline's proof data say. -/
theorem run_main (hT : ∀ c b k j, TT (XX m c) b k j ≠ ⊥) : θ_run defs (onTc (τ := τ) (main (F := Ideal))) ⟨m, fun _ => 0, ρ⟩
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m hT c).loose) (hshare := fun c => (dats m 0 c).share_full fun _ => rfl)
    (howed := fun _ _ => rfl) (V := V m) (hmain := hmain m Variants.none) (hA := fun _ _ => rfl) (hΦ := fun _ _ => rfl)

/-- The result at the mean of the gradients, the argument unchanged. -/
theorem run (hT : ∀ c b k j, TT (XX m c) b k j ≠ ⊥) : θ_run defs (onTc (τ := τ) (main (F := Ideal))) ⟨m, fun _ => 0, ρ⟩ fun r => ∀ c : Dev nD,
      r.2.mem ((c.tc : Thread nD τ).loc main_v0) = outBlk (XX m c)
      ∧ r.2.mem ((c.tc : Thread nD τ).loc main_arg0) = m ((c.tc : Thread nD τ).loc main_arg0) :=
  (θ_run defs _ _).mono (fun _ h c => ⟨((h.1 c).1 1).trans (final_o m c), ((h.1 c).2 main_arg0 (Pipeline.mem_restRefs_of main_arg0 (by decide) (by decide))).trans (V_main_arg0 m c)⟩)
    (run_main m ρ hT)

end Cert.KernelIdeal.Val

end
-- ==== Proof.RVModel.lean ====
/- The reference's recursions as functions of the row and the column, over the extended reals. -/
module

public import Idealize.ShloMosaic.PureOps
public import Idealize.ShloMosaic.Lib.Pointwise

@[expose] public section

noncomputable section

namespace Cert.SoftDtw

open Idealize.ShloMosaic

/-- A neighbour's value, negated and divided by the smoothing parameter one. -/
def ng (x : EReal) : EReal := Ideal.div (-x) 1

/-- The largest of the three negated neighbours: left, diagonal, up. -/
def rm (l d u : EReal) : EReal := max (max (ng l) (ng d)) (ng u)

/-- The weight of the neighbour `x`, before it is divided by the sum of the three. -/
def rwt (l d u x : EReal) : EReal := Ideal.exp (ng x - rm l d u)

/-- The sum of the three weights. -/
def rz (l d u : EReal) : EReal := rwt l d u l + rwt l d u d + rwt l d u u

/-- A cell's value, from its distance and its three neighbours. -/
def rcell (t l d u : EReal) : EReal := t + (-1) * (Ideal.log (rz l d u) + rm l d u)

/-- The weight of the neighbour `x`. -/
def rq (l d u x : EReal) : EReal := Ideal.div (rwt l d u x) (rz l d u)

/-- The values: row and column zero are the border. -/
def RV (d : ℕ → ℕ → EReal) : ℕ → ℕ → EReal
  | 0, 0 => 0
  | 0, _ + 1 => ⊤
  | _ + 1, 0 => ⊤
  | r + 1, s + 1 => rcell (d r s) (RV d (r + 1) s) (RV d r s) (RV d r (s + 1))

/-- A cell's three neighbours. -/
def rL (d : ℕ → ℕ → EReal) (r s : ℕ) : EReal := RV d r (s - 1)
/-- The diagonal neighbour. -/
def rD (d : ℕ → ℕ → EReal) (r s : ℕ) : EReal := RV d (r - 1) (s - 1)
/-- The upper neighbour. -/
def rU (d : ℕ → ℕ → EReal) (r s : ℕ) : EReal := RV d (r - 1) s

/-- The weights of the cells, zero off the square. -/
def RQ (d x : ℕ → ℕ → EReal) (r s : ℕ) : EReal :=
  if (1 ≤ r ∧ r ≤ 128) ∧ (1 ≤ s ∧ s ≤ 128) then rq (rL d r s) (rD d r s) (rU d r s) (x r s) else 0

/-- An array with its far corner set to one. -/
def RS (q : ℕ → ℕ → EReal) (r s : ℕ) : EReal := if r = 129 ∧ s = 129 then 1 else q r s

/-- The gradients, row and column counted from the far corner. -/
def RE (A B C : ℕ → ℕ → EReal) : ℕ → ℕ → EReal
  | 0, 0 => 1
  | 0, _ + 1 => 0
  | _ + 1, 0 => 0
  | r + 1, s + 1 => A (128 - r) (129 - s) * RE A B C (r + 1) s + B (129 - r) (129 - s) * RE A B C r s + C (129 - r) (128 - s) * RE A B C r (s + 1)

end Cert.SoftDtw
-- ==== Proof.RVBridge.lean ====
/- The kernel's recursion along the diagonals in base two is the reference's recursion along the rows in base e. -/
module

public import proofs.«01_k».proof.Proof.KVBwd
public import proofs.«01_k».proof.Proof.RVModel

@[expose] public section

set_option maxHeartbeats 1000000

noncomputable section

namespace Cert.SoftDtw

open Idealize.ShloMosaic
open Cert.KernelIdeal.Lane (LL mn wt zz cell sh sl)
open Cert.KernelIdeal.Val (KP nbL nbD nbU qw qA qB qC EB cell_top)

/-- The logarithm of two is positive. -/
theorem log2_pos : (0 : ℝ) < Real.log 2 := Real.log_pos (by norm_num)
/-- So is its reciprocal. -/
theorem linv_pos : (0 : ℝ) < (Real.log 2)⁻¹ := inv_pos.mpr log2_pos

/-- Scaling keeps plus infinity. -/
theorem LL_top : LL * ⊤ = ⊤ := EReal.coe_mul_top_of_pos linv_pos

/-- Dividing by one changes nothing. -/
theorem ng_eq (x : EReal) : ng x = -x := by
  unfold ng Ideal.div
  rw [if_neg one_ne_zero, inv_one, mul_one]

/-- The real weight of a neighbour against the least, `m`. -/
def wr (m : ℝ) (x : EReal) : ℝ := if x = ⊤ then 0 else Real.exp (m - x.toReal)

/-- A weight is not negative. -/
theorem wr_nonneg (m : ℝ) (x : EReal) : 0 ≤ wr m x := by
  unfold wr
  split
  · exact le_rfl
  · exact (Real.exp_pos _).le

/-- A neighbour's weight in base e. -/
theorem exp_wr (m : ℝ) (x : EReal) (hx : x ≠ ⊥) : Ideal.exp (-x - -(m : EReal)) = (wr m x : EReal) := by
  induction x with
  | bot => exact absurd rfl hx
  | top =>
    have e : (-⊤ - -(m : EReal)) = ⊥ := by rw [← EReal.coe_neg]; rfl
    rw [e, wr, if_pos rfl]
    rfl
  | coe x =>
    have e : (-(x : EReal) - -(m : EReal)) = ((m - x : ℝ) : EReal) := by
      rw [← EReal.coe_neg, ← EReal.coe_neg, ← EReal.coe_sub]
      congr 1
      ring
    rw [e, wr, if_neg (EReal.coe_ne_top x), EReal.toReal_coe]
    rfl

/-- The same weight in base two. -/
theorem exp2_wr (m : ℝ) (x : EReal) (hx : x ≠ ⊥) : Ideal.exp2 (LL * (m : EReal) - LL * x) = (wr m x : EReal) := by
  induction x with
  | bot => exact absurd rfl hx
  | top =>
    have e : LL * (m : EReal) - LL * ⊤ = ⊥ := by rw [LL_top, LL, ← EReal.coe_mul]; rfl
    rw [e, wr, if_pos rfl]
    rfl
  | coe x =>
    have e : LL * (m : EReal) - LL * (x : EReal) = (((Real.log 2)⁻¹ * m - (Real.log 2)⁻¹ * x : ℝ) : EReal) := by
      rw [LL, ← EReal.coe_mul, ← EReal.coe_mul, ← EReal.coe_sub]
    rw [e, wr, if_neg (EReal.coe_ne_top x), EReal.toReal_coe]
    refine congrArg (fun y : ℝ => (y : EReal)) ?_
    show (2 : ℝ) ^ ((Real.log 2)⁻¹ * m - (Real.log 2)⁻¹ * x) = _
    rw [Real.rpow_def_of_pos (by norm_num)]
    congr 1
    field_simp

/-- Negation turns the largest into the least. -/
theorem rm_eq (l d u : EReal) : rm l d u = -mn l d u := by
  unfold rm mn
  rw [ng_eq, ng_eq, ng_eq, EReal.max_neg_neg, EReal.max_neg_neg]

/-- Scaling goes through a minimum. -/
theorem LL_min (a b : EReal) : min (LL * a) (LL * b) = LL * min a b := by
  have hm : Monotone fun x : EReal => LL * x := fun x y h => mul_le_mul_of_nonneg_left h (EReal.coe_nonneg.mpr linv_pos.le)
  exact (hm.map_min).symm

/-- Scaling goes through the least of three. -/
theorem mn_LL (l d u : EReal) : mn (LL * l) (LL * d) (LL * u) = LL * mn l d u := by
  unfold mn
  rw [LL_min, LL_min]

/-- The least of three is one of them. -/
theorem mn_mem (l d u : EReal) : mn l d u = l ∨ mn l d u = d ∨ mn l d u = u := by
  unfold mn
  rcases min_choice (min l d) u with h | h
  · rcases min_choice l d with h' | h'
    · left; rw [h, h']
    · right; left; rw [h, h']
  · right; right; exact h

/-- Three neighbours of which none is `-∞` and one is finite. -/
structure Nbs (l d u : EReal) : Prop where
  hl : l ≠ ⊥
  hd : d ≠ ⊥
  hu : u ≠ ⊥
  some : ∃ m : ℝ, mn l d u = m

section cells
variable {l d u : EReal}

/-- The reference's weight is the real weight. -/
theorem rwt_eq {m : ℝ} (hm : mn l d u = m) (x : EReal) (hx : x ≠ ⊥) : rwt l d u x = (wr m x : EReal) := by
  rw [rwt, rm_eq, hm, ng_eq, exp_wr m x hx]

/-- The kernel's weight of scaled neighbours is the same real weight. -/
theorem wt_eq {m : ℝ} (hm : mn l d u = m) (x : EReal) (hx : x ≠ ⊥) : wt (LL * l) (LL * d) (LL * u) (LL * x) = (wr m x : EReal) := by
  rw [wt, mn_LL, hm, exp2_wr m x hx]

/-- The real sum of the weights. -/
def zr (m : ℝ) (l d u : EReal) : ℝ := wr m l + wr m d + wr m u

/-- The least neighbour has weight one. -/
theorem wr_self (m : ℝ) : wr m (m : EReal) = 1 := by
  rw [wr, if_neg (EReal.coe_ne_top m), EReal.toReal_coe, sub_self, Real.exp_zero]

/-- The sum of the weights is positive. -/
theorem zr_pos {m : ℝ} (hm : mn l d u = m) : 0 < zr m l d u := by
  have h1 := wr_nonneg m l
  have h2 := wr_nonneg m d
  have h3 := wr_nonneg m u
  have h4 := wr_self m
  unfold zr
  rcases mn_mem l d u with h | h | h <;> rw [← hm, h] at h4 <;> linarith

/-- The reference's sum of weights is the real sum. -/
theorem rz_eq (h : Nbs l d u) {m : ℝ} (hm : mn l d u = m) : rz l d u = (zr m l d u : EReal) := by
  rw [rz, rwt_eq hm l h.hl, rwt_eq hm d h.hd, rwt_eq hm u h.hu, ← EReal.coe_add, ← EReal.coe_add, zr]

/-- The kernel's sum of weights is the same real sum. -/
theorem zz_eq (h : Nbs l d u) {m : ℝ} (hm : mn l d u = m) : zz (LL * l) (LL * d) (LL * u) = (zr m l d u : EReal) := by
  rw [zz, wt_eq hm l h.hl, wt_eq hm d h.hd, wt_eq hm u h.hu, ← EReal.coe_add, ← EReal.coe_add, zr]

/-- The logarithm of a positive real number. -/
theorem log_coe {z : ℝ} (hz : 0 < z) : Ideal.log (z : EReal) = (Real.log z : EReal) :=
  (if_neg (not_le.mpr hz) : (if z ≤ 0 then (⊥ : EReal) else (Real.log z : ℝ)) = _)

/-- The reference's cell is a real number. -/
theorem rcell_eq (h : Nbs l d u) {m : ℝ} (hm : mn l d u = m) (x : ℝ) : rcell x l d u = ((x - Real.log (zr m l d u) + m : ℝ) : EReal) := by
  rw [rcell, rz_eq h hm, log_coe (zr_pos hm), rm_eq, hm, ← EReal.coe_neg, ← EReal.coe_add]
  have e1 : (-1 : EReal) = ((-1 : ℝ) : EReal) := rfl
  rw [e1, ← EReal.coe_mul, ← EReal.coe_add]
  congr 1
  ring

/-- A cell's value in base two is that in base e, scaled. -/
theorem cell_eq (h : Nbs l d u) (x : ℝ) : cell ((x : EReal) * LL) (LL * l) (LL * d) (LL * u) = LL * rcell x l d u := by
  obtain ⟨m, hm⟩ := h.some
  rw [rcell_eq h hm, cell, zz_eq h hm, log_coe (zr_pos hm), mn_LL, hm, LL, ← EReal.coe_mul, ← EReal.coe_mul, ← EReal.coe_mul, ← EReal.coe_mul, ← EReal.coe_add, ← EReal.coe_sub]
  congr 1
  ring

/-- A weight is the same in both bases. -/
theorem weight_eq (h : Nbs l d u) (x : EReal) (hx : x ≠ ⊥) :
    wt (LL * l) (LL * d) (LL * u) (LL * x) * Ideal.div 1 (zz (LL * l) (LL * d) (LL * u)) = rq l d u x := by
  obtain ⟨m, hm⟩ := h.some
  have hz : (zr m l d u : EReal) ≠ 0 := EReal.coe_ne_zero.mpr (zr_pos hm).ne'
  rw [wt_eq hm x hx, zz_eq h hm, rq, rwt_eq hm x hx, rz_eq h hm, Ideal.div, Ideal.div, if_neg hz, if_neg hz, one_mul]

end cells

/-! ## The forward recursion -/

variable (t d : ℕ → ℕ → EReal)

/-- The kernel's distances at a diagonal and a lane are the reference's at a row and a column, finite and scaled. -/
structure Dist : Prop where
  real : ∀ i j, i < 128 → j < 128 → ∃ x : ℝ, d i j = x
  scaled : ∀ i j, i < 128 → j < 128 → t (i + j) j = d i j * LL
  fin : ∀ k j, t k j ≠ ⊥

variable {t d}

/-- Lanes beyond the diagonal stay infinite. -/
theorem KP_off (h : ∀ k j, t k j ≠ ⊥) : ∀ k j, k < j → (KP t k).1 j = ⊤ ∧ (KP t k).2 j = ⊤ := by
  intro k
  induction k with
  | zero => intro j hj; exact ⟨if_neg (by omega), rfl⟩
  | succ k ih =>
    intro j hj
    refine ⟨?_, (ih j (by omega)).1⟩
    show cell (t (k + 1) j) (sh 1 (KP t k).1 j) (sh 1 (KP t k).2 j) ((KP t k).1 j) = ⊤
    have e1 : sh 1 (KP t k).1 j = ⊤ := by rw [sh, if_neg (by omega)]; exact (ih (j - 1) (by omega)).1
    have e2 : sh 1 (KP t k).2 j = ⊤ := by rw [sh, if_neg (by omega)]; exact (ih (j - 1) (by omega)).2
    rw [e1, e2, (ih j (by omega)).1]
    exact cell_top _ (h _ _)

/-- The border of the values: column zero, row zero and the corner. -/
theorem RV_top (r : ℕ) : RV d (r + 1) 0 = ⊤ := by rw [RV]
/-- Row zero is infinite. -/
theorem RV_left (s : ℕ) : RV d 0 (s + 1) = ⊤ := by rw [RV]
/-- The corner is zero. -/
theorem RV_zero : RV d 0 0 = 0 := by rw [RV]
/-- A cell inside the border. -/
theorem RV_cell (r s : ℕ) : RV d (r + 1) (s + 1) = rcell (d r s) (RV d (r + 1) s) (RV d r s) (RV d r (s + 1)) := by rw [RV]

/-- No value of the reference's is `-∞`, and the cells' values are finite. -/
theorem mn_real {l d u : EReal} (hl : l ≠ ⊥) (hd : d ≠ ⊥) (hu : u ≠ ⊥) (h : l ≠ ⊤ ∨ d ≠ ⊤ ∨ u ≠ ⊤) : Nbs l d u := by
  refine ⟨hl, hd, hu, ?_⟩
  have hb : mn l d u ≠ ⊥ := by rcases mn_mem l d u with e | e | e <;> rw [e] <;> assumption
  have ht : mn l d u ≠ ⊤ := by
    intro e
    unfold mn at e
    obtain ⟨e1, e2⟩ := min_eq_top.mp e
    obtain ⟨e3, e4⟩ := min_eq_top.mp e1
    rcases h with h | h | h <;> exact h ‹_›
  exact ⟨_, (EReal.coe_toReal ht hb).symm⟩

/-- Every cell has fit neighbours and a finite value. -/
theorem RV_ne_bot_of (hr : ∀ i j, i < 128 → j < 128 → ∃ x : ℝ, d i j = x) : ∀ n r s, r + s = n → r < 128 → s < 128 →
    Nbs (RV d (r + 1) s) (RV d r s) (RV d r (s + 1)) ∧ ∃ x : ℝ, RV d (r + 1) (s + 1) = x := by
  intro n
  induction n using Nat.strong_induction_on with
  | _ n ih =>
    intro r s hn h1 h2
    have hl : (s = 0 ∧ RV d (r + 1) s = ⊤) ∨ ∃ x : ℝ, RV d (r + 1) s = x := by
      rcases s with _ | s
      · exact Or.inl ⟨rfl, RV_top r⟩
      · exact Or.inr (ih (r + s) (by omega) r s rfl (by omega) (by omega)).2
    have hu : (r = 0 ∧ RV d r (s + 1) = ⊤) ∨ ∃ x : ℝ, RV d r (s + 1) = x := by
      rcases r with _ | r
      · exact Or.inl ⟨rfl, RV_left s⟩
      · exact Or.inr (ih (r + s) (by omega) r s rfl (by omega) (by omega)).2
    have hd : RV d r s = ⊤ ∨ ∃ x : ℝ, RV d r s = x := by
      rcases r with _ | r
      · rcases s with _ | s
        · exact Or.inr ⟨0, RV_zero⟩
        · exact Or.inl (RV_left s)
      · rcases s with _ | s
        · exact Or.inl (RV_top r)
        · exact Or.inr (ih (r + s) (by omega) r s rfl (by omega) (by omega)).2
    have nb : ∀ {P : Prop} {x : EReal}, (P ∧ x = ⊤) ∨ (∃ y : ℝ, x = y) → x ≠ ⊥ := by
      rintro P x (⟨_, h⟩ | ⟨y, h⟩) <;> rw [h]
      · exact top_ne_bot
      · exact EReal.coe_ne_bot y
    have nb' : RV d r s ≠ ⊥ := by
      rcases hd with h | ⟨y, h⟩ <;> rw [h]
      · exact top_ne_bot
      · exact EReal.coe_ne_bot y
    have H : Nbs (RV d (r + 1) s) (RV d r s) (RV d r (s + 1)) := by
      refine mn_real (nb hl) nb' (nb hu) ?_
      rcases hl with ⟨h, _⟩ | ⟨y, h⟩
      · rcases hu with ⟨h', _⟩ | ⟨y, h'⟩
        · subst h h'
          right; left
          rw [RV_zero]
          exact EReal.zero_ne_top
        · right; right
          rw [h']
          exact EReal.coe_ne_top y
      · left
        rw [h]
        exact EReal.coe_ne_top y
    refine ⟨H, ?_⟩
    obtain ⟨x, hx⟩ := hr r s h1 h2
    obtain ⟨m, hm⟩ := H.some
    exact ⟨_, by rw [RV_cell, hx, rcell_eq H hm]⟩

/-- The neighbours of a cell, of which one is finite. -/
theorem Dist.nbs (h : Dist t d) (r s : ℕ) (hr : r < 128) (hs : s < 128) : Nbs (RV d (r + 1) s) (RV d r s) (RV d r (s + 1)) := (RV_ne_bot_of h.real _ r s rfl hr hs).1

/-- The neighbours in base two, given the diagonals before. -/
theorem nbs_of (h : Dist t d) (i j : ℕ) (hi : i < 128) (hj : j < 128) (h0 : 0 < i + j)
    (ih : ∀ i' j', i' < 128 → j' < 128 → i' + j' < i + j → (KP t (i' + j')).1 j' = LL * RV d (i' + 1) (j' + 1)) :
    nbL t (i + j) j = LL * RV d (i + 1) j ∧ nbD t (i + j) j = LL * RV d i j ∧ nbU t (i + j) j = LL * RV d i (j + 1) := by
  refine ⟨?_, ?_, ?_⟩
  · rw [nbL, sh]
    rcases j with _ | j
    · rw [if_pos (by omega), RV_top, LL_top]
    · rw [if_neg (by omega)]
      exact ih i j hi (by omega) (by omega)
  · rw [nbD, sh]
    rcases j with _ | j
    · rcases i with _ | i
      · omega
      · rw [if_pos (by omega), RV_top, LL_top]
    · rw [if_neg (by omega)]
      rcases i with _ | i
      · rw [RV_left, LL_top]
        show (KP t (0 + (j + 1) - 1)).2 j = ⊤
        rcases j with _ | j
        · rfl
        · rw [show 0 + (j + 1 + 1) - 1 = j + 1 by omega]
          exact (KP_off h.fin j (j + 1) (by omega)).1
      · rw [show i + 1 + (j + 1) - 1 = (i + j) + 1 by omega]
        exact ih i j (by omega) (by omega) (by omega)
  · rw [nbU]
    rcases i with _ | i
    · rw [RV_left, LL_top]
      exact (KP_off h.fin _ _ (by omega)).1
    · rw [show i + 1 + j - 1 = i + j by omega]
      exact ih i j (by omega) hj (by omega)

/-- The first cell: no neighbour but the corner. -/
theorem RV_one (x : ℝ) (hx : d 0 0 = x) : RV d 1 1 = x := by
  have hm : mn (⊤ : EReal) 0 ⊤ = ((0 : ℝ) : EReal) := by
    unfold mn
    simp
  have H : Nbs (⊤ : EReal) 0 ⊤ := ⟨top_ne_bot, EReal.zero_ne_bot, top_ne_bot, 0, hm⟩
  rw [RV_cell, RV_top, RV_left, RV_zero, hx, rcell_eq H hm]
  have hz : zr 0 (⊤ : EReal) 0 ⊤ = 1 := by
    have e : wr 0 (0 : EReal) = 1 := wr_self 0
    rw [zr, e, wr, if_pos rfl]
    ring
  rw [hz, Real.log_one]
  congr 1
  ring

/-- The kernel's diagonals hold the reference's values, scaled. -/
theorem KP_eq (h : Dist t d) : ∀ n i j, i + j = n → i < 128 → j < 128 → (KP t (i + j)).1 j = LL * RV d (i + 1) (j + 1) := by
  intro n
  induction n using Nat.strong_induction_on with
  | _ n ih =>
    intro i j hn hi hj
    by_cases h0 : i + j = 0
    · obtain ⟨rfl, rfl⟩ : i = 0 ∧ j = 0 := by omega
      obtain ⟨x, hx⟩ := h.real 0 0 hi hj
      rw [RV_one x hx, ← hx, mul_comm, ← h.scaled 0 0 hi hj]
      rfl
    · obtain ⟨e1, e2, e3⟩ := nbs_of h i j hi hj (by omega) (fun i' j' a b c => ih (i' + j') (by omega) i' j' rfl a b)
      obtain ⟨x, hx⟩ := h.real i j hi hj
      obtain ⟨k, hk⟩ : ∃ k, i + j = k + 1 := ⟨i + j - 1, by omega⟩
      have e : (KP t (i + j)).1 j = cell (t (i + j) j) (nbL t (i + j) j) (nbD t (i + j) j) (nbU t (i + j) j) := by
        rw [hk]
        rfl
      rw [e, e1, e2, e3, h.scaled i j hi hj, hx, cell_eq (h.nbs i j hi hj), RV_cell, hx]

/-- The kernel's weights are the reference's. -/
theorem nb_eq (h : Dist t d) (i j : ℕ) (hi : i < 128) (hj : j < 128) (h0 : 0 < i + j) :
    nbL t (i + j) j = LL * RV d (i + 1) j ∧ nbD t (i + j) j = LL * RV d i j ∧ nbU t (i + j) j = LL * RV d i (j + 1) :=
  nbs_of h i j hi hj h0 fun i' j' a b _ => KP_eq h _ i' j' rfl a b

/-- One weight of the kernel's is the reference's. -/
theorem qw_eq (h : Dist t d) (x : ℕ → ℕ → EReal) (y : ℕ → ℕ → EReal) (i j : ℕ) (hi : i < 128) (hj : j < 128) (h0 : 0 < i + j)
    (hx : x (i + j) j = LL * y (i + 1) (j + 1)) (hy : y (i + 1) (j + 1) ≠ ⊥) : qw t x (i + j) j = RQ d y (i + 1) (j + 1) := by
  obtain ⟨e1, e2, e3⟩ := nb_eq h i j hi hj h0
  rw [qw, if_pos ⟨by omega, by omega⟩, RQ, if_pos ⟨⟨by omega, by omega⟩, by omega, by omega⟩, e1, e2, e3, hx]
  exact weight_eq (h.nbs i j hi hj) _ hy

/-- The left weights agree. -/
theorem qA_eq (h : Dist t d) (i j : ℕ) (hi : i < 128) (hj : j < 128) (h0 : 0 < i + j) : qA t (i + j) j = RQ d (rL d) (i + 1) (j + 1) :=
  qw_eq h _ (rL d) i j hi hj h0 (nb_eq h i j hi hj h0).1 (h.nbs i j hi hj).hl
/-- The diagonal weights agree. -/
theorem qB_eq (h : Dist t d) (i j : ℕ) (hi : i < 128) (hj : j < 128) (h0 : 0 < i + j) : qB t (i + j) j = RQ d (rD d) (i + 1) (j + 1) :=
  qw_eq h _ (rD d) i j hi hj h0 (nb_eq h i j hi hj h0).2.1 (h.nbs i j hi hj).hd
/-- The upper weights agree. -/
theorem qC_eq (h : Dist t d) (i j : ℕ) (hi : i < 128) (hj : j < 128) (h0 : 0 < i + j) : qC t (i + j) j = RQ d (rU d) (i + 1) (j + 1) :=
  qw_eq h _ (rU d) i j hi hj h0 (nb_eq h i j hi hj h0).2.2 (h.nbs i j hi hj).hu

/-! ## The backward recursion -/

/-- The kernel's gradient diagonals, counted from the last one, hold the reference's gradients. -/
theorem EB_eq (h : Dist t d) : ∀ n p q, p + q = n → p < 128 → q < 128 →
    (EB (qA t) (qB t) (qC t) n).1 (127 - q) = RE (RS (RQ d (rL d))) (RS (RQ d (rD d))) (RS (RQ d (rU d))) (p + 1) (q + 1) := by
  intro n
  induction n using Nat.strong_induction_on with
  | _ n ih =>
    intro p q hn hp hq
    have off : ∀ (y : ℕ → ℕ → EReal) (r s : ℕ), ¬ (r = 129 ∧ s = 129) → (128 < r ∨ 128 < s) → RS (RQ d y) r s = 0 := by
      intro y r s h1 h2
      rw [RS, if_neg h1, RQ, if_neg (by omega)]
    have on : ∀ (y : ℕ → ℕ → EReal) (r s : ℕ), r ≤ 128 → RS (RQ d y) r s = RQ d y r s := by
      intro y r s h1
      rw [RS, if_neg (by omega)]
    have e00 : RE (RS (RQ d (rL d))) (RS (RQ d (rD d))) (RS (RQ d (rU d))) 0 0 = 1 := by rw [RE]
    have e0 : ∀ s, RE (RS (RQ d (rL d))) (RS (RQ d (rD d))) (RS (RQ d (rU d))) 0 (s + 1) = 0 := fun s => by rw [RE]
    have e1 : ∀ r, RE (RS (RQ d (rL d))) (RS (RQ d (rD d))) (RS (RQ d (rU d))) (r + 1) 0 = 0 := fun r => by rw [RE]
    rw [RE]
    rcases n with _ | s
    · obtain ⟨rfl, rfl⟩ : p = 0 ∧ q = 0 := by omega
      have eB : RS (RQ d (rD d)) 129 129 = 1 := if_pos ⟨rfl, rfl⟩
      rw [e1 0, e0 0, e00, mul_zero, mul_zero, zero_add, add_zero, show 129 - 0 = 129 from rfl, eB, mul_one]
      show (if 127 - 0 = 127 then (1 : EReal) else 0) = 1
      exact if_pos rfl
    · show sl 1 (qA t (254 - s)) (127 - q) * sl 1 (EB (qA t) (qB t) (qC t) s).1 (127 - q) + sl 1 (qB t (255 - s)) (127 - q) * sl 1 (EB (qA t) (qB t) (qC t) s).2 (127 - q)
        + qC t (254 - s) (127 - q) * (EB (qA t) (qB t) (qC t) s).1 (127 - q) = _
      congr 1
      · congr 1
        · -- the left neighbour's term
          rcases q with _ | q
          · rw [e1, mul_zero, sl, if_neg (by omega), zero_mul]
          · rw [sl, if_pos (by omega), sl, if_pos (by omega), show 127 - (q + 1) + 1 = 127 - q by omega, ih s (by omega) p q (by omega) hp (by omega),
              on _ _ _ (by omega), show 254 - s = (127 - p) + (127 - q) by omega, qA_eq h (127 - p) (127 - q) (by omega) (by omega) (by omega),
              show 127 - p + 1 = 128 - p by omega, show 127 - q + 1 = 129 - (q + 1) by omega]
        · -- the diagonal neighbour's term
          rcases q with _ | q
          · rw [sl, if_neg (by omega), zero_mul]
            rcases p with _ | p
            · omega
            · rw [e1, mul_zero]
          · rcases p with _ | p
            · rw [e0, mul_zero, sl, if_pos (by omega), show 255 - s = 128 + (127 - (q + 1) + 1) by omega, qB, qw, if_neg (by omega), zero_mul]
            · rw [sl, if_pos (by omega), sl, if_pos (by omega), show 127 - (q + 1) + 1 = 127 - q by omega]
              obtain ⟨s', rfl⟩ : ∃ s', s = s' + 1 := ⟨s - 1, by omega⟩
              show _ * (EB (qA t) (qB t) (qC t) s').1 (127 - q) = _
              rw [ih s' (by omega) p q (by omega) (by omega) (by omega), on _ _ _ (by omega), show 255 - (s' + 1) = (127 - p) + (127 - q) by omega,
                qB_eq h (127 - p) (127 - q) (by omega) (by omega) (by omega), show 127 - p + 1 = 129 - (p + 1) by omega, show 127 - q + 1 = 129 - (q + 1) by omega]
      · -- the upper neighbour's term
        rcases p with _ | p
        · rw [e0, mul_zero, show 254 - s = 128 + (127 - q) by omega, qC, qw, if_neg (by omega), zero_mul]
        · rw [ih s (by omega) p q (by omega) (by omega) hq, on _ _ _ (by omega), show 254 - s = (127 - p) + (127 - q) by omega,
            qC_eq h (127 - p) (127 - q) (by omega) (by omega) (by omega), show 127 - p + 1 = 129 - (p + 1) by omega, show 127 - q + 1 = 128 - q by omega]

end Cert.SoftDtw
-- ==== Proof.RVStep.lean ====
/- One trip of each of the reference's counted loops, as a function of the buffers it reads. -/
module

public import proofs.«01_k».proof.Proof.RefRun
public import Idealize.ShloMosaic.Lib.DynamicIndex
public import Idealize.ShloMosaic.Lib.Pointwise

@[expose] public section

set_option maxRecDepth 16384
set_option maxHeartbeats 1000000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

/-- A scalar word, one value per batch, and an index of three words. -/
abbrev I0 : Type := IVec S_ 32
/-- One value per batch. -/
abbrev C1 : Type := FVec Ideal S8x1x1 .f32
/-- The array of values. -/
abbrev A129 : Type := FVec Ideal S8x129x129 .f32
/-- An array of weights or gradients. -/
abbrev A130 : Type := FVec Ideal S8x130x130 .f32
/-- An index of three words. -/
def at3 (a b c : I0) : Fin 3 → ℤ := fun k => ((![a, b, c] k) (Shape.Idx.first h_S_)).toInt

/-- The row and the column of a cell, from its number. -/
def rowOf (c : I0) : I0 := Host.divsi c (constantI S_ 32 128#32)
/-- The column of a cell. -/
def colOf (c : I0) : I0 := Host.remsi c (constantI S_ 32 128#32)
/-- The next word. -/
def nxt (c : I0) : I0 := addi c (constantI S_ 32 1#32)

/-- A neighbour's value, negated and divided by the smoothing parameter. -/
def negd (V : A129) (i j : I0) : C1 :=
  Host.divf (Host.negf (Host.dynamicSlice S8x1x1 V (at3 (constantI S_ 32 0#32) i j) sliceFits_S8x129x129_S8x1x1)) (broadcastInDim S8x1x1 ![] bcast_S_S8x1x1 (constant S_ .f32 0x3F800000#32))

/-- The largest of three, the weights and their sum. -/
def zmx (a b c : C1) : C1 := maximumf (maximumf a b) c
/-- The weight of the neighbour `x`. -/
def wgt (a b c x : C1) : C1 := Host.exp (subf x (zmx a b c))
/-- The sum of the three weights. -/
def zsm (a b c : C1) : C1 := addf (addf (wgt a b c a) (wgt a b c b)) (wgt a b c c)

/-- The three neighbours of the cell `c`: left, diagonal, up. -/
def lft (V : A129) (c : I0) : C1 := negd V (nxt (rowOf c)) (colOf c)
/-- The diagonal neighbour. -/
def dgn (V : A129) (c : I0) : C1 := negd V (rowOf c) (colOf c)
/-- The upper neighbour. -/
def upp (V : A129) (c : I0) : C1 := negd V (rowOf c) (nxt (colOf c))

/-- The values with the cell `c` filled in. -/
def newV (c : I0) (D : FVec Ideal S8x128x128 .f32) (V : A129) : A129 :=
  Host.dynamicUpdateSlice V (addf (Host.dynamicSlice S8x1x1 D (at3 (constantI S_ 32 0#32) (rowOf c) (colOf c)) sliceFits_S8x128x128_S8x1x1)
      (mulf (broadcastInDim S8x1x1 ![] bcast_S_S8x1x1 (constant S_ .f32 0xBF800000#32)) (addf (Host.log (zsm (lft V c) (dgn V c) (upp V c))) (zmx (lft V c) (dgn V c) (upp V c)))))
    (at3 (constantI S_ 32 0#32) (nxt (rowOf c)) (nxt (colOf c))) updateFits_S8x129x129_S8x1x1

/-- The weights of the cell `c`, stored over the array `Q`: left, diagonal, up. -/
def newQ (c : I0) (Q : A130) (V : A129) (x : C1) : A130 :=
  Host.dynamicUpdateSlice Q (Host.divf (wgt (lft V c) (dgn V c) (upp V c) x) (zsm (lft V c) (dgn V c) (upp V c)))
    (at3 (constantI S_ 32 0#32) (nxt (rowOf c)) (nxt (colOf c))) updateFits_S8x130x130_S8x1x1

/-- What one trip of the first loop leaves in the array of values. -/
theorem step_V (X : Valuation τ sig (Elt Ideal)) :
    after body0Ops X (Proc.devRef .tc main_v4_3) = newV (X (Proc.devRef .tc main_v4_2)) (X (Proc.devRef .tc main_v4_0)) (X (Proc.devRef .tc main_v4_3)) := by
  after_reads_simp [unaryIndexed_result_read, binaryIndexed_result_read, indexContents_cons, indexContents_empty]
  rfl

/-- What one trip of the first loop leaves in the left weights. -/
theorem step_A (X : Valuation τ sig (Elt Ideal)) :
    after body0Ops X (Proc.devRef .tc main_v4_4) = newQ (X (Proc.devRef .tc main_v4_2)) (X (Proc.devRef .tc main_v4_4)) (X (Proc.devRef .tc main_v4_3))
      (lft (X (Proc.devRef .tc main_v4_3)) (X (Proc.devRef .tc main_v4_2))) := by
  after_reads_simp [unaryIndexed_result_read, binaryIndexed_result_read, indexContents_cons, indexContents_empty]
  rfl

/-- What one trip of the first loop leaves in the diagonal weights. -/
theorem step_B (X : Valuation τ sig (Elt Ideal)) :
    after body0Ops X (Proc.devRef .tc main_v4_5) = newQ (X (Proc.devRef .tc main_v4_2)) (X (Proc.devRef .tc main_v4_5)) (X (Proc.devRef .tc main_v4_3))
      (dgn (X (Proc.devRef .tc main_v4_3)) (X (Proc.devRef .tc main_v4_2))) := by
  after_reads_simp [unaryIndexed_result_read, binaryIndexed_result_read, indexContents_cons, indexContents_empty]
  rfl

/-- What one trip of the first loop leaves in the up weights. -/
theorem step_C (X : Valuation τ sig (Elt Ideal)) :
    after body0Ops X (Proc.devRef .tc main_v4_6) = newQ (X (Proc.devRef .tc main_v4_2)) (X (Proc.devRef .tc main_v4_6)) (X (Proc.devRef .tc main_v4_3))
      (upp (X (Proc.devRef .tc main_v4_3)) (X (Proc.devRef .tc main_v4_2))) := by
  after_reads_simp [unaryIndexed_result_read, binaryIndexed_result_read, indexContents_cons, indexContents_empty]
  rfl

/-- The first loop counts its cells up by one. -/
theorem step_cell0 (X : Valuation τ sig (Elt Ideal)) :
    after body0Ops X (Proc.devRef .tc main_v4_2) = nxt (X (Proc.devRef .tc main_v4_2)) := by
  after_reads_simp
  rfl

/-- The second loop's row and column, counted from the far corner. -/
def back (r : I0) : I0 := subi (constantI S_ 32 128#32) r
/-- An entry of every batch of a square array. -/
def pick (A : A130) (i j : I0) : C1 := Host.dynamicSlice S8x1x1 A (at3 (constantI S_ 32 0#32) i j) sliceFits_S8x130x130_S8x1x1
/-- The gradients with the cell `c` (from the far corner) filled in. -/
def newE (c : I0) (A B C E : A130) : A130 :=
  Host.dynamicUpdateSlice E
    (addf (addf (mulf (pick A (back (rowOf c)) (nxt (back (colOf c)))) (pick E (back (rowOf c)) (nxt (back (colOf c)))))
        (mulf (pick B (nxt (back (rowOf c))) (nxt (back (colOf c)))) (pick E (nxt (back (rowOf c))) (nxt (back (colOf c))))))
      (mulf (pick C (nxt (back (rowOf c))) (back (colOf c))) (pick E (nxt (back (rowOf c))) (back (colOf c)))))
    (at3 (constantI S_ 32 0#32) (back (rowOf c)) (back (colOf c))) updateFits_S8x130x130_S8x1x1

/-- What one trip of the second loop leaves in the gradients. -/
theorem step_E (X : Valuation τ sig (Elt Ideal)) :
    after body1Ops X (Proc.devRef .tc main_v11_5) = newE (X (Proc.devRef .tc main_v11_4)) (X (Proc.devRef .tc main_v11_0)) (X (Proc.devRef .tc main_v11_1))
      (X (Proc.devRef .tc main_v11_2)) (X (Proc.devRef .tc main_v11_5)) := by
  after_reads_simp [unaryIndexed_result_read, binaryIndexed_result_read, indexContents_cons, indexContents_empty]
  rfl

/-- The second loop counts its cells up by one. -/
theorem step_cell1 (X : Valuation τ sig (Elt Ideal)) :
    after body1Ops X (Proc.devRef .tc main_v11_4) = nxt (X (Proc.devRef .tc main_v11_4)) := by
  after_reads_simp
  rfl

/-- The second loop writes none of the three weights. -/
theorem step_keep1 (X : Valuation τ sig (Elt Ideal)) :
    after body1Ops X (Proc.devRef .tc main_v11_0) = X (Proc.devRef .tc main_v11_0) ∧
    after body1Ops X (Proc.devRef .tc main_v11_1) = X (Proc.devRef .tc main_v11_1) ∧
    after body1Ops X (Proc.devRef .tc main_v11_2) = X (Proc.devRef .tc main_v11_2) := by
  refine ⟨?_, ?_, ?_⟩ <;> after_reads_simp

/-- The first loop does not write the distances. -/
theorem step_keep0 (X : Valuation τ sig (Elt Ideal)) :
    after body0Ops X (Proc.devRef .tc main_v4_0) = X (Proc.devRef .tc main_v4_0) := by
  after_reads_simp

/-- The corner of the values set to zero, the corner of a square array to one. -/
def seed0 : A129 :=
  Host.dynamicUpdateSlice (broadcastInDim S8x129x129 ![] bcast_S_S8x129x129 (constant S_ .f32 0x7F800000#32))
    (broadcastInDim S8x1x1 ![] bcast_S_S8x1x1 (constant S_ .f32 0x00000000#32))
    (at3 (constantI S_ 32 0#32) (constantI S_ 32 0#32) (constantI S_ 32 0#32)) updateFits_S8x129x129_S8x1x1
/-- The far corner of a square array set to one. -/
def seed1 (Q : A130) : A130 :=
  Host.dynamicUpdateSlice Q (broadcastInDim S8x1x1 ![] bcast_S_S8x1x1 (constant S_ .f32 0x3F800000#32))
    (at3 (constantI S_ 32 0#32) (constantI S_ 32 129#32) (constantI S_ 32 129#32)) updateFits_S8x130x130_S8x1x1
/-- The square array of zeros. -/
def zeros : A130 := broadcastInDim S8x130x130 ![] bcast_S_S8x130x130 (constant S_ .f32 0x00000000#32)

/-- What the first loop starts from. -/
theorem pre_reads (X : Valuation τ sig (Elt Ideal)) :
    after preOps X (Proc.devRef .tc main_v4_0) = X (Proc.devRef .tc main_arg0) ∧
    after preOps X (Proc.devRef .tc main_v4_2) = (constantI S_ 32 0#32 : I0) ∧
    after preOps X (Proc.devRef .tc main_v4_3) = seed0 ∧
    after preOps X (Proc.devRef .tc main_v4_4) = zeros ∧
    after preOps X (Proc.devRef .tc main_v4_5) = zeros ∧
    after preOps X (Proc.devRef .tc main_v4_6) = zeros := by
  refine ⟨?_, ?_, ?_, ?_, ?_, ?_⟩ <;>
    after_reads_simp [unaryIndexed_result_read, binaryIndexed_result_read, indexContents_cons, indexContents_empty] <;> rfl

/-- What the second loop starts from. -/
theorem mid_reads (X : Valuation τ sig (Elt Ideal)) :
    after midOps X (Proc.devRef .tc main_v11_0) = seed1 (X (Proc.devRef .tc main_v4_4)) ∧
    after midOps X (Proc.devRef .tc main_v11_1) = seed1 (X (Proc.devRef .tc main_v4_5)) ∧
    after midOps X (Proc.devRef .tc main_v11_2) = seed1 (X (Proc.devRef .tc main_v4_6)) ∧
    after midOps X (Proc.devRef .tc main_v11_4) = (constantI S_ 32 0#32 : I0) ∧
    after midOps X (Proc.devRef .tc main_v11_5) = seed1 zeros := by
  refine ⟨?_, ?_, ?_, ?_, ?_⟩ <;>
    after_reads_simp [unaryIndexed_result_read, binaryIndexed_result_read, indexContents_cons, indexContents_empty] <;> rfl

/-- The result, from the gradients. -/
def finish (E : A130) : FVec Ideal S128x128 .f32 :=
  Host.divf (Host.reduceAdd (extractStridedSlice S8x128x128 ![0, 1, 1] E slices_S8x130x130_S8x128x128_0_1_1) (constant S_ .f32 0x00000000#32) reducesTo_S8x128x128_S128x128_d0 h_S_)
    (broadcastInDim S128x128 ![] bcast_S_S128x128 (constant S_ .f32 0x41000000#32))

/-- What the operations after the loops leave in the result. -/
theorem post_reads (X : Valuation τ sig (Elt Ideal)) :
    after postOps X (Proc.devRef .tc main_v15) = finish (X (Proc.devRef .tc main_v11_5)) := by
  after_reads_simp
  rfl

end Cert.ReferenceIdeal.Hand
-- ==== Proof.RVIdx.lean ====
/- One trip of each of the reference's counted loops, entry by entry. -/
module

public import proofs.«01_k».proof.Proof.RVStep
public import proofs.«01_k».proof.Proof.RVModel
public import Idealize.ShloMosaic.Lib.Pipeline.Value
public import Idealize.ShloMosaic.Lib.Routing.Words

@[expose] public section

set_option maxRecDepth 16384
set_option maxHeartbeats 1000000

noncomputable section

namespace Cert.ReferenceIdeal.Hand

open Cert.ReferenceIdeal Cert.ReferenceIdeal.Gen Cert.SoftDtw
open Idealize.ShloMosaic Idealize.ShloMosaic.TcCoe Idealize.ShloMosaic.Tactic
open Idealize.ShloMosaic.StableHlo

/-- The word of a number. -/
def wd (n : ℕ) : I0 := constantI S_ 32 (BitVec.ofNat 32 n)

/-- The word after that of a number. -/
theorem nxt_wd (n : ℕ) : nxt (wd n) = wd (n + 1) := by
  funext i
  exact (BitVec.ofNat_add n 1).symm

/-- A cell's row. -/
theorem rowOf_wd (k : ℕ) (hk : k < 16384) : rowOf (wd k) = wd (k / 128) := by
  funext i
  exact Routing.divsi_word .host (by omega) (by decide) (by decide)

/-- A cell's column. -/
theorem colOf_wd (k : ℕ) (hk : k < 16384) : colOf (wd k) = wd (k % 128) := by
  funext i
  exact Routing.remsi_word .host (by omega) (by decide) (by decide)

/-- A number counted back from 128. -/
theorem back_wd (n : ℕ) (hn : n ≤ 128) : back (wd n) = wd (128 - n) := by
  funext i
  show BitVec.ofNat 32 128 - BitVec.ofNat 32 n = BitVec.ofNat 32 (128 - n)
  apply BitVec.eq_of_toNat_eq
  simp only [BitVec.toNat_sub, BitVec.toNat_ofNat]
  omega

/-- An index of three words, read as numbers. -/
theorem at3_wd (a b c : ℕ) (ha : a < 2 ^ 31) (hb : b < 2 ^ 31) (hc : c < 2 ^ 31) (k : Fin 3) : at3 (wd a) (wd b) (wd c) k = ((![a, b, c] k : ℕ) : ℤ) := by
  fin_cases k
  · exact toInt_ofNat_of_lt ha
  · exact toInt_ofNat_of_lt hb
  · exact toInt_ofNat_of_lt hc

/-- An entry of an array of square matrices, zero outside. -/
def g3 {n : ℕ} (V : (⟨3, ![8, n, n]⟩ : Shape).Idx → EReal) (b : Fin 8) (r s : ℕ) : EReal :=
  if h : r < n ∧ s < n then V (ix3 b ⟨r, h.1⟩ ⟨s, h.2⟩) else 0

/-- An entry inside the array. -/
theorem g3_at {n : ℕ} (V : (⟨3, ![8, n, n]⟩ : Shape).Idx → EReal) (b : Fin 8) (r s : Fin n) : g3 V b r.val s.val = V (ix3 b r s) := dif_pos ⟨r.isLt, s.isLt⟩

/-- One entry of every batch, read. -/
theorem slice_at {n : ℕ} (V : (⟨3, ![8, n, n]⟩ : Shape).Idx → EReal) (p q : ℕ) (hp : p < n) (hq : q < n) (hn : n < 1000)
    (h : (⟨3, ![8, n, n]⟩ : Shape).Slices (fun _ => 0) S8x1x1) (b : Fin 8) :
    Host.dynamicSlice S8x1x1 V (at3 (wd 0) (wd p) (wd q)) h (ix3 b 0 0) = g3 V b p q := by
  have hoff : (⟨3, ![8, n, n]⟩ : Shape).Slices ![0, p, q] S8x1x1 := ⟨rfl, by
    intro a
    fin_cases a
    · show 0 + 8 ≤ 8; omega
    · show p + 1 ≤ n; omega
    · show q + 1 ≤ n; omega⟩
  rw [Host.dynamicSlice_eq_extractStridedSlice S8x1x1 V _ ![0, p, q] h hoff (fun a => at3_wd 0 p q (by omega) (by omega) (by omega) a), g3, dif_pos ⟨hp, hq⟩]
  refine congrArg V ?_
  funext a
  fin_cases a
  · exact Fin.ext (by show 0 + b.val = b.val; omega)
  · exact Fin.ext (by show p + 0 = p; omega)
  · exact Fin.ext (by show q + 0 = q; omega)

/-- One entry of every batch, written. -/
theorem upd_at {n : ℕ} (V : (⟨3, ![8, n, n]⟩ : Shape).Idx → EReal) (u : S8x1x1.Idx → EReal) (p q : ℕ) (hp : p < n) (hq : q < n) (hn : n < 1000)
    (h : (⟨3, ![8, n, n]⟩ : Shape).Slices (fun _ => 0) S8x1x1) (b : Fin 8) (r s : ℕ) :
    g3 (Host.dynamicUpdateSlice V u (at3 (wd 0) (wd p) (wd q)) h) b r s = if r = p ∧ s = q then u (ix3 b 0 0) else g3 V b r s := by
  have hoff : (⟨3, ![8, n, n]⟩ : Shape).Slices ![0, p, q] S8x1x1 := ⟨rfl, by
    intro a
    fin_cases a
    · show 0 + 8 ≤ 8; omega
    · show p + 1 ≤ n; omega
    · show q + 1 ≤ n; omega⟩
  have e : Host.dynamicUpdateSlice V u (at3 (wd 0) (wd p) (wd q)) h = updateSlice V u ![0, p, q] hoff := by
    refine Host.dynamicUpdateSlice_eq_updateSlice V u _ h ![0, p, q] (fun a => ?_) hoff
    rw [at3_wd 0 p q (by omega) (by omega) (by omega) a]
    fin_cases a
    · rfl
    · show (min (max (p : ℤ) 0) ((n - 1 : ℕ) : ℤ)).toNat = p; omega
    · show (min (max (q : ℤ) 0) ((n - 1 : ℕ) : ℤ)).toNat = q; omega
  rw [e]
  by_cases hrs : r < n ∧ s < n
  · rw [g3, dif_pos hrs, g3, dif_pos hrs, updateSlice_apply]
    by_cases hc : r = p ∧ s = q
    · obtain ⟨rfl, rfl⟩ := hc
      rw [if_pos ⟨rfl, rfl⟩, dif_pos]
      · refine congrArg u ?_
        funext a
        fin_cases a
        · exact Fin.ext (by show b.val - 0 = b.val; omega)
        · exact Fin.ext (by show r - r = 0; omega)
        · exact Fin.ext (by show s - s = 0; omega)
      · intro a
        fin_cases a
        · exact ⟨Nat.zero_le _, by show b.val < 0 + 8; omega⟩
        · exact ⟨le_rfl, by show r < r + 1; omega⟩
        · exact ⟨le_rfl, by show s < s + 1; omega⟩
    · rw [if_neg hc, dif_neg]
      intro hall
      refine hc ⟨?_, ?_⟩
      · have h1 : p ≤ r ∧ r < p + 1 := hall 1
        omega
      · have h2 : q ≤ s ∧ s < q + 1 := hall 2
        omega
  · rw [if_neg (by rintro ⟨rfl, rfl⟩; exact hrs ⟨hp, hq⟩), g3, dif_neg hrs, g3, dif_neg hrs]

/-- A neighbour's negated value. -/
theorem negd_at (V : A129) (p q : ℕ) (hp : p < 129) (hq : q < 129) (b : Fin 8) : negd V (wd p) (wd q) (ix3 b 0 0) = ng (g3 V b p q) := by
  rw [← slice_at V p q hp hq (by omega) sliceFits_S8x129x129_S8x1x1 b]
  unfold negd ng
  pointwise
  rfl

/-- The neighbours of the cell `k`, negated. -/
theorem nbs_at (V : A129) (k : ℕ) (hk : k < 16384) (b : Fin 8) :
    lft V (wd k) (ix3 b 0 0) = ng (g3 V b (k / 128 + 1) (k % 128)) ∧ dgn V (wd k) (ix3 b 0 0) = ng (g3 V b (k / 128) (k % 128))
      ∧ upp V (wd k) (ix3 b 0 0) = ng (g3 V b (k / 128) (k % 128 + 1)) := by
  unfold lft dgn upp
  rw [rowOf_wd k hk, colOf_wd k hk, nxt_wd, nxt_wd]
  exact ⟨negd_at V _ _ (by omega) (by omega) b, negd_at V _ _ (by omega) (by omega) b, negd_at V _ _ (by omega) (by omega) b⟩

/-- A weight before the division. -/
theorem wgt_at (x y z w : C1) (l d u v : EReal) (b : Fin 8) (hx : x (ix3 b 0 0) = ng l) (hy : y (ix3 b 0 0) = ng d) (hz : z (ix3 b 0 0) = ng u) (hw : w (ix3 b 0 0) = ng v) :
    wgt x y z w (ix3 b 0 0) = rwt l d u v := by
  unfold wgt zmx rwt rm
  rw [← hx, ← hy, ← hz, ← hw]
  rfl

/-- The sum of the weights. -/
theorem zsm_at (x y z : C1) (l d u : EReal) (b : Fin 8) (hx : x (ix3 b 0 0) = ng l) (hy : y (ix3 b 0 0) = ng d) (hz : z (ix3 b 0 0) = ng u) :
    zsm x y z (ix3 b 0 0) = rz l d u := by
  unfold rz
  rw [← wgt_at x y z x l d u l b hx hy hz hx, ← wgt_at x y z y l d u d b hx hy hz hy, ← wgt_at x y z z l d u u b hx hy hz hz]
  rfl

/-- The minus one the reference multiplies by. -/
theorem minus_one : Ideal.ofBits .f32 0xBF800000#32 = (-1 : EReal) := by
  exact IdealRules.sign_bit.ideal_negOnePat .f32

/-- A trip of the first loop fills in the value of its cell. -/
theorem newV_at (k : ℕ) (hk : k < 16384) (D : FVec Ideal S8x128x128 .f32) (V : A129) (b : Fin 8) (r s : ℕ) :
    g3 (newV (wd k) D V) b r s = if r = k / 128 + 1 ∧ s = k % 128 + 1 then
      rcell (g3 D b (k / 128) (k % 128)) (g3 V b (k / 128 + 1) (k % 128)) (g3 V b (k / 128) (k % 128)) (g3 V b (k / 128) (k % 128 + 1)) else g3 V b r s := by
  obtain ⟨h1, h2, h3⟩ := nbs_at V k hk b
  unfold newV
  rw [rowOf_wd k hk, colOf_wd k hk, nxt_wd, nxt_wd]
  refine (upd_at V _ _ _ (by omega) (by omega) (by omega) updateFits_S8x129x129_S8x1x1 b r s).trans ?_
  refine if_congr Iff.rfl ?_ rfl
  rw [rcell, ← zsm_at _ _ _ _ _ _ b h1 h2 h3, rm, ← h1, ← h2, ← h3, ← slice_at D _ _ (by omega) (by omega) (by omega) sliceFits_S8x128x128_S8x1x1 b, ← minus_one]
  rfl

/-- A trip of the first loop fills in a weight of its cell. -/
theorem newQ_at (k : ℕ) (hk : k < 16384) (Q : A130) (V : A129) (x : C1) (v : EReal) (b : Fin 8) (hx : x (ix3 b 0 0) = ng v) (r s : ℕ) :
    g3 (newQ (wd k) Q V x) b r s = if r = k / 128 + 1 ∧ s = k % 128 + 1 then
      rq (g3 V b (k / 128 + 1) (k % 128)) (g3 V b (k / 128) (k % 128)) (g3 V b (k / 128) (k % 128 + 1)) v else g3 Q b r s := by
  obtain ⟨h1, h2, h3⟩ := nbs_at V k hk b
  unfold newQ
  rw [rowOf_wd k hk, colOf_wd k hk, nxt_wd, nxt_wd]
  refine (upd_at Q _ _ _ (by omega) (by omega) (by omega) updateFits_S8x130x130_S8x1x1 b r s).trans ?_
  refine if_congr Iff.rfl ?_ rfl
  rw [rq, ← zsm_at _ _ _ _ _ _ b h1 h2 h3, ← wgt_at _ _ _ _ _ _ _ _ b h1 h2 h3 hx]
  rfl

/-- An entry of every batch of a square array. -/
theorem pick_at (Q : A130) (p q : ℕ) (hp : p < 130) (hq : q < 130) (b : Fin 8) : pick Q (wd p) (wd q) (ix3 b 0 0) = g3 Q b p q :=
  slice_at Q p q hp hq (by omega) sliceFits_S8x130x130_S8x1x1 b

/-- A trip of the second loop fills in the gradient of its cell. -/
theorem newE_at (k : ℕ) (hk : k < 16384) (A B C E : A130) (b : Fin 8) (r s : ℕ) :
    g3 (newE (wd k) A B C E) b r s = if r = 128 - k / 128 ∧ s = 128 - k % 128 then
      g3 A b (128 - k / 128) (128 - k % 128 + 1) * g3 E b (128 - k / 128) (128 - k % 128 + 1)
        + g3 B b (128 - k / 128 + 1) (128 - k % 128 + 1) * g3 E b (128 - k / 128 + 1) (128 - k % 128 + 1)
        + g3 C b (128 - k / 128 + 1) (128 - k % 128) * g3 E b (128 - k / 128 + 1) (128 - k % 128) else g3 E b r s := by
  unfold newE
  rw [rowOf_wd k hk, colOf_wd k hk, back_wd _ (by omega), back_wd _ (by omega), nxt_wd, nxt_wd]
  refine (upd_at E _ _ _ (by omega) (by omega) (by omega) updateFits_S8x130x130_S8x1x1 b r s).trans ?_
  refine if_congr Iff.rfl ?_ rfl
  have P : ∀ (Q : A130) (p q : ℕ), p < 130 → q < 130 → g3 Q b p q = pick Q (wd p) (wd q) (ix3 b 0 0) := fun Q p q hp hq => (pick_at Q p q hp hq b).symm
  rw [P A _ _ (by omega) (by omega), P E (128 - k / 128) (128 - k % 128 + 1) (by omega) (by omega), P B _ _ (by omega) (by omega), P E (128 - k / 128 + 1) (128 - k % 128 + 1) (by omega) (by omega), P C _ _ (by omega) (by omega), P E (128 - k / 128 + 1) (128 - k % 128) (by omega) (by omega)]
  rfl

/-- What the loops start from, entry by entry. -/
theorem seed0_at (b : Fin 8) (r s : ℕ) (hr : r < 129) (hs : s < 129) : g3 seed0 b r s = if r = 0 ∧ s = 0 then 0 else ⊤ := by
  unfold seed0
  refine (upd_at _ _ 0 0 (by omega) (by omega) (by omega) updateFits_S8x129x129_S8x1x1 b r s).trans ?_
  refine if_congr Iff.rfl ?_ ?_
  · pointwise
  · rw [g3, dif_pos ⟨hr, hs⟩]
    pointwise
    simp [Ideal.ofBits, Ideal.ieee]

/-- The array of zeros. -/
theorem zeros_at (b : Fin 8) (r s : ℕ) : g3 zeros b r s = 0 := by
  unfold g3
  split
  · unfold zeros
    pointwise
  · rfl

/-- An array with its far corner set to one. -/
theorem seed1_at (Q : A130) (b : Fin 8) (r s : ℕ) : g3 (seed1 Q) b r s = if r = 129 ∧ s = 129 then 1 else g3 Q b r s := by
  unfold seed1
  refine (upd_at _ _ 129 129 (by omega) (by omega) (by omega) updateFits_S8x130x130_S8x1x1 b r s).trans ?_
  refine if_congr Iff.rfl ?_ rfl
  pointwise

/-- The result at an entry: the gradients' mean over the batches. -/
theorem finish_at (E : A130) (i j : Fin 128) : finish E (ix2 i j) = Ideal.div (0 + ∑ b : Fin 8, g3 E b (1 + i.val) (1 + j.val)) (Ideal.ofBits .f32 0x41000000#32) := by
  have e : ∀ b : Fin 8, g3 E b (1 + i.val) (1 + j.val) = E (ix3 b ⟨1 + i.val, by omega⟩ ⟨1 + j.val, by omega⟩) := fun b => dif_pos ⟨by omega, by omega⟩
  simp only [e]
  unfold finish
  pointwise

end Cert.ReferenceIdeal.Hand
-- ==== Proof.RVLoops.lean ====
/- What the reference's two counted loops leave, cell by cell, and its result. -/
module

public import proofs.«01_k».proof.Proof.RVIdx

@[expose] public section

set_option maxRecDepth 16384
set_option maxHeartbeats 1000000

noncomputable section

namespace Cert.ReferenceIdeal.Hand

open Cert.ReferenceIdeal Cert.ReferenceIdeal.Gen Cert.SoftDtw
open Idealize.ShloMosaic Idealize.ShloMosaic.TcCoe Idealize.ShloMosaic.Tactic
open Idealize.ShloMosaic.StableHlo
open Idealize.SL.Sem

/-- The distances, as an array. -/
abbrev A128 : Type := FVec Ideal S8x128x128 .f32

/-- The values once the first `k` cells are filled in. -/
def VAt (d : ℕ → ℕ → EReal) (k r s : ℕ) : EReal := if r = 0 ∨ s = 0 ∨ (r - 1) * 128 + (s - 1) < k then RV d r s else ⊤

/-- The weights once the first `k` cells are filled in. -/
def QAt (d x : ℕ → ℕ → EReal) (k r s : ℕ) : EReal := if ((1 ≤ r ∧ r ≤ 128) ∧ (1 ≤ s ∧ s ≤ 128)) ∧ (r - 1) * 128 + (s - 1) < k then RQ d x r s else 0

/-- The neighbours of the next cell are filled in or on the border. -/
theorem VAt_nbs (d : ℕ → ℕ → EReal) (k : ℕ) (hk : k < 16384) :
    VAt d k (k / 128 + 1) (k % 128) = RV d (k / 128 + 1) (k % 128) ∧ VAt d k (k / 128) (k % 128) = RV d (k / 128) (k % 128)
      ∧ VAt d k (k / 128) (k % 128 + 1) = RV d (k / 128) (k % 128 + 1) :=
  ⟨if_pos (by omega), if_pos (by omega), if_pos (by omega)⟩

/-- The values with one more cell filled in. -/
theorem VAt_succ (d : ℕ → ℕ → EReal) (k r s : ℕ) (hk : k < 16384) (hr : r < 129) (hs : s < 129) :
    VAt d (k + 1) r s = if r = k / 128 + 1 ∧ s = k % 128 + 1 then RV d (k / 128 + 1) (k % 128 + 1) else VAt d k r s := by
  by_cases h : r = k / 128 + 1 ∧ s = k % 128 + 1
  · rw [if_pos h, VAt, if_pos (by omega), h.1, h.2]
  · rw [if_neg h, VAt, VAt]
    exact if_congr (by omega) rfl rfl

/-- The weights with one more cell filled in. -/
theorem QAt_succ (d x : ℕ → ℕ → EReal) (k r s : ℕ) (hk : k < 16384) :
    QAt d x (k + 1) r s = if r = k / 128 + 1 ∧ s = k % 128 + 1 then
      rq (RV d (k / 128 + 1) (k % 128)) (RV d (k / 128) (k % 128)) (RV d (k / 128) (k % 128 + 1)) (x (k / 128 + 1) (k % 128 + 1)) else QAt d x k r s := by
  by_cases h : r = k / 128 + 1 ∧ s = k % 128 + 1
  · obtain ⟨rfl, rfl⟩ := h
    rw [if_pos ⟨rfl, rfl⟩, QAt, if_pos (by omega), RQ, if_pos (by omega)]
    rfl
  · rw [if_neg h, QAt, QAt]
    exact if_congr (by omega) rfl rfl

/-- The first loop's state after `k` trips. -/
structure Inv0 (D : A128) (X : Valuation τ sig (Elt Ideal)) (k : ℕ) : Prop where
  hD : X (Proc.devRef .tc main_v4_0) = D
  hc : X (Proc.devRef .tc main_v4_2) = wd k
  hV : ∀ b r s, r < 129 → s < 129 → g3 (n := 129) (X (Proc.devRef .tc main_v4_3)) b r s = VAt (g3 (n := 128) D b) k r s
  hA : ∀ b r s, g3 (n := 130) (X (Proc.devRef .tc main_v4_4)) b r s = QAt (g3 (n := 128) D b) (rL (g3 (n := 128) D b)) k r s
  hB : ∀ b r s, g3 (n := 130) (X (Proc.devRef .tc main_v4_5)) b r s = QAt (g3 (n := 128) D b) (rD (g3 (n := 128) D b)) k r s
  hC : ∀ b r s, g3 (n := 130) (X (Proc.devRef .tc main_v4_6)) b r s = QAt (g3 (n := 128) D b) (rU (g3 (n := 128) D b)) k r s

/-- The loop's test changes nothing the state speaks of. -/
theorem Inv0.cond {D : A128} {X : Valuation τ sig (Elt Ideal)} {k : ℕ} (h : Inv0 D X k) : Inv0 D (after cond0Ops X) k where
  hD := (keep_cond0 X _ (by decide)).trans h.hD
  hc := (keep_cond0 X _ (by decide)).trans h.hc
  hV := by rw [keep_cond0 X main_v4_3 (by decide)]; exact h.hV
  hA := by rw [keep_cond0 X main_v4_4 (by decide)]; exact h.hA
  hB := by rw [keep_cond0 X main_v4_5 (by decide)]; exact h.hB
  hC := by rw [keep_cond0 X main_v4_6 (by decide)]; exact h.hC

/-- One array of weights after a trip. -/
theorem newQ_inv (d x : ℕ → ℕ → EReal) (k : ℕ) (hk : k < 16384) (Q : A130) (V : A129) (y : C1) (b : Fin 8)
    (hV : ∀ r s, r < 129 → s < 129 → g3 V b r s = VAt d k r s) (hQ : ∀ r s, g3 Q b r s = QAt d x k r s)
    (hy : y (ix3 b 0 0) = ng (x (k / 128 + 1) (k % 128 + 1))) (r s : ℕ) : g3 (newQ (wd k) Q V y) b r s = QAt d x (k + 1) r s := by
  obtain ⟨n1, n2, n3⟩ := VAt_nbs d k hk
  rw [newQ_at k hk Q V y _ b hy, QAt_succ d x k r s hk, hQ, hV _ _ (by omega) (by omega), hV _ _ (by omega) (by omega), hV _ _ (by omega) (by omega), n1, n2, n3]

/-- One trip of the first loop's body. -/
theorem Inv0.step {D : A128} {X : Valuation τ sig (Elt Ideal)} {k : ℕ} (hk : k < 16384) (h : Inv0 D X k) : Inv0 D (after body0Ops X) (k + 1) := by
  have nb : ∀ b, lft (X (Proc.devRef .tc main_v4_3)) (wd k) (ix3 b 0 0) = ng (rL (g3 (n := 128) D b) (k / 128 + 1) (k % 128 + 1))
      ∧ dgn (X (Proc.devRef .tc main_v4_3)) (wd k) (ix3 b 0 0) = ng (rD (g3 (n := 128) D b) (k / 128 + 1) (k % 128 + 1))
      ∧ upp (X (Proc.devRef .tc main_v4_3)) (wd k) (ix3 b 0 0) = ng (rU (g3 (n := 128) D b) (k / 128 + 1) (k % 128 + 1)) := by
    intro b
    obtain ⟨n1, n2, n3⟩ := VAt_nbs (g3 (n := 128) D b) k hk
    obtain ⟨e1, e2, e3⟩ := nbs_at (X (Proc.devRef .tc main_v4_3)) k hk b
    rw [e1, e2, e3, h.hV _ _ _ (by omega) (by omega), h.hV _ _ _ (by omega) (by omega), h.hV _ _ _ (by omega) (by omega), n1, n2, n3]
    exact ⟨rfl, rfl, rfl⟩
  refine ⟨(step_keep0 X).trans h.hD, ?_, ?_, ?_, ?_, ?_⟩
  · rw [step_cell0, h.hc, nxt_wd]
  · intro b r s hr hs
    obtain ⟨n1, n2, n3⟩ := VAt_nbs (g3 (n := 128) D b) k hk
    rw [step_V, h.hc, h.hD]
    refine (newV_at k hk D (X (Proc.devRef .tc main_v4_3)) b r s).trans ?_
    rw [VAt_succ _ k r s hk hr hs, h.hV _ _ _ hr hs, h.hV _ _ _ (by omega) (by omega), h.hV _ _ _ (by omega) (by omega), h.hV _ _ _ (by omega) (by omega), n1, n2, n3]
    refine if_congr Iff.rfl ?_ rfl
    rw [RV]
  · intro b r s
    rw [step_A, h.hc]
    exact newQ_inv _ _ k hk _ _ _ b (h.hV b) (h.hA b) (nb b).1 r s
  · intro b r s
    rw [step_B, h.hc]
    exact newQ_inv _ _ k hk _ _ _ b (h.hV b) (h.hB b) (nb b).2.1 r s
  · intro b r s
    rw [step_C, h.hc]
    exact newQ_inv _ _ k hk _ _ _ b (h.hV b) (h.hC b) (nb b).2.2 r s

variable (m : (ℓ : Loc nD τ sig) → Buf (Elt Ideal) ℓ)

/-- The distances in memory. -/
def DD (c : Dev nD) : A128 := m ((c.tc : Thread nD τ).loc main_arg0)

/-- The first loop's state after every trip. -/
theorem inv0_all (c : Dev nD) : ∀ k, k ≤ 16384 → Inv0 (DD m c) (at0 m k c) k
  | 0, _ => by
    rw [at0_zero]
    obtain ⟨hD, hc, hV, hA, hB, hC⟩ := pre_reads (launchContents m c)
    have z : ∀ (x : Fin 8 → ℕ → ℕ → EReal) b r s, g3 zeros b r s = QAt (g3 (n := 128) (DD m c) b) (x b) 0 r s := by
      intro x b r s
      rw [zeros_at, QAt, if_neg (by omega)]
    refine ⟨hD, hc, ?_, ?_, ?_, ?_⟩
    · intro b r s hr hs
      rw [hV, seed0_at b r s hr hs, VAt]
      rcases r with _ | r <;> rcases s with _ | s
      · rw [if_pos ⟨rfl, rfl⟩, if_pos (Or.inl rfl), RV]
      · rw [if_neg (by omega), if_pos (Or.inl rfl), RV]
      · rw [if_neg (by omega), if_pos (Or.inr (Or.inl rfl)), RV]
      · rw [if_neg (by omega), if_neg (by omega)]
    · rw [hA]; exact z fun b => rL (g3 (n := 128) (DD m c) b)
    · rw [hB]; exact z fun b => rD (g3 (n := 128) (DD m c) b)
    · rw [hC]; exact z fun b => rU (g3 (n := 128) (DD m c) b)
  | k + 1, hk => by
    rw [at0_succ]
    exact ((inv0_all c k (by omega)).cond).step (by omega)

/-- The gradients once the first `k` cells from the far corner are filled in. -/
def EAt (A B C : ℕ → ℕ → EReal) (k r s : ℕ) : EReal :=
  if (1 ≤ r ∧ 1 ≤ s) ∧ (r = 129 ∨ s = 129 ∨ (128 - r) * 128 + (128 - s) < k) then RE A B C (129 - r) (129 - s) else 0

/-- The gradients with one more cell filled in. -/
theorem EAt_succ (A B C : ℕ → ℕ → EReal) (k r s : ℕ) (hk : k < 16384) (hr : r < 130) (hs : s < 130) :
    EAt A B C (k + 1) r s = if r = 128 - k / 128 ∧ s = 128 - k % 128 then RE A B C (k / 128 + 1) (k % 128 + 1) else EAt A B C k r s := by
  by_cases h : r = 128 - k / 128 ∧ s = 128 - k % 128
  · rw [if_pos h, EAt, if_pos (by omega), show 129 - r = k / 128 + 1 by omega, show 129 - s = k % 128 + 1 by omega]
  · rw [if_neg h, EAt, EAt]
    exact if_congr (by omega) rfl rfl

/-- The second loop's state after `k` trips. -/
structure Inv1 (A B C : Fin 8 → ℕ → ℕ → EReal) (X : Valuation τ sig (Elt Ideal)) (k : ℕ) : Prop where
  hc : X (Proc.devRef .tc main_v11_4) = wd k
  hA : ∀ b r s, g3 (n := 130) (X (Proc.devRef .tc main_v11_0)) b r s = A b r s
  hB : ∀ b r s, g3 (n := 130) (X (Proc.devRef .tc main_v11_1)) b r s = B b r s
  hC : ∀ b r s, g3 (n := 130) (X (Proc.devRef .tc main_v11_2)) b r s = C b r s
  hE : ∀ b r s, r < 130 → s < 130 → g3 (n := 130) (X (Proc.devRef .tc main_v11_5)) b r s = EAt (A b) (B b) (C b) k r s

/-- The loop's test changes nothing the state speaks of. -/
theorem Inv1.cond {A B C : Fin 8 → ℕ → ℕ → EReal} {X : Valuation τ sig (Elt Ideal)} {k : ℕ} (h : Inv1 A B C X k) : Inv1 A B C (after cond1Ops X) k where
  hc := (keep_cond1 X _ (by decide)).trans h.hc
  hA := by rw [keep_cond1 X main_v11_0 (by decide)]; exact h.hA
  hB := by rw [keep_cond1 X main_v11_1 (by decide)]; exact h.hB
  hC := by rw [keep_cond1 X main_v11_2 (by decide)]; exact h.hC
  hE := by rw [keep_cond1 X main_v11_5 (by decide)]; exact h.hE

/-- One trip of the second loop's body. -/
theorem Inv1.step {A B C : Fin 8 → ℕ → ℕ → EReal} {X : Valuation τ sig (Elt Ideal)} {k : ℕ} (hk : k < 16384) (h : Inv1 A B C X k) : Inv1 A B C (after body1Ops X) (k + 1) := by
  obtain ⟨k1, k2, k3⟩ := step_keep1 X
  refine ⟨?_, ?_, ?_, ?_, ?_⟩
  · rw [step_cell1, h.hc, nxt_wd]
  · rw [k1]; exact h.hA
  · rw [k2]; exact h.hB
  · rw [k3]; exact h.hC
  · intro b r s hr hs
    rw [step_E, h.hc]
    refine (newE_at k hk (X (Proc.devRef .tc main_v11_0)) (X (Proc.devRef .tc main_v11_1)) (X (Proc.devRef .tc main_v11_2)) (X (Proc.devRef .tc main_v11_5)) b r s).trans ?_
    rw [EAt_succ _ _ _ k r s hk hr hs, h.hE b r s hr hs, h.hE b (128 - k / 128) (128 - k % 128 + 1) (by omega) (by omega), h.hE b (128 - k / 128 + 1) (128 - k % 128 + 1) (by omega) (by omega),
      h.hE b (128 - k / 128 + 1) (128 - k % 128) (by omega) (by omega), h.hA, h.hB, h.hC]
    refine if_congr Iff.rfl ?_ rfl
    rw [RE, EAt, EAt, EAt, if_pos (by omega), if_pos (by omega), if_pos (by omega), show 129 - (128 - k / 128) = k / 128 + 1 by omega, show 129 - (128 - k % 128 + 1) = k % 128 by omega,
      show 129 - (128 - k / 128 + 1) = k / 128 by omega, show 129 - (128 - k % 128) = k % 128 + 1 by omega, show 128 - k % 128 + 1 = 129 - k % 128 by omega,
      show 128 - k / 128 + 1 = 129 - k / 128 by omega]

/-- The three weights the second loop reads. -/
def WA (D : A128) (b : Fin 8) : ℕ → ℕ → EReal := RS (RQ (g3 (n := 128) D b) (rL (g3 (n := 128) D b)))
/-- The diagonal weights the second loop reads. -/
def WB (D : A128) (b : Fin 8) : ℕ → ℕ → EReal := RS (RQ (g3 (n := 128) D b) (rD (g3 (n := 128) D b)))
/-- The upper weights the second loop reads. -/
def WC (D : A128) (b : Fin 8) : ℕ → ℕ → EReal := RS (RQ (g3 (n := 128) D b) (rU (g3 (n := 128) D b)))

/-- Every cell filled in. -/
theorem QAt_all (d x : ℕ → ℕ → EReal) (r s : ℕ) : QAt d x 16384 r s = RQ d x r s := by
  unfold QAt
  by_cases h : (1 ≤ r ∧ r ≤ 128) ∧ (1 ≤ s ∧ s ≤ 128)
  · rw [if_pos (by omega)]
  · rw [if_neg (by tauto), RQ, if_neg h]

/-- The second loop's state after every trip. -/
theorem inv1_all (c : Dev nD) : ∀ k, k ≤ 16384 → Inv1 (WA (DD m c)) (WB (DD m c)) (WC (DD m c)) (at1 m k c) k
  | 0, _ => by
    rw [at1_zero]
    have h := (inv0_all m c 16384 le_rfl).cond
    rw [← W1_eq] at h
    obtain ⟨hA, hB, hC, hc, hE⟩ := mid_reads (W1 m c)
    refine ⟨hc, ?_, ?_, ?_, ?_⟩
    · intro b r s
      rw [hA]
      refine (seed1_at _ b r s).trans ?_
      rw [h.hA, QAt_all]
      rfl
    · intro b r s
      rw [hB]
      refine (seed1_at _ b r s).trans ?_
      rw [h.hB, QAt_all]
      rfl
    · intro b r s
      rw [hC]
      refine (seed1_at _ b r s).trans ?_
      rw [h.hC, QAt_all]
      rfl
    · intro b r s hr hs
      rw [hE]
      refine (seed1_at _ b r s).trans ?_
      rw [zeros_at, EAt]
      by_cases h1 : r = 129 <;> by_cases h2 : s = 129
      · subst h1 h2
        rw [if_pos ⟨rfl, rfl⟩, if_pos (by omega), show 129 - 129 = 0 from rfl, RE]
      · subst h1
        rw [if_neg (by omega)]
        split
        · obtain ⟨s', hs'⟩ : ∃ s', 129 - s = s' + 1 := ⟨128 - s, by omega⟩
          rw [hs', show 129 - 129 = 0 from rfl, RE]
        · rfl
      · subst h2
        rw [if_neg (by omega)]
        split
        · obtain ⟨r', hr'⟩ : ∃ r', 129 - r = r' + 1 := ⟨128 - r, by omega⟩
          rw [hr', show 129 - 129 = 0 from rfl, RE]
        · rfl
      · rw [if_neg (by omega), if_neg (by omega)]
  | k + 1, hk => by
    rw [at1_succ]
    exact ((inv1_all c k (by omega)).cond).step (by omega)

/-- The reference's result: at an entry, the mean over the batches of the gradients of its cell. -/
theorem result_at (c : Dev nD) (i j : Fin 128) : (W4 m c (Proc.devRef .tc main_v15) : FVec Ideal S128x128 .f32) (ix2 i j)
    = Ideal.div (∑ b : Fin 8, RE (WA (DD m c) b) (WB (DD m c) b) (WC (DD m c) b) (127 - i.val + 1) (127 - j.val + 1)) (Ideal.ofBits .f32 0x41000000#32) := by
  have h := (inv1_all m c 16384 le_rfl).cond
  rw [← W3_eq] at h
  have e : W4 m c (Proc.devRef .tc main_v15) = finish (W3 m c (Proc.devRef .tc main_v11_5)) := post_reads (W3 m c)
  rw [e]
  refine (finish_at (W3 m c (Proc.devRef .tc main_v11_5)) i j).trans ?_
  rw [zero_add]
  refine congrArg (fun x => Ideal.div x _) (Finset.sum_congr rfl fun b _ => ?_)
  rw [h.hE b _ _ (by omega) (by omega), EAt, if_pos (by omega), show 129 - (1 + i.val) = 127 - i.val + 1 by omega, show 129 - (1 + j.val) = 127 - j.val + 1 by omega]

end Cert.ReferenceIdeal.Hand
-- ==== Proof.RVFinal.lean ====
/- The kernel's result is the reference's, on finite distances. -/
module

public import proofs.«01_k».proof.Proof.KVRun
public import proofs.«01_k».proof.Proof.RVBridge
public import proofs.«01_k».proof.Proof.RVLoops
public import proofs.«01_k».proof.Pre_finite

@[expose] public section

set_option maxRecDepth 16384
set_option maxHeartbeats 1000000

noncomputable section

namespace Cert.SoftDtw

open Idealize.ShloMosaic Idealize.ShloMosaic.TcCoe Idealize.ShloMosaic.Tactic Idealize.SL.Sem
open Cert.ReferenceIdeal.Hand (g3 g3_at)
open Cert.KernelIdeal.Val (TT XX GG outBlk qA qB qC EB)
open Cert.KernelIdeal.Lane (LL)

/-- The facts the finiteness test is stated over. -/
theorem pre_facts : Cert.Pre_finite.Facts := ⟨by decide⟩

/-- Where the finiteness test holds, every distance is a real number. -/
theorem real_of_finite [Cert.Pre_finite.Facts] (x : FVec Ideal Cert.Pre_finite.S8x128x128 .f32) (h : Cert.Pre_finite.fn (F := Ideal) x = fun _ => 1#1)
    (i : Cert.Pre_finite.S8x128x128.Idx) : ∃ r : ℝ, (x i : EReal) = r := by
  have hi : Ideal.cmp .olt (max (x i : EReal) (-(x i : EReal))) (Ideal.ofBits .f32 0x7F800000#32) = 1#1 := congrFun h i
  have ht : Ideal.ofBits .f32 0x7F800000#32 = (⊤ : EReal) := by simp [Ideal.ofBits, Ideal.ieee]
  rw [ht] at hi
  have hlt : max (x i : EReal) (-(x i : EReal)) < ⊤ := by
    by_contra hc
    have e : Ideal.cmp .olt (max (x i : EReal) (-(x i : EReal))) ⊤ = BitVec.ofBool (decide (max (x i : EReal) (-(x i : EReal)) < ⊤)) := rfl
    rw [e, decide_eq_false hc] at hi
    exact absurd hi (by decide)
  obtain ⟨h1, h2⟩ := max_lt_iff.mp hlt
  have hb : (x i : EReal) ≠ ⊥ := by
    intro e
    rw [e] at h2
    exact absurd h2 (lt_irrefl _)
  exact ⟨_, (EReal.coe_toReal h1.ne hb).symm⟩

variable (m : (ℓ : Loc Cert.KernelIdeal.nD Cert.KernelIdeal.τ Cert.KernelIdeal.sig) → Buf (Elt Ideal) ℓ) (c : Dev Cert.KernelIdeal.nD)

/-- The kernel's argument. -/
def AA : FVec Ideal Cert.KernelIdeal.S8x128x128 .f32 := m ((c.tc : Thread Cert.KernelIdeal.nD Cert.KernelIdeal.τ).loc Cert.KernelIdeal.main_arg0)

/-- The block the kernel reads, from its argument. -/
theorem XX_at (i : Fin 128) (b : Fin 8) (j : Fin 128) : XX m c (ix3 i b j) = AA m c (ix3 b i j) := by
  unfold XX AA
  pointwise

/-- The skewed distances the kernel reads are the argument's, row and column for diagonal and lane. -/
theorem dist (hr : ∀ i, ∃ r : ℝ, (AA m c i : EReal) = r) (b : Fin 8) : Dist (TT (XX m c) b) (g3 (n := 128) (AA m c) b) where
  real i j hi hj := by
    obtain ⟨r, e⟩ := hr (ix3 b ⟨i, hi⟩ ⟨j, hj⟩)
    exact ⟨r, (g3_at (n := 128) (AA m c) b ⟨i, hi⟩ ⟨j, hj⟩).trans e⟩
  scaled i j hi hj := by
    have e1 : (⟨((i + j) % 128 + 128 - j % 128) % 128, Nat.mod_lt _ (by decide)⟩ : Fin 128) = ⟨i, hi⟩ := Fin.ext (by show ((i + j) % 128 + 128 - j % 128) % 128 = i; omega)
    have e2 : (⟨j % 128, Nat.mod_lt _ (by decide)⟩ : Fin 128) = ⟨j, hj⟩ := Fin.ext (Nat.mod_eq_of_lt hj)
    rw [TT, e1, e2, XX_at]
    exact congrArg (· * LL) (g3_at (n := 128) (AA m c) b ⟨i, hi⟩ ⟨j, hj⟩).symm
  fin k j := by
    rw [TT, XX_at]
    obtain ⟨r, e⟩ := hr (ix3 b ⟨(k % 128 + 128 - j % 128) % 128, Nat.mod_lt _ (by decide)⟩ ⟨j % 128, Nat.mod_lt _ (by decide)⟩)
    rw [e, LL, ← EReal.coe_mul]
    exact EReal.coe_ne_bot _

/-- The reference's result, from a memory that agrees on the argument, is the kernel's. -/
theorem result_eq (hr : ∀ i, ∃ r : ℝ, (AA m c i : EReal) = r)
    (m' : (ℓ : Loc Cert.ReferenceIdeal.nD Cert.ReferenceIdeal.τ Cert.ReferenceIdeal.sig) → Buf (Elt Ideal) ℓ) (c' : Dev Cert.ReferenceIdeal.nD)
    (ha : Cert.ReferenceIdeal.Hand.DD m' c' = AA m c) :
    (Cert.ReferenceIdeal.Hand.W4 m' c' (Proc.devRef .tc Cert.ReferenceIdeal.main_v15) : FVec Ideal Cert.ReferenceIdeal.S128x128 .f32) = outBlk (XX m c) := by
  funext p
  have hp : p = ix2 (p 0) (p 1) := (ix2_eta p).symm
  obtain ⟨i, j, rfl⟩ : ∃ i j : Fin 128, p = ix2 i j := ⟨p 0, p 1, hp⟩
  rw [Cert.ReferenceIdeal.Hand.result_at, ha]
  show _ = Ideal.div (∑ b : Fin 8, GG (XX m c) b (i.val + j.val) j.val) _
  refine congrArg (fun x => Ideal.div x _) (Finset.sum_congr rfl fun b _ => ?_)
  have h := EB_eq (dist m c hr b) _ (127 - i.val) (127 - j.val) rfl (by omega) (by omega)
  rw [GG, show 254 - (i.val + j.val) = 127 - i.val + (127 - j.val) by omega]
  rw [show 127 - (127 - j.val) = j.val by omega] at h
  exact h.symm

/-- The value claim: on finite distances both programs end with the mean of the gradients, their arguments unchanged. -/
theorem values (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hr : ∀ c i, ∃ r : ℝ, (AA m c i : EReal) = r)
    (ha : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) := by
  refine ⟨fun c => outBlk (XX m c), Cert.KernelIdeal.Val.run m g (fun c b => (dist m c (hr c) b).fin), ?_⟩
  refine (θ_run (Cert.ReferenceIdeal.defs (F := Ideal)) _ _).mono (fun r h c => ⟨?_, ?_⟩) (Cert.ReferenceIdeal.Hand.run_fold m' g')
  · exact (h.1 c Cert.ReferenceIdeal.main_v15 rfl).trans (result_eq m c (hr c) m' c (ha c))
  · exact (h.1 c Cert.ReferenceIdeal.main_arg0 rfl).trans (Cert.ReferenceIdeal.Hand.W4_arg m' c)

end Cert.SoftDtw
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KFrame
public import proofs.«01_k».proof.Proof.KIFrame
public import proofs.«01_k».proof.Proof.RefRun
public import proofs.«01_k».proof.Proof.RVFinal
public import Idealize.ShloMosaic.Adequacy
public import Idealize.ShloMosaic.Init

@[expose] public section

noncomputable section

namespace Cert.Proof

open Idealize.ShloMosaic Idealize.SL.Sem

/-- The two named constants: the table gives `"log2e"` the reciprocal of the natural logarithm of two and `"big"` the top. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "big" .f32 0x501502F9#32 ⊤ rfl⟩

/-- The kernel's result is the reference's wherever every distance is finite. -/
theorem algebraic : Cert.algebraic_KernelIdeal_ReferenceIdeal_pre_finite (hKernelIdeal := Cert.KernelIdeal.Gen.facts)
    (hReferenceIdeal := Cert.ReferenceIdeal.Gen.facts) (hPre_finite := Cert.SoftDtw.pre_facts) := fun m g m' g' hpre ha =>
  Cert.SoftDtw.values m g m' g' (fun c i => @Cert.SoftDtw.real_of_finite Cert.SoftDtw.pre_facts _ (hpre c) i) ha

/-- Everything stated: the frames, the constants and the value. -/
theorem claim : Cert.Claim :=
  ⟨Cert.Kernel.Gen.facts, Cert.KernelIdeal.Gen.facts, Cert.ReferenceIdeal.Gen.facts, Cert.SoftDtw.pre_facts,
    fun m g _ => Cert.Kernel.Hand.frame (F := Bits) m g, fun m g _ => Cert.KernelIdeal.Hand.frame (F := Ideal) m g,
    fun m g _ => Cert.KernelIdeal.Hand.frame (F := Ideal) m g, fun m g _ => Cert.ReferenceIdeal.Hand.frame (F := Ideal) m g,
    fun m g _ => Cert.ReferenceIdeal.Hand.frame (F := Ideal) m g, preserves, algebraic⟩

end Cert.Proof

end
